-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x768 : Shape := ⟨3, ![8, 2048, 768]⟩
abbrev S8x2048 : Shape := ⟨2, ![8, 2048]⟩
abbrev S768x2048 : Shape := ⟨2, ![768, 2048]⟩
abbrev S768 : Shape := ⟨1, ![768]⟩
abbrev S8 : Shape := ⟨1, ![8]⟩
abbrev S2048 : Shape := ⟨1, ![2048]⟩
abbrev S1x2048 : Shape := ⟨2, ![1, 2048]⟩
abbrev S8x1 : Shape := ⟨2, ![8, 1]⟩
abbrev S_ : Shape := ⟨0, ![]⟩
abbrev S8x2176 : Shape := ⟨2, ![8, 2176]⟩
abbrev S8x1x2048 : Shape := ⟨3, ![8, 1, 2048]⟩
abbrev S8x4x2048 : Shape := ⟨3, ![8, 4, 2048]⟩
abbrev S8x4x16x128 : Shape := ⟨4, ![8, 4, 16, 128]⟩
abbrev S16x8x4x128 : Shape := ⟨4, ![16, 8, 4, 128]⟩
abbrev S16x32x128 : Shape := ⟨3, ![16, 32, 128]⟩
abbrev S8x16x4x4x8 : Shape := ⟨5, ![8, 16, 4, 4, 8]⟩
abbrev S8x16x4x32 : Shape := ⟨4, ![8, 16, 4, 32]⟩
abbrev S32x16x8x4 : Shape := ⟨4, ![32, 16, 8, 4]⟩
abbrev S32x4x128 : Shape := ⟨3, ![32, 4, 128]⟩
abbrev S4x32x128 : Shape := ⟨3, ![4, 32, 128]⟩
abbrev S8x2304 : Shape := ⟨2, ![8, 2304]⟩
abbrev S8x2048x128 : Shape := ⟨3, ![8, 2048, 128]⟩
abbrev S128x2048 : Shape := ⟨2, ![128, 2048]⟩
abbrev S128x128 : Shape := ⟨2, ![128, 128]⟩
abbrev S16512x128 : Shape := ⟨2, ![16512, 128]⟩
abbrev S4104x128 : Shape := ⟨2, ![4104, 128]⟩
abbrev S4128x128 : Shape := ⟨2, ![4128, 128]⟩
abbrev S2176x128 : Shape := ⟨2, ![2176, 128]⟩
abbrev S2048x128 : Shape := ⟨2, ![2048, 128]⟩
abbrev S1x32x128 : Shape := ⟨3, ![1, 32, 128]⟩
abbrev S32x128 : Shape := ⟨2, ![32, 128]⟩
abbrev S8x128 : Shape := ⟨2, ![8, 128]⟩
abbrev S32x2048 : Shape := ⟨2, ![32, 2048]⟩
abbrev S1 : Shape := ⟨1, ![1]⟩
abbrev S1x128 : Shape := ⟨2, ![1, 128]⟩
abbrev S32x256 : Shape := ⟨2, ![32, 256]⟩
abbrev S256x256 : Shape := ⟨2, ![256, 256]⟩
abbrev S128x256 : Shape := ⟨2, ![128, 256]⟩
abbrev S128 : Shape := ⟨1, ![128]⟩
abbrev S16x128 : Shape := ⟨2, ![16, 128]⟩
abbrev S1x16x128 : Shape := ⟨3, ![1, 16, 128]⟩

abbrev nBuf : Space → Nat
  | .hbm => 52
  | .vmem => 21
  | .smem => 1
  | _ => 0

abbrev bufTy : (tb : Table) → Fin (tcTables nBuf tb) → BufTy
  | .hbm, ⟨0, _⟩ => ⟨S8x2048x768, .i8⟩
  | .hbm, ⟨1, _⟩ => ⟨S8x2048, .f32⟩
  | .hbm, ⟨2, _⟩ => ⟨S8x2048x768, .i8⟩
  | .hbm, ⟨3, _⟩ => ⟨S8x2048, .f32⟩
  | .hbm, ⟨4, _⟩ => ⟨S768x2048, .i8⟩
  | .hbm, ⟨5, _⟩ => ⟨S768, .f32⟩
  | .hbm, ⟨6, _⟩ => ⟨S8, .i32⟩
  | .hbm, ⟨7, _⟩ => ⟨S2048, .i32⟩
  | .hbm, ⟨8, _⟩ => ⟨S1x2048, .i32⟩
  | .hbm, ⟨9, _⟩ => ⟨S8x1, .i32⟩
  | .hbm, ⟨10, _⟩ => ⟨S8x2048, .i32⟩
  | .hbm, ⟨11, _⟩ => ⟨S8x2048, .i32⟩
  | .hbm, ⟨12, _⟩ => ⟨S8x2048, .i1⟩
  | .hbm, ⟨13, _⟩ => ⟨S_, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x2048, .bf16⟩
  | .hbm, ⟨18, _⟩ => ⟨S_, .i32⟩
  | .hbm, ⟨19, _⟩ => ⟨S_, .bf16⟩
  | .hbm, ⟨20, _⟩ => ⟨S8x2176, .bf16⟩
  | .hbm, ⟨21, _⟩ => ⟨S8x2048, .bf16⟩
  | .hbm, ⟨22, _⟩ => ⟨S8x2048, .bf16⟩
  | .hbm, ⟨23, _⟩ => ⟨S8x2048, .bf16⟩
  | .hbm, ⟨24, _⟩ => ⟨S8x2048, .bf16⟩
  | .hbm, ⟨25, _⟩ => ⟨S8x1x2048, .bf16⟩
  | .hbm, ⟨26, _⟩ => ⟨S8x1x2048, .bf16⟩
  | .hbm, ⟨27, _⟩ => ⟨S8x1x2048, .bf16⟩
  | .hbm, ⟨28, _⟩ => ⟨S8x1x2048, .bf16⟩
  | .hbm, ⟨29, _⟩ => ⟨S8x4x2048, .bf16⟩
  | .hbm, ⟨30, _⟩ => ⟨S8x4x16x128, .bf16⟩
  | .hbm, ⟨31, _⟩ => ⟨S16x8x4x128, .bf16⟩
  | .hbm, ⟨32, _⟩ => ⟨S16x32x128, .bf16⟩
  | .hbm, ⟨33, _⟩ => ⟨S8x2048, .bf16⟩
  | .hbm, ⟨34, _⟩ => ⟨S8x16x4x4x8, .bf16⟩
  | .hbm, ⟨35, _⟩ => ⟨S8x16x4x4x8, .bf16⟩
  | .hbm, ⟨36, _⟩ => ⟨S8x16x4x32, .bf16⟩
  | .hbm, ⟨37, _⟩ => ⟨S32x16x8x4, .bf16⟩
  | .hbm, ⟨38, _⟩ => ⟨S32x4x128, .bf16⟩
  | .hbm, ⟨39, _⟩ => ⟨S4x32x128, .bf16⟩
  | .hbm, ⟨40, _⟩ => ⟨S_, .i32⟩
  | .hbm, ⟨41, _⟩ => ⟨S_, .bf16⟩
  | .hbm, ⟨42, _⟩ => ⟨S8x2304, .bf16⟩
  | .hbm, ⟨43, _⟩ => ⟨S8x2048, .bf16⟩
  | .hbm, ⟨44, _⟩ => ⟨S8x16x4x4x8, .bf16⟩
  | .hbm, ⟨45, _⟩ => ⟨S8x16x4x4x8, .bf16⟩
  | .hbm, ⟨46, _⟩ => ⟨S8x16x4x32, .bf16⟩
  | .hbm, ⟨47, _⟩ => ⟨S32x16x8x4, .bf16⟩
  | .hbm, ⟨48, _⟩ => ⟨S32x4x128, .bf16⟩
  | .hbm, ⟨49, _⟩ => ⟨S4x32x128, .bf16⟩
  | .hbm, ⟨50, _⟩ => ⟨S8x2048x768, .bf16⟩
  | .hbm, ⟨51, _⟩ => ⟨S768x2048, .f32⟩
  | .local _ .vmem, ⟨0, _⟩ => ⟨S8x2048x128, .i8⟩
  | .local _ .vmem, ⟨1, _⟩ => ⟨S8x2048x128, .i8⟩
  | .local _ .vmem, ⟨2, _⟩ => ⟨S8x2048x128, .i8⟩
  | .local _ .vmem, ⟨3, _⟩ => ⟨S8x2048x128, .i8⟩
  | .local _ .vmem, ⟨4, _⟩ => ⟨S128x2048, .i8⟩
  | .local _ .vmem, ⟨5, _⟩ => ⟨S128x2048, .i8⟩
  | .local _ .vmem, ⟨6, _⟩ => ⟨S16x32x128, .bf16⟩
  | .local _ .vmem, ⟨7, _⟩ => ⟨S4x32x128, .bf16⟩
  | .local _ .vmem, ⟨8, _⟩ => ⟨S4x32x128, .bf16⟩
  | .local _ .vmem, ⟨9, _⟩ => ⟨S8x2048x128, .bf16⟩
  | .local _ .vmem, ⟨10, _⟩ => ⟨S8x2048x128, .bf16⟩
  | .local _ .vmem, ⟨11, _⟩ => ⟨S128x2048, .f32⟩
  | .local _ .vmem, ⟨12, _⟩ => ⟨S128x2048, .f32⟩
  | .local _ .vmem, ⟨13, _⟩ => ⟨S128x128, .i32⟩
  | .local _ .vmem, ⟨14, _⟩ => ⟨S16512x128, .i32⟩
  | .local _ .vmem, ⟨15, _⟩ => ⟨S4104x128, .i32⟩
  | .local _ .vmem, ⟨16, _⟩ => ⟨S4128x128, .i32⟩
  | .local _ .vmem, ⟨17, _⟩ => ⟨S2176x128, .i32⟩
  | .local _ .vmem, ⟨18, _⟩ => ⟨S16512x128, .f32⟩
  | .local _ .vmem, ⟨19, _⟩ => ⟨S2048x128, .f32⟩
  | .local _ .vmem, ⟨20, _⟩ => ⟨S2176x128, .f32⟩
  | .local _ .smem, ⟨0, _⟩ => ⟨S768, .f32⟩
  | _, _ => ⟨S8x2048x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_0 : Ref sig .tc := ⟨.hbm, 40, rfl⟩
abbrev main_call2_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36_0 : Ref sig .tc := ⟨.hbm, 50, rfl⟩
abbrev main_v36_1 : Ref sig .tc := ⟨.hbm, 51, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k0_mult1 (k0_t1 : Fin k0_t1_loop.trips) : BitVec 32 :=
  let c128_i32_464 : BitVec 32 := 128#32
  let c0_i32 : BitVec 32 := 0#32
  let c1_i32 : BitVec 32 := 1#32
  let arg18 : BitVec 32 := Scf.iv c0_i32 c1_i32 k0_t1
  let c16_i32_458 : BitVec 32 := 16#32
  let c0_i32_459 : BitVec 32 := 0#32
  let v1343 : BitVec 1 := Scalar.cmpi .eq c16_i32_458 c0_i32_459
  let c1_i32_460 : BitVec 32 := 1#32
  let v1344 : BitVec 32 := Scalar.select v1343 c1_i32_460 c16_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v1353 : BitVec 32 := Scalar.muli c128_i32_464 v1352
  let c0_i32_465 : BitVec 32 := 0#32
  let v1354 : BitVec 32 := Scalar.addi v1353 c0_i32_465
  v1354
def k0_off1 (k0_t1 : Fin k0_t1_loop.trips) (c0_i32_465 : BitVec 32) : Fin 3 → Nat :=
  let c0_i32 : BitVec 32 := 0#32
  let c1_i32 : BitVec 32 := 1#32
  let arg18 : BitVec 32 := Scf.iv c0_i32 c1_i32 k0_t1
  let c0_i32_452 : BitVec 32 := 0#32
  let v1327 : BitVec 1 := Scalar.cmpi .sgt arg18 c0_i32_452
  let v1328 : BitVec 32 := Scalar.extui v1327
  let c0_i32_453 : BitVec 32 := 0#32
  let v1329 : BitVec 1 := Scalar.cmpi .slt arg18 c0_i32_453
  let v1330 : BitVec 32 := Scalar.extui v1329
  let v1331 : BitVec 32 := Scalar.subi v1328 v1330
  let c16_i32_451 : BitVec 32 := 16#32
  let c0_i32_454 : BitVec 32 := 0#32
  let v1332 : BitVec 1 := Scalar.cmpi .sgt c16_i32_451 c0_i32_454
  let v1333 : BitVec 32 := Scalar.extui v1332
  let c0_i32_455 : BitVec 32 := 0#32
  let v1334 : BitVec 1 := Scalar.cmpi .slt c16_i32_451 c0_i32_455
  let v1335 : BitVec 32 := Scalar.extui v1334
  let v1336 : BitVec 32 := Scalar.subi v1333 v1335
  let v1337 : BitVec 1 := Scalar.cmpi .ne v1331 v1336
  let v1338 : BitVec 32 := Scalar.remsi arg18 c16_i32_451
  let c0_i32_456 : BitVec 32 := 0#32
  let v1339 : BitVec 1 := Scalar.cmpi .ne v1338 c0_i32_456
  let v1340 : BitVec 1 := Scalar.andi v1337 v1339
  let v1326 : BitVec 32 := Scalar.divsi arg18 c16_i32_451
  let c1_i32_457 : BitVec 32 := 1#32
  let v1341 : BitVec 32 := Scalar.subi v1326 c1_i32_457
  let v1342 : BitVec 32 := Scalar.select v1340 v1341 v1326
  let v1356 : Index := Scalar.indexCast v1342
  let c128_i32_464 : BitVec 32 := 128#32
  let c16_i32_458 : BitVec 32 := 16#32
  let c0_i32_459 : BitVec 32 := 0#32
  let v1343 : BitVec 1 := Scalar.cmpi .eq c16_i32_458 c0_i32_459
  let c1_i32_460 : BitVec 32 := 1#32
  let v1344 : BitVec 32 := Scalar.select v1343 c1_i32_460 c16_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v1353 : BitVec 32 := Scalar.muli c128_i32_464 v1352
  let v1354 : BitVec 32 := Scalar.addi v1353 c0_i32_465
  let v1355 : BitVec 32 := v1354
  let v1357 : Index := Scalar.indexCast v1355
  let c0_466 : Index := 0#32
  ![v1356.toNat, v1357.toNat, 0]
def k0_mult2 (k0_t1 : Fin k0_t1_loop.trips) : BitVec 32 :=
  let c128_i32_467 : BitVec 32 := 128#32
  let c0_i32 : BitVec 32 := 0#32
  let c1_i32 : BitVec 32 := 1#32
  let arg18 : BitVec 32 := Scf.iv c0_i32 c1_i32 k0_t1
  let c16_i32_458 : BitVec 32 := 16#32
  let c0_i32_459 : BitVec 32 := 0#32
  let v1343 : BitVec 1 := Scalar.cmpi .eq c16_i32_458 c0_i32_459
  let c1_i32_460 : BitVec 32 := 1#32
  let v1344 : BitVec 32 := Scalar.select v1343 c1_i32_460 c16_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v1361 : BitVec 32 := Scalar.muli c128_i32_467 v1352
  let c32_i32_468 : BitVec 32 := 32#32
  let v1362 : BitVec 32 := Scalar.addi v1361 c32_i32_468
  v1362
def k0_mult3 (k0_t1 : Fin k0_t1_loop.trips) : BitVec 32 :=
  let c128_i32_470 : BitVec 32 := 128#32
  let c0_i32 : BitVec 32 := 0#32
  let c1_i32 : BitVec 32 := 1#32
  let arg18 : BitVec 32 := Scf.iv c0_i32 c1_i32 k0_t1
  let c16_i32_458 : BitVec 32 := 16#32
  let c0_i32_459 : BitVec 32 := 0#32
  let v1343 : BitVec 1 := Scalar.cmpi .eq c16_i32_458 c0_i32_459
  let c1_i32_460 : BitVec 32 := 1#32
  let v1344 : BitVec 32 := Scalar.select v1343 c1_i32_460 c16_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v1369 : BitVec 32 := Scalar.muli c128_i32_470 v1352
  let c64_i32 : BitVec 32 := 64#32
  let v1370 : BitVec 32 := Scalar.addi v1369 c64_i32
  v1370
def k0_mult4 (k0_t1 : Fin k0_t1_loop.trips) : BitVec 32 :=
  let c128_i32_472 : BitVec 32 := 128#32
  let c0_i32 : BitVec 32 := 0#32
  let c1_i32 : BitVec 32 := 1#32
  let arg18 : BitVec 32 := Scf.iv c0_i32 c1_i32 k0_t1
  let c16_i32_458 : BitVec 32 := 16#32
  let c0_i32_459 : BitVec 32 := 0#32
  let v1343 : BitVec 1 := Scalar.cmpi .eq c16_i32_458 c0_i32_459
  let c1_i32_460 : BitVec 32 := 1#32
  let v1344 : BitVec 32 := Scalar.select v1343 c1_i32_460 c16_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v1377 : BitVec 32 := Scalar.muli c128_i32_472 v1352
  let c96_i32 : BitVec 32 := 96#32
  let v1378 : BitVec 32 := Scalar.addi v1377 c96_i32
  v1378
def k0_mult5 (k0_t1 : Fin k0_t1_loop.trips) : BitVec 32 :=
  let c128_i32_474 : BitVec 32 := 128#32
  let c0_i32 : BitVec 32 := 0#32
  let c1_i32 : BitVec 32 := 1#32
  let arg18 : BitVec 32 := Scf.iv c0_i32 c1_i32 k0_t1
  let c16_i32_458 : BitVec 32 := 16#32
  let c0_i32_459 : BitVec 32 := 0#32
  let v1343 : BitVec 1 := Scalar.cmpi .eq c16_i32_458 c0_i32_459
  let c1_i32_460 : BitVec 32 := 1#32
  let v1344 : BitVec 32 := Scalar.select v1343 c1_i32_460 c16_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v1385 : BitVec 32 := Scalar.muli c128_i32_474 v1352
  let c128_i32_475 : BitVec 32 := 128#32
  let v1386 : BitVec 32 := Scalar.addi v1385 c128_i32_475
  let c2016_i32 : BitVec 32 := 2016#32
  let v1387 : BitVec 32 := Scalar.minsi v1386 c2016_i32
  v1387
def k0_off2 (k0_t1 : Fin k0_t1_loop.trips) (c128_i32_475 : BitVec 32) : Fin 3 → Nat :=
  let c0_i32 : BitVec 32 := 0#32
  let c1_i32 : BitVec 32 := 1#32
  let arg18 : BitVec 32 := Scf.iv c0_i32 c1_i32 k0_t1
  let c0_i32_452 : BitVec 32 := 0#32
  let v1327 : BitVec 1 := Scalar.cmpi .sgt arg18 c0_i32_452
  let v1328 : BitVec 32 := Scalar.extui v1327
  let c0_i32_453 : BitVec 32 := 0#32
  let v1329 : BitVec 1 := Scalar.cmpi .slt arg18 c0_i32_453
  let v1330 : BitVec 32 := Scalar.extui v1329
  let v1331 : BitVec 32 := Scalar.subi v1328 v1330
  let c16_i32_451 : BitVec 32 := 16#32
  let c0_i32_454 : BitVec 32 := 0#32
  let v1332 : BitVec 1 := Scalar.cmpi .sgt c16_i32_451 c0_i32_454
  let v1333 : BitVec 32 := Scalar.extui v1332
  let c0_i32_455 : BitVec 32 := 0#32
  let v1334 : BitVec 1 := Scalar.cmpi .slt c16_i32_451 c0_i32_455
  let v1335 : BitVec 32 := Scalar.extui v1334
  let v1336 : BitVec 32 := Scalar.subi v1333 v1335
  let v1337 : BitVec 1 := Scalar.cmpi .ne v1331 v1336
  let v1338 : BitVec 32 := Scalar.remsi arg18 c16_i32_451
  let c0_i32_456 : BitVec 32 := 0#32
  let v1339 : BitVec 1 := Scalar.cmpi .ne v1338 c0_i32_456
  let v1340 : BitVec 1 := Scalar.andi v1337 v1339
  let v1326 : BitVec 32 := Scalar.divsi arg18 c16_i32_451
  let c1_i32_457 : BitVec 32 := 1#32
  let v1341 : BitVec 32 := Scalar.subi v1326 c1_i32_457
  let v1342 : BitVec 32 := Scalar.select v1340 v1341 v1326
  let v1389 : Index := Scalar.indexCast v1342
  let c128_i32_474 : BitVec 32 := 128#32
  let c16_i32_458 : BitVec 32 := 16#32
  let c0_i32_459 : BitVec 32 := 0#32
  let v1343 : BitVec 1 := Scalar.cmpi .eq c16_i32_458 c0_i32_459
  let c1_i32_460 : BitVec 32 := 1#32
  let v1344 : BitVec 32 := Scalar.select v1343 c1_i32_460 c16_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v1385 : BitVec 32 := Scalar.muli c128_i32_474 v1352
  let v1386 : BitVec 32 := Scalar.addi v1385 c128_i32_475
  let c2016_i32 : BitVec 32 := 2016#32
  let v1387 : BitVec 32 := Scalar.minsi v1386 c2016_i32
  let v1388 : BitVec 32 := v1387
  let v1390 : Index := Scalar.indexCast v1388
  let c0_476 : Index := 0#32
  ![v1389.toNat, v1390.toNat, 0]
def k0_mult6 (k0_t1 : Fin k0_t1_loop.trips) : BitVec 32 :=
  let c128_i32_478 : BitVec 32 := 128#32
  let c0_i32 : BitVec 32 := 0#32
  let c1_i32 : BitVec 32 := 1#32
  let arg18 : BitVec 32 := Scf.iv c0_i32 c1_i32 k0_t1
  let c16_i32_458 : BitVec 32 := 16#32
  let c0_i32_459 : BitVec 32 := 0#32
  let v1343 : BitVec 1 := Scalar.cmpi .eq c16_i32_458 c0_i32_459
  let c1_i32_460 : BitVec 32 := 1#32
  let v1344 : BitVec 32 := Scalar.select v1343 c1_i32_460 c16_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v1397 : BitVec 32 := Scalar.muli c128_i32_478 v1352
  let c160_i32 : BitVec 32 := 160#32
  let v1398 : BitVec 32 := Scalar.addi v1397 c160_i32
  let c2016_i32_479 : BitVec 32 := 2016#32
  let v1399 : BitVec 32 := Scalar.minsi v1398 c2016_i32_479
  v1399
def k0_mult7 (k0_t1 : Fin k0_t1_loop.trips) : BitVec 32 :=
  let c128_i32_483 : BitVec 32 := 128#32
  let c0_i32 : BitVec 32 := 0#32
  let c1_i32 : BitVec 32 := 1#32
  let arg18 : BitVec 32 := Scf.iv c0_i32 c1_i32 k0_t1
  let c16_i32_458 : BitVec 32 := 16#32
  let c0_i32_459 : BitVec 32 := 0#32
  let v1343 : BitVec 1 := Scalar.cmpi .eq c16_i32_458 c0_i32_459
  let c1_i32_460 : BitVec 32 := 1#32
  let v1344 : BitVec 32 := Scalar.select v1343 c1_i32_460 c16_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v1409 : BitVec 32 := Scalar.muli c128_i32_483 v1352
  let c192_i32 : BitVec 32 := 192#32
  let v1410 : BitVec 32 := Scalar.addi v1409 c192_i32
  let c2016_i32_484 : BitVec 32 := 2016#32
  let v1411 : BitVec 32 := Scalar.minsi v1410 c2016_i32_484
  v1411
def k0_off3 (k0_t1 : Fin k0_t1_loop.trips) : Fin 2 → Nat :=
  let c0_i32 : BitVec 32 := 0#32
  let c1_i32 : BitVec 32 := 1#32
  let arg18 : BitVec 32 := Scf.iv c0_i32 c1_i32 k0_t1
  let c16_i32_458 : BitVec 32 := 16#32
  let c0_i32_459 : BitVec 32 := 0#32
  let v1343 : BitVec 1 := Scalar.cmpi .eq c16_i32_458 c0_i32_459
  let c1_i32_460 : BitVec 32 := 1#32
  let v1344 : BitVec 32 := Scalar.select v1343 c1_i32_460 c16_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let c8_i32_590 : BitVec 32 := 8#32
  let v1663 : BitVec 32 := Scalar.muli v1352 c8_i32_590
  let c0_i32_452 : BitVec 32 := 0#32
  let v1327 : BitVec 1 := Scalar.cmpi .sgt arg18 c0_i32_452
  let v1328 : BitVec 32 := Scalar.extui v1327
  let c0_i32_453 : BitVec 32 := 0#32
  let v1329 : BitVec 1 := Scalar.cmpi .slt arg18 c0_i32_453
  let v1330 : BitVec 32 := Scalar.extui v1329
  let v1331 : BitVec 32 := Scalar.subi v1328 v1330
  let c16_i32_451 : BitVec 32 := 16#32
  let c0_i32_454 : BitVec 32 := 0#32
  let v1332 : BitVec 1 := Scalar.cmpi .sgt c16_i32_451 c0_i32_454
  let v1333 : BitVec 32 := Scalar.extui v1332
  let c0_i32_455 : BitVec 32 := 0#32
  let v1334 : BitVec 1 := Scalar.cmpi .slt c16_i32_451 c0_i32_455
  let v1335 : BitVec 32 := Scalar.extui v1334
  let v1336 : BitVec 32 := Scalar.subi v1333 v1335
  let v1337 : BitVec 1 := Scalar.cmpi .ne v1331 v1336
  let v1338 : BitVec 32 := Scalar.remsi arg18 c16_i32_451
  let c0_i32_456 : BitVec 32 := 0#32
  let v1339 : BitVec 1 := Scalar.cmpi .ne v1338 c0_i32_456
  let v1340 : BitVec 1 := Scalar.andi v1337 v1339
  let v1326 : BitVec 32 := Scalar.divsi arg18 c16_i32_451
  let c1_i32_457 : BitVec 32 := 1#32
  let v1341 : BitVec 32 := Scalar.subi v1326 c1_i32_457
  let v1342 : BitVec 32 := Scalar.select v1340 v1341 v1326
  let v1664 : BitVec 32 := Scalar.addi v1663 v1342
  let c129_i32 : BitVec 32 := 129#32
  let v1665 : BitVec 32 := Scalar.muli v1664 c129_i32
  let v1666 : Index := Scalar.indexCast v1665
  let c0_591 : Index := 0#32
  ![v1666.toNat, 0]
@[reducible] def k0_t2_loop : Scf.Loop 32 :=
  let c0_i32_1 : BitVec 32 := 0#32
  let c128_i32_2 : BitVec 32 := 128#32
  let v1 : BitVec 32 := Scalar.addi c0_i32_1 c128_i32_2
  let c1_i32_3 : BitVec 32 := 1#32
  ⟨c0_i32_1, v1, c1_i32_3⟩
def k0_mult8 (k0_t2 : Fin k0_t2_loop.trips) : BitVec 32 :=
  let c128_i32_464 : BitVec 32 := 128#32
  let c0_i32_1 : BitVec 32 := 0#32
  let c1_i32_3 : BitVec 32 := 1#32
  let arg18 : BitVec 32 := Scf.iv c0_i32_1 c1_i32_3 k0_t2
  let c16_i32_458 : BitVec 32 := 16#32
  let c0_i32_459 : BitVec 32 := 0#32
  let v1343 : BitVec 1 := Scalar.cmpi .eq c16_i32_458 c0_i32_459
  let c1_i32_460 : BitVec 32 := 1#32
  let v1344 : BitVec 32 := Scalar.select v1343 c1_i32_460 c16_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v1353 : BitVec 32 := Scalar.muli c128_i32_464 v1352
  let c0_i32_465 : BitVec 32 := 0#32
  let v1354 : BitVec 32 := Scalar.addi v1353 c0_i32_465
  v1354
def k0_off4 (k0_t2 : Fin k0_t2_loop.trips) (c0_i32_465 : BitVec 32) : Fin 3 → Nat :=
  let c0_i32_1 : BitVec 32 := 0#32
  let c1_i32_3 : BitVec 32 := 1#32
  let arg18 : BitVec 32 := Scf.iv c0_i32_1 c1_i32_3 k0_t2
  let c0_i32_452 : BitVec 32 := 0#32
  let v1327 : BitVec 1 := Scalar.cmpi .sgt arg18 c0_i32_452
  let v1328 : BitVec 32 := Scalar.extui v1327
  let c0_i32_453 : BitVec 32 := 0#32
  let v1329 : BitVec 1 := Scalar.cmpi .slt arg18 c0_i32_453
  let v1330 : BitVec 32 := Scalar.extui v1329
  let v1331 : BitVec 32 := Scalar.subi v1328 v1330
  let c16_i32_451 : BitVec 32 := 16#32
  let c0_i32_454 : BitVec 32 := 0#32
  let v1332 : BitVec 1 := Scalar.cmpi .sgt c16_i32_451 c0_i32_454
  let v1333 : BitVec 32 := Scalar.extui v1332
  let c0_i32_455 : BitVec 32 := 0#32
  let v1334 : BitVec 1 := Scalar.cmpi .slt c16_i32_451 c0_i32_455
  let v1335 : BitVec 32 := Scalar.extui v1334
  let v1336 : BitVec 32 := Scalar.subi v1333 v1335
  let v1337 : BitVec 1 := Scalar.cmpi .ne v1331 v1336
  let v1338 : BitVec 32 := Scalar.remsi arg18 c16_i32_451
  let c0_i32_456 : BitVec 32 := 0#32
  let v1339 : BitVec 1 := Scalar.cmpi .ne v1338 c0_i32_456
  let v1340 : BitVec 1 := Scalar.andi v1337 v1339
  let v1326 : BitVec 32 := Scalar.divsi arg18 c16_i32_451
  let c1_i32_457 : BitVec 32 := 1#32
  let v1341 : BitVec 32 := Scalar.subi v1326 c1_i32_457
  let v1342 : BitVec 32 := Scalar.select v1340 v1341 v1326
  let v1356 : Index := Scalar.indexCast v1342
  let c128_i32_464 : BitVec 32 := 128#32
  let c16_i32_458 : BitVec 32 := 16#32
  let c0_i32_459 : BitVec 32 := 0#32
  let v1343 : BitVec 1 := Scalar.cmpi .eq c16_i32_458 c0_i32_459
  let c1_i32_460 : BitVec 32 := 1#32
  let v1344 : BitVec 32 := Scalar.select v1343 c1_i32_460 c16_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v1353 : BitVec 32 := Scalar.muli c128_i32_464 v1352
  let v1354 : BitVec 32 := Scalar.addi v1353 c0_i32_465
  let v1355 : BitVec 32 := v1354
  let v1357 : Index := Scalar.indexCast v1355
  let c0_466 : Index := 0#32
  ![v1356.toNat, v1357.toNat, 0]
def k0_off5 (k0_t2 : Fin k0_t2_loop.trips) (c0_i32_474 : BitVec 32) : Fin 2 → Nat :=
  let c32_i32_473 : BitVec 32 := 32#32
  let c0_i32_1 : BitVec 32 := 0#32
  let c1_i32_3 : BitVec 32 := 1#32
  let arg18 : BitVec 32 := Scf.iv c0_i32_1 c1_i32_3 k0_t2
  let c16_i32_458 : BitVec 32 := 16#32
  let c0_i32_459 : BitVec 32 := 0#32
  let v1343 : BitVec 1 := Scalar.cmpi .eq c16_i32_458 c0_i32_459
  let c1_i32_460 : BitVec 32 := 1#32
  let v1344 : BitVec 32 := Scalar.select v1343 c1_i32_460 c16_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v1375 : BitVec 32 := Scalar.muli c32_i32_473 v1352
  let c4_i32 : BitVec 32 := 4#32
  let c0_i32_452 : BitVec 32 := 0#32
  let v1327 : BitVec 1 := Scalar.cmpi .sgt arg18 c0_i32_452
  let v1328 : BitVec 32 := Scalar.extui v1327
  let c0_i32_453 : BitVec 32 := 0#32
  let v1329 : BitVec 1 := Scalar.cmpi .slt arg18 c0_i32_453
  let v1330 : BitVec 32 := Scalar.extui v1329
  let v1331 : BitVec 32 := Scalar.subi v1328 v1330
  let c16_i32_451 : BitVec 32 := 16#32
  let c0_i32_454 : BitVec 32 := 0#32
  let v1332 : BitVec 1 := Scalar.cmpi .sgt c16_i32_451 c0_i32_454
  let v1333 : BitVec 32 := Scalar.extui v1332
  let c0_i32_455 : BitVec 32 := 0#32
  let v1334 : BitVec 1 := Scalar.cmpi .slt c16_i32_451 c0_i32_455
  let v1335 : BitVec 32 := Scalar.extui v1334
  let v1336 : BitVec 32 := Scalar.subi v1333 v1335
  let v1337 : BitVec 1 := Scalar.cmpi .ne v1331 v1336
  let v1338 : BitVec 32 := Scalar.remsi arg18 c16_i32_451
  let c0_i32_456 : BitVec 32 := 0#32
  let v1339 : BitVec 1 := Scalar.cmpi .ne v1338 c0_i32_456
  let v1340 : BitVec 1 := Scalar.andi v1337 v1339
  let v1326 : BitVec 32 := Scalar.divsi arg18 c16_i32_451
  let c1_i32_457 : BitVec 32 := 1#32
  let v1341 : BitVec 32 := Scalar.subi v1326 c1_i32_457
  let v1342 : BitVec 32 := Scalar.select v1340 v1341 v1326
  let v1376 : BitVec 32 := Scalar.muli c4_i32 v1342
  let v1377 : BitVec 32 := Scalar.addi v1375 v1376
  let v1378 : BitVec 32 := Scalar.addi v1377 c0_i32_474
  let v1379 : Index := Scalar.indexCast v1378
  let c0_475 : Index := 0#32
  ![v1379.toNat, 0]
def k0_mult9 (k0_t2 : Fin k0_t2_loop.trips) : BitVec 32 :=
  let c128_i32_476 : BitVec 32 := 128#32
  let c0_i32_1 : BitVec 32 := 0#32
  let c1_i32_3 : BitVec 32 := 1#32
  let arg18 : BitVec 32 := Scf.iv c0_i32_1 c1_i32_3 k0_t2
  let c16_i32_458 : BitVec 32 := 16#32
  let c0_i32_459 : BitVec 32 := 0#32
  let v1343 : BitVec 1 := Scalar.cmpi .eq c16_i32_458 c0_i32_459
  let c1_i32_460 : BitVec 32 := 1#32
  let v1344 : BitVec 32 := Scalar.select v1343 c1_i32_460 c16_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v1383 : BitVec 32 := Scalar.muli c128_i32_476 v1352
  let c32_i32_477 : BitVec 32 := 32#32
  let v1384 : BitVec 32 := Scalar.addi v1383 c32_i32_477
  v1384
def k0_mult10 (k0_t2 : Fin k0_t2_loop.trips) : BitVec 32 :=
  let c128_i32_489 : BitVec 32 := 128#32
  let c0_i32_1 : BitVec 32 := 0#32
  let c1_i32_3 : BitVec 32 := 1#32
  let arg18 : BitVec 32 := Scf.iv c0_i32_1 c1_i32_3 k0_t2
  let c16_i32_458 : BitVec 32 := 16#32
  let c0_i32_459 : BitVec 32 := 0#32
  let v1343 : BitVec 1 := Scalar.cmpi .eq c16_i32_458 c0_i32_459
  let c1_i32_460 : BitVec 32 := 1#32
  let v1344 : BitVec 32 := Scalar.select v1343 c1_i32_460 c16_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v1413 : BitVec 32 := Scalar.muli c128_i32_489 v1352
  let c64_i32 : BitVec 32 := 64#32
  let v1414 : BitVec 32 := Scalar.addi v1413 c64_i32
  v1414
def k0_mult11 (k0_t2 : Fin k0_t2_loop.trips) : BitVec 32 :=
  let c128_i32_501 : BitVec 32 := 128#32
  let c0_i32_1 : BitVec 32 := 0#32
  let c1_i32_3 : BitVec 32 := 1#32
  let arg18 : BitVec 32 := Scf.iv c0_i32_1 c1_i32_3 k0_t2
  let c16_i32_458 : BitVec 32 := 16#32
  let c0_i32_459 : BitVec 32 := 0#32
  let v1343 : BitVec 1 := Scalar.cmpi .eq c16_i32_458 c0_i32_459
  let c1_i32_460 : BitVec 32 := 1#32
  let v1344 : BitVec 32 := Scalar.select v1343 c1_i32_460 c16_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v1443 : BitVec 32 := Scalar.muli c128_i32_501 v1352
  let c96_i32 : BitVec 32 := 96#32
  let v1444 : BitVec 32 := Scalar.addi v1443 c96_i32
  v1444
@[reducible] def k0_t3_loop : Scf.Loop 32 :=
  let c0_i32_5 : BitVec 32 := 0#32
  let c32_i32 : BitVec 32 := 32#32
  let v2 : BitVec 32 := Scalar.addi c0_i32_5 c32_i32
  let c1_i32_6 : BitVec 32 := 1#32
  ⟨c0_i32_5, v2, c1_i32_6⟩
def k0_off6 (k0_t3 : Fin k0_t3_loop.trips) : Fin 2 → Nat :=
  let c0_i32_5 : BitVec 32 := 0#32
  let c1_i32_6 : BitVec 32 := 1#32
  let arg18 : BitVec 32 := Scf.iv c0_i32_5 c1_i32_6 k0_t3
  let c8_i32_458 : BitVec 32 := 8#32
  let c0_i32_459 : BitVec 32 := 0#32
  let v1343 : BitVec 1 := Scalar.cmpi .eq c8_i32_458 c0_i32_459
  let c1_i32_460 : BitVec 32 := 1#32
  let v1344 : BitVec 32 := Scalar.select v1343 c1_i32_460 c8_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let c513_i32 : BitVec 32 := 513#32
  let v1353 : BitVec 32 := Scalar.muli v1352 c513_i32
  let c0_i32_452 : BitVec 32 := 0#32
  let v1327 : BitVec 1 := Scalar.cmpi .sgt arg18 c0_i32_452
  let v1328 : BitVec 32 := Scalar.extui v1327
  let c0_i32_453 : BitVec 32 := 0#32
  let v1329 : BitVec 1 := Scalar.cmpi .slt arg18 c0_i32_453
  let v1330 : BitVec 32 := Scalar.extui v1329
  let v1331 : BitVec 32 := Scalar.subi v1328 v1330
  let c8_i32_451 : BitVec 32 := 8#32
  let c0_i32_454 : BitVec 32 := 0#32
  let v1332 : BitVec 1 := Scalar.cmpi .sgt c8_i32_451 c0_i32_454
  let v1333 : BitVec 32 := Scalar.extui v1332
  let c0_i32_455 : BitVec 32 := 0#32
  let v1334 : BitVec 1 := Scalar.cmpi .slt c8_i32_451 c0_i32_455
  let v1335 : BitVec 32 := Scalar.extui v1334
  let v1336 : BitVec 32 := Scalar.subi v1333 v1335
  let v1337 : BitVec 1 := Scalar.cmpi .ne v1331 v1336
  let v1338 : BitVec 32 := Scalar.remsi arg18 c8_i32_451
  let c0_i32_456 : BitVec 32 := 0#32
  let v1339 : BitVec 1 := Scalar.cmpi .ne v1338 c0_i32_456
  let v1340 : BitVec 1 := Scalar.andi v1337 v1339
  let v1326 : BitVec 32 := Scalar.divsi arg18 c8_i32_451
  let c1_i32_457 : BitVec 32 := 1#32
  let v1341 : BitVec 32 := Scalar.subi v1326 c1_i32_457
  let v1342 : BitVec 32 := Scalar.select v1340 v1341 v1326
  let c128_i32_464 : BitVec 32 := 128#32
  let v1354 : BitVec 32 := Scalar.muli v1342 c128_i32_464
  let v1355 : BitVec 32 := Scalar.addi v1353 v1354
  let v1356 : Index := Scalar.indexCast v1355
  let c0_465 : Index := 0#32
  ![v1356.toNat, 0]
def k0_off7 (k0_t3 : Fin k0_t3_loop.trips) : Fin 2 → Nat :=
  let c0_i32_5 : BitVec 32 := 0#32
  let c1_i32_6 : BitVec 32 := 1#32
  let arg18 : BitVec 32 := Scf.iv c0_i32_5 c1_i32_6 k0_t3
  let c0_i32_452 : BitVec 32 := 0#32
  let v1327 : BitVec 1 := Scalar.cmpi .sgt arg18 c0_i32_452
  let v1328 : BitVec 32 := Scalar.extui v1327
  let c0_i32_453 : BitVec 32 := 0#32
  let v1329 : BitVec 1 := Scalar.cmpi .slt arg18 c0_i32_453
  let v1330 : BitVec 32 := Scalar.extui v1329
  let v1331 : BitVec 32 := Scalar.subi v1328 v1330
  let c8_i32_451 : BitVec 32 := 8#32
  let c0_i32_454 : BitVec 32 := 0#32
  let v1332 : BitVec 1 := Scalar.cmpi .sgt c8_i32_451 c0_i32_454
  let v1333 : BitVec 32 := Scalar.extui v1332
  let c0_i32_455 : BitVec 32 := 0#32
  let v1334 : BitVec 1 := Scalar.cmpi .slt c8_i32_451 c0_i32_455
  let v1335 : BitVec 32 := Scalar.extui v1334
  let v1336 : BitVec 32 := Scalar.subi v1333 v1335
  let v1337 : BitVec 1 := Scalar.cmpi .ne v1331 v1336
  let v1338 : BitVec 32 := Scalar.remsi arg18 c8_i32_451
  let c0_i32_456 : BitVec 32 := 0#32
  let v1339 : BitVec 1 := Scalar.cmpi .ne v1338 c0_i32_456
  let v1340 : BitVec 1 := Scalar.andi v1337 v1339
  let v1326 : BitVec 32 := Scalar.divsi arg18 c8_i32_451
  let c1_i32_457 : BitVec 32 := 1#32
  let v1341 : BitVec 32 := Scalar.subi v1326 c1_i32_457
  let v1342 : BitVec 32 := Scalar.select v1340 v1341 v1326
  let c8_i32_466 : BitVec 32 := 8#32
  let v1359 : BitVec 32 := Scalar.muli v1342 c8_i32_466
  let c8_i32_458 : BitVec 32 := 8#32
  let c0_i32_459 : BitVec 32 := 0#32
  let v1343 : BitVec 1 := Scalar.cmpi .eq c8_i32_458 c0_i32_459
  let c1_i32_460 : BitVec 32 := 1#32
  let v1344 : BitVec 32 := Scalar.select v1343 c1_i32_460 c8_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let c1_i32_467 : BitVec 32 := 1#32
  let v1360 : BitVec 32 := Scalar.xori v1352 c1_i32_467
  let v1361 : BitVec 32 := Scalar.addi v1359 v1360
  let c129_i32 : BitVec 32 := 129#32
  let v1362 : BitVec 32 := Scalar.muli v1361 c129_i32
  let v1363 : Index := Scalar.indexCast v1362
  let c0_468 : Index := 0#32
  ![v1363.toNat, 0]
@[reducible] def k0_t4_loop : Scf.Loop 32 :=
  let c0_i32_379 : BitVec 32 := 0#32
  let c128_i32_380 : BitVec 32 := 128#32
  let v1292 : BitVec 32 := Scalar.addi c0_i32_379 c128_i32_380
  let c1_i32_381 : BitVec 32 := 1#32
  ⟨c0_i32_379, v1292, c1_i32_381⟩
def k0_off8 (i : grid0.Coords) (k0_t4 : Fin k0_t4_loop.trips) : Fin 1 → Nat :=
  let arg0 : BitVec 32 := BitVec.ofNat 32 (i 0).val
  let c128_i32_451 : BitVec 32 := 128#32
  let v1326 : BitVec 32 := Scalar.muli arg0 c128_i32_451
  let c0_i32_379 : BitVec 32 := 0#32
  let c1_i32_381 : BitVec 32 := 1#32
  let arg18 : BitVec 32 := Scf.iv c0_i32_379 c1_i32_381 k0_t4
  let v1327 : BitVec 32 := Scalar.addi v1326 arg18
  let v1328 : Index := Scalar.indexCast v1327
  ![v1328.toNat]
def k0_off9 (k0_t4 : Fin k0_t4_loop.trips) (c0_i32_452 : BitVec 32) : Fin 2 → Nat :=
  let c0_i32_379 : BitVec 32 := 0#32
  let c1_i32_381 : BitVec 32 := 1#32
  let arg18 : BitVec 32 := Scf.iv c0_i32_379 c1_i32_381 k0_t4
  let v1335 : BitVec 32 := Scalar.addi c0_i32_452 arg18
  let v1336 : Index := Scalar.indexCast v1335
  let c0_453 : Index := 0#32
  ![v1336.toNat, 0]
def k0_off10 (k0_t4 : Fin k0_t4_loop.trips) (c0_i32_488 : BitVec 32) : Fin 2 → Nat :=
  let c0_i32_379 : BitVec 32 := 0#32
  let c1_i32_381 : BitVec 32 := 1#32
  let arg18 : BitVec 32 := Scf.iv c0_i32_379 c1_i32_381 k0_t4
  let v1493 : BitVec 32 := Scalar.addi c0_i32_488 arg18
  let v1494 : Index := Scalar.indexCast v1493
  let c0_489 : Index := 0#32
  ![v1494.toNat, 0]
def k0_off11 (k0_t4 : Fin k0_t4_loop.trips) (c0_i32_538 : BitVec 32) : Fin 2 → Nat :=
  let c0_i32_379 : BitVec 32 := 0#32
  let c1_i32_381 : BitVec 32 := 1#32
  let arg18 : BitVec 32 := Scf.iv c0_i32_379 c1_i32_381 k0_t4
  let v1640 : BitVec 32 := Scalar.addi c0_i32_538 arg18
  let v1641 : Index := Scalar.indexCast v1640
  let c0_539 : Index := 0#32
  ![v1641.toNat, 0]
def k0_off12 (k0_t4 : Fin k0_t4_loop.trips) (c0_i32_699 : BitVec 32) : Fin 2 → Nat :=
  let c0_i32_379 : BitVec 32 := 0#32
  let c1_i32_381 : BitVec 32 := 1#32
  let arg18 : BitVec 32 := Scf.iv c0_i32_379 c1_i32_381 k0_t4
  let v2124 : BitVec 32 := Scalar.addi c0_i32_699 arg18
  let v2125 : Index := Scalar.indexCast v2124
  let c0_700 : Index := 0#32
  ![v2125.toNat, 0]
def k0_off13 (k0_t4 : Fin k0_t4_loop.trips) (c0_i32_779 : BitVec 32) : Fin 2 → Nat :=
  let c0_i32_379 : BitVec 32 := 0#32
  let c1_i32_381 : BitVec 32 := 1#32
  let arg18 : BitVec 32 := Scf.iv c0_i32_379 c1_i32_381 k0_t4
  let v2419 : BitVec 32 := Scalar.addi c0_i32_779 arg18
  let v2420 : Index := Scalar.indexCast v2419
  let c0_780 : Index := 0#32
  ![v2420.toNat, 0]
@[reducible] def k0_t5_loop : Scf.Loop 32 :=
  let c0_i32_447 : BitVec 32 := 0#32
  let c8_i32_448 : BitVec 32 := 8#32
  let v1325 : BitVec 32 := Scalar.addi c0_i32_447 c8_i32_448
  let c1_i32_449 : BitVec 32 := 1#32
  ⟨c0_i32_447, v1325, c1_i32_449⟩
def k0_off14 (k0_t5 : Fin k0_t5_loop.trips) (c0_i32_465 : BitVec 32) : Fin 2 → Nat :=
  let c0_i32_447 : BitVec 32 := 0#32
  let c1_i32_449 : BitVec 32 := 1#32
  let arg18 : BitVec 32 := Scf.iv c0_i32_447 c1_i32_449 k0_t5
  let c16_i32_464 : BitVec 32 := 16#32
  let v1353 : BitVec 32 := Scalar.muli arg18 c16_i32_464
  let v1354 : BitVec 32 := Scalar.addi v1353 c0_i32_465
  let c129_i32 : BitVec 32 := 129#32
  let v1355 : BitVec 32 := Scalar.muli v1354 c129_i32
  let v1356 : Index := Scalar.indexCast v1355
  let c0_466 : Index := 0#32
  ![v1356.toNat, 0]
def k0_off15 (k0_t5 : Fin k0_t5_loop.trips) (c0_i32_803 : BitVec 32) (c0_i32_804 : BitVec 32) : Fin 3 → Nat :=
  let c0_806 : Index := 0#32
  let c512_i32 : BitVec 32 := 512#32
  let c0_i32_447 : BitVec 32 := 0#32
  let c1_i32_449 : BitVec 32 := 1#32
  let arg18 : BitVec 32 := Scf.iv c0_i32_447 c1_i32_449 k0_t5
  let c0_i32_452 : BitVec 32 := 0#32
  let v1327 : BitVec 1 := Scalar.cmpi .sgt arg18 c0_i32_452
  let v1328 : BitVec 32 := Scalar.extui v1327
  let c0_i32_453 : BitVec 32 := 0#32
  let v1329 : BitVec 1 := Scalar.cmpi .slt arg18 c0_i32_453
  let v1330 : BitVec 32 := Scalar.extui v1329
  let v1331 : BitVec 32 := Scalar.subi v1328 v1330
  let c2_i32_451 : BitVec 32 := 2#32
  let c0_i32_454 : BitVec 32 := 0#32
  let v1332 : BitVec 1 := Scalar.cmpi .sgt c2_i32_451 c0_i32_454
  let v1333 : BitVec 32 := Scalar.extui v1332
  let c0_i32_455 : BitVec 32 := 0#32
  let v1334 : BitVec 1 := Scalar.cmpi .slt c2_i32_451 c0_i32_455
  let v1335 : BitVec 32 := Scalar.extui v1334
  let v1336 : BitVec 32 := Scalar.subi v1333 v1335
  let v1337 : BitVec 1 := Scalar.cmpi .ne v1331 v1336
  let v1338 : BitVec 32 := Scalar.remsi arg18 c2_i32_451
  let c0_i32_456 : BitVec 32 := 0#32
  let v1339 : BitVec 1 := Scalar.cmpi .ne v1338 c0_i32_456
  let v1340 : BitVec 1 := Scalar.andi v1337 v1339
  let v1326 : BitVec 32 := Scalar.divsi arg18 c2_i32_451
  let c1_i32_457 : BitVec 32 := 1#32
  let v1341 : BitVec 32 := Scalar.subi v1326 c1_i32_457
  let v1342 : BitVec 32 := Scalar.select v1340 v1341 v1326
  let v2475 : BitVec 32 := Scalar.muli c512_i32 v1342
  let v2476 : BitVec 32 := Scalar.addi v2475 c0_i32_803
  let v2477 : BitVec 32 := Scalar.addi v2476 c0_i32_804
  let c16_i32_805 : BitVec 32 := 16#32
  let c2_i32_458 : BitVec 32 := 2#32
  let c0_i32_459 : BitVec 32 := 0#32
  let v1343 : BitVec 1 := Scalar.cmpi .eq c2_i32_458 c0_i32_459
  let c1_i32_460 : BitVec 32 := 1#32
  let v1344 : BitVec 32 := Scalar.select v1343 c1_i32_460 c2_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v2478 : BitVec 32 := Scalar.muli c16_i32_805 v1352
  let v2479 : BitVec 32 := Scalar.addi v2477 v2478
  let v2480 : Index := Scalar.indexCast v2479
  let c0_807 : Index := 0#32
  ![0, v2480.toNat, 0]
def k0_off16 (k0_t5 : Fin k0_t5_loop.trips) (c0_i32_829 : BitVec 32) (c0_i32_830 : BitVec 32) : Fin 3 → Nat :=
  let c1_832 : Index := 1#32
  let c512_i32_828 : BitVec 32 := 512#32
  let c0_i32_447 : BitVec 32 := 0#32
  let c1_i32_449 : BitVec 32 := 1#32
  let arg18 : BitVec 32 := Scf.iv c0_i32_447 c1_i32_449 k0_t5
  let c0_i32_452 : BitVec 32 := 0#32
  let v1327 : BitVec 1 := Scalar.cmpi .sgt arg18 c0_i32_452
  let v1328 : BitVec 32 := Scalar.extui v1327
  let c0_i32_453 : BitVec 32 := 0#32
  let v1329 : BitVec 1 := Scalar.cmpi .slt arg18 c0_i32_453
  let v1330 : BitVec 32 := Scalar.extui v1329
  let v1331 : BitVec 32 := Scalar.subi v1328 v1330
  let c2_i32_451 : BitVec 32 := 2#32
  let c0_i32_454 : BitVec 32 := 0#32
  let v1332 : BitVec 1 := Scalar.cmpi .sgt c2_i32_451 c0_i32_454
  let v1333 : BitVec 32 := Scalar.extui v1332
  let c0_i32_455 : BitVec 32 := 0#32
  let v1334 : BitVec 1 := Scalar.cmpi .slt c2_i32_451 c0_i32_455
  let v1335 : BitVec 32 := Scalar.extui v1334
  let v1336 : BitVec 32 := Scalar.subi v1333 v1335
  let v1337 : BitVec 1 := Scalar.cmpi .ne v1331 v1336
  let v1338 : BitVec 32 := Scalar.remsi arg18 c2_i32_451
  let c0_i32_456 : BitVec 32 := 0#32
  let v1339 : BitVec 1 := Scalar.cmpi .ne v1338 c0_i32_456
  let v1340 : BitVec 1 := Scalar.andi v1337 v1339
  let v1326 : BitVec 32 := Scalar.divsi arg18 c2_i32_451
  let c1_i32_457 : BitVec 32 := 1#32
  let v1341 : BitVec 32 := Scalar.subi v1326 c1_i32_457
  let v1342 : BitVec 32 := Scalar.select v1340 v1341 v1326
  let v2519 : BitVec 32 := Scalar.muli c512_i32_828 v1342
  let v2520 : BitVec 32 := Scalar.addi v2519 c0_i32_829
  let v2521 : BitVec 32 := Scalar.addi v2520 c0_i32_830
  let c16_i32_831 : BitVec 32 := 16#32
  let c2_i32_458 : BitVec 32 := 2#32
  let c0_i32_459 : BitVec 32 := 0#32
  let v1343 : BitVec 1 := Scalar.cmpi .eq c2_i32_458 c0_i32_459
  let c1_i32_460 : BitVec 32 := 1#32
  let v1344 : BitVec 32 := Scalar.select v1343 c1_i32_460 c2_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v2522 : BitVec 32 := Scalar.muli c16_i32_831 v1352
  let v2523 : BitVec 32 := Scalar.addi v2521 v2522
  let v2524 : Index := Scalar.indexCast v2523
  let c0_833 : Index := 0#32
  ![1, v2524.toNat, 0]
def k0_off17 (k0_t5 : Fin k0_t5_loop.trips) (c0_i32_858 : BitVec 32) (c0_i32_859 : BitVec 32) : Fin 3 → Nat :=
  let c2_861 : Index := 2#32
  let c512_i32_857 : BitVec 32 := 512#32
  let c0_i32_447 : BitVec 32 := 0#32
  let c1_i32_449 : BitVec 32 := 1#32
  let arg18 : BitVec 32 := Scf.iv c0_i32_447 c1_i32_449 k0_t5
  let c0_i32_452 : BitVec 32 := 0#32
  let v1327 : BitVec 1 := Scalar.cmpi .sgt arg18 c0_i32_452
  let v1328 : BitVec 32 := Scalar.extui v1327
  let c0_i32_453 : BitVec 32 := 0#32
  let v1329 : BitVec 1 := Scalar.cmpi .slt arg18 c0_i32_453
  let v1330 : BitVec 32 := Scalar.extui v1329
  let v1331 : BitVec 32 := Scalar.subi v1328 v1330
  let c2_i32_451 : BitVec 32 := 2#32
  let c0_i32_454 : BitVec 32 := 0#32
  let v1332 : BitVec 1 := Scalar.cmpi .sgt c2_i32_451 c0_i32_454
  let v1333 : BitVec 32 := Scalar.extui v1332
  let c0_i32_455 : BitVec 32 := 0#32
  let v1334 : BitVec 1 := Scalar.cmpi .slt c2_i32_451 c0_i32_455
  let v1335 : BitVec 32 := Scalar.extui v1334
  let v1336 : BitVec 32 := Scalar.subi v1333 v1335
  let v1337 : BitVec 1 := Scalar.cmpi .ne v1331 v1336
  let v1338 : BitVec 32 := Scalar.remsi arg18 c2_i32_451
  let c0_i32_456 : BitVec 32 := 0#32
  let v1339 : BitVec 1 := Scalar.cmpi .ne v1338 c0_i32_456
  let v1340 : BitVec 1 := Scalar.andi v1337 v1339
  let v1326 : BitVec 32 := Scalar.divsi arg18 c2_i32_451
  let c1_i32_457 : BitVec 32 := 1#32
  let v1341 : BitVec 32 := Scalar.subi v1326 c1_i32_457
  let v1342 : BitVec 32 := Scalar.select v1340 v1341 v1326
  let v2563 : BitVec 32 := Scalar.muli c512_i32_857 v1342
  let v2564 : BitVec 32 := Scalar.addi v2563 c0_i32_858
  let v2565 : BitVec 32 := Scalar.addi v2564 c0_i32_859
  let c16_i32_860 : BitVec 32 := 16#32
  let c2_i32_458 : BitVec 32 := 2#32
  let c0_i32_459 : BitVec 32 := 0#32
  let v1343 : BitVec 1 := Scalar.cmpi .eq c2_i32_458 c0_i32_459
  let c1_i32_460 : BitVec 32 := 1#32
  let v1344 : BitVec 32 := Scalar.select v1343 c1_i32_460 c2_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v2566 : BitVec 32 := Scalar.muli c16_i32_860 v1352
  let v2567 : BitVec 32 := Scalar.addi v2565 v2566
  let v2568 : Index := Scalar.indexCast v2567
  let c0_862 : Index := 0#32
  ![2, v2568.toNat, 0]
def k0_off18 (k0_t5 : Fin k0_t5_loop.trips) (c0_i32_886 : BitVec 32) (c0_i32_887 : BitVec 32) : Fin 3 → Nat :=
  let c3_889 : Index := 3#32
  let c512_i32_885 : BitVec 32 := 512#32
  let c0_i32_447 : BitVec 32 := 0#32
  let c1_i32_449 : BitVec 32 := 1#32
  let arg18 : BitVec 32 := Scf.iv c0_i32_447 c1_i32_449 k0_t5
  let c0_i32_452 : BitVec 32 := 0#32
  let v1327 : BitVec 1 := Scalar.cmpi .sgt arg18 c0_i32_452
  let v1328 : BitVec 32 := Scalar.extui v1327
  let c0_i32_453 : BitVec 32 := 0#32
  let v1329 : BitVec 1 := Scalar.cmpi .slt arg18 c0_i32_453
  let v1330 : BitVec 32 := Scalar.extui v1329
  let v1331 : BitVec 32 := Scalar.subi v1328 v1330
  let c2_i32_451 : BitVec 32 := 2#32
  let c0_i32_454 : BitVec 32 := 0#32
  let v1332 : BitVec 1 := Scalar.cmpi .sgt c2_i32_451 c0_i32_454
  let v1333 : BitVec 32 := Scalar.extui v1332
  let c0_i32_455 : BitVec 32 := 0#32
  let v1334 : BitVec 1 := Scalar.cmpi .slt c2_i32_451 c0_i32_455
  let v1335 : BitVec 32 := Scalar.extui v1334
  let v1336 : BitVec 32 := Scalar.subi v1333 v1335
  let v1337 : BitVec 1 := Scalar.cmpi .ne v1331 v1336
  let v1338 : BitVec 32 := Scalar.remsi arg18 c2_i32_451
  let c0_i32_456 : BitVec 32 := 0#32
  let v1339 : BitVec 1 := Scalar.cmpi .ne v1338 c0_i32_456
  let v1340 : BitVec 1 := Scalar.andi v1337 v1339
  let v1326 : BitVec 32 := Scalar.divsi arg18 c2_i32_451
  let c1_i32_457 : BitVec 32 := 1#32
  let v1341 : BitVec 32 := Scalar.subi v1326 c1_i32_457
  let v1342 : BitVec 32 := Scalar.select v1340 v1341 v1326
  let v2607 : BitVec 32 := Scalar.muli c512_i32_885 v1342
  let v2608 : BitVec 32 := Scalar.addi v2607 c0_i32_886
  let v2609 : BitVec 32 := Scalar.addi v2608 c0_i32_887
  let c16_i32_888 : BitVec 32 := 16#32
  let c2_i32_458 : BitVec 32 := 2#32
  let c0_i32_459 : BitVec 32 := 0#32
  let v1343 : BitVec 1 := Scalar.cmpi .eq c2_i32_458 c0_i32_459
  let c1_i32_460 : BitVec 32 := 1#32
  let v1344 : BitVec 32 := Scalar.select v1343 c1_i32_460 c2_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v2610 : BitVec 32 := Scalar.muli c16_i32_888 v1352
  let v2611 : BitVec 32 := Scalar.addi v2609 v2610
  let v2612 : Index := Scalar.indexCast v2611
  let c0_890 : Index := 0#32
  ![3, v2612.toNat, 0]
def k0_off19 (k0_t5 : Fin k0_t5_loop.trips) (c0_i32_915 : BitVec 32) (c0_i32_916 : BitVec 32) : Fin 3 → Nat :=
  let c4_918 : Index := 4#32
  let c512_i32_914 : BitVec 32 := 512#32
  let c0_i32_447 : BitVec 32 := 0#32
  let c1_i32_449 : BitVec 32 := 1#32
  let arg18 : BitVec 32 := Scf.iv c0_i32_447 c1_i32_449 k0_t5
  let c0_i32_452 : BitVec 32 := 0#32
  let v1327 : BitVec 1 := Scalar.cmpi .sgt arg18 c0_i32_452
  let v1328 : BitVec 32 := Scalar.extui v1327
  let c0_i32_453 : BitVec 32 := 0#32
  let v1329 : BitVec 1 := Scalar.cmpi .slt arg18 c0_i32_453
  let v1330 : BitVec 32 := Scalar.extui v1329
  let v1331 : BitVec 32 := Scalar.subi v1328 v1330
  let c2_i32_451 : BitVec 32 := 2#32
  let c0_i32_454 : BitVec 32 := 0#32
  let v1332 : BitVec 1 := Scalar.cmpi .sgt c2_i32_451 c0_i32_454
  let v1333 : BitVec 32 := Scalar.extui v1332
  let c0_i32_455 : BitVec 32 := 0#32
  let v1334 : BitVec 1 := Scalar.cmpi .slt c2_i32_451 c0_i32_455
  let v1335 : BitVec 32 := Scalar.extui v1334
  let v1336 : BitVec 32 := Scalar.subi v1333 v1335
  let v1337 : BitVec 1 := Scalar.cmpi .ne v1331 v1336
  let v1338 : BitVec 32 := Scalar.remsi arg18 c2_i32_451
  let c0_i32_456 : BitVec 32 := 0#32
  let v1339 : BitVec 1 := Scalar.cmpi .ne v1338 c0_i32_456
  let v1340 : BitVec 1 := Scalar.andi v1337 v1339
  let v1326 : BitVec 32 := Scalar.divsi arg18 c2_i32_451
  let c1_i32_457 : BitVec 32 := 1#32
  let v1341 : BitVec 32 := Scalar.subi v1326 c1_i32_457
  let v1342 : BitVec 32 := Scalar.select v1340 v1341 v1326
  let v2651 : BitVec 32 := Scalar.muli c512_i32_914 v1342
  let v2652 : BitVec 32 := Scalar.addi v2651 c0_i32_915
  let v2653 : BitVec 32 := Scalar.addi v2652 c0_i32_916
  let c16_i32_917 : BitVec 32 := 16#32
  let c2_i32_458 : BitVec 32 := 2#32
  let c0_i32_459 : BitVec 32 := 0#32
  let v1343 : BitVec 1 := Scalar.cmpi .eq c2_i32_458 c0_i32_459
  let c1_i32_460 : BitVec 32 := 1#32
  let v1344 : BitVec 32 := Scalar.select v1343 c1_i32_460 c2_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v2654 : BitVec 32 := Scalar.muli c16_i32_917 v1352
  let v2655 : BitVec 32 := Scalar.addi v2653 v2654
  let v2656 : Index := Scalar.indexCast v2655
  let c0_919 : Index := 0#32
  ![4, v2656.toNat, 0]
def k0_off20 (k0_t5 : Fin k0_t5_loop.trips) (c0_i32_945 : BitVec 32) (c0_i32_946 : BitVec 32) : Fin 3 → Nat :=
  let c5_948 : Index := 5#32
  let c512_i32_944 : BitVec 32 := 512#32
  let c0_i32_447 : BitVec 32 := 0#32
  let c1_i32_449 : BitVec 32 := 1#32
  let arg18 : BitVec 32 := Scf.iv c0_i32_447 c1_i32_449 k0_t5
  let c0_i32_452 : BitVec 32 := 0#32
  let v1327 : BitVec 1 := Scalar.cmpi .sgt arg18 c0_i32_452
  let v1328 : BitVec 32 := Scalar.extui v1327
  let c0_i32_453 : BitVec 32 := 0#32
  let v1329 : BitVec 1 := Scalar.cmpi .slt arg18 c0_i32_453
  let v1330 : BitVec 32 := Scalar.extui v1329
  let v1331 : BitVec 32 := Scalar.subi v1328 v1330
  let c2_i32_451 : BitVec 32 := 2#32
  let c0_i32_454 : BitVec 32 := 0#32
  let v1332 : BitVec 1 := Scalar.cmpi .sgt c2_i32_451 c0_i32_454
  let v1333 : BitVec 32 := Scalar.extui v1332
  let c0_i32_455 : BitVec 32 := 0#32
  let v1334 : BitVec 1 := Scalar.cmpi .slt c2_i32_451 c0_i32_455
  let v1335 : BitVec 32 := Scalar.extui v1334
  let v1336 : BitVec 32 := Scalar.subi v1333 v1335
  let v1337 : BitVec 1 := Scalar.cmpi .ne v1331 v1336
  let v1338 : BitVec 32 := Scalar.remsi arg18 c2_i32_451
  let c0_i32_456 : BitVec 32 := 0#32
  let v1339 : BitVec 1 := Scalar.cmpi .ne v1338 c0_i32_456
  let v1340 : BitVec 1 := Scalar.andi v1337 v1339
  let v1326 : BitVec 32 := Scalar.divsi arg18 c2_i32_451
  let c1_i32_457 : BitVec 32 := 1#32
  let v1341 : BitVec 32 := Scalar.subi v1326 c1_i32_457
  let v1342 : BitVec 32 := Scalar.select v1340 v1341 v1326
  let v2695 : BitVec 32 := Scalar.muli c512_i32_944 v1342
  let v2696 : BitVec 32 := Scalar.addi v2695 c0_i32_945
  let v2697 : BitVec 32 := Scalar.addi v2696 c0_i32_946
  let c16_i32_947 : BitVec 32 := 16#32
  let c2_i32_458 : BitVec 32 := 2#32
  let c0_i32_459 : BitVec 32 := 0#32
  let v1343 : BitVec 1 := Scalar.cmpi .eq c2_i32_458 c0_i32_459
  let c1_i32_460 : BitVec 32 := 1#32
  let v1344 : BitVec 32 := Scalar.select v1343 c1_i32_460 c2_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v2698 : BitVec 32 := Scalar.muli c16_i32_947 v1352
  let v2699 : BitVec 32 := Scalar.addi v2697 v2698
  let v2700 : Index := Scalar.indexCast v2699
  let c0_949 : Index := 0#32
  ![5, v2700.toNat, 0]
def k0_off21 (k0_t5 : Fin k0_t5_loop.trips) (c0_i32_974 : BitVec 32) (c0_i32_975 : BitVec 32) : Fin 3 → Nat :=
  let c6_977 : Index := 6#32
  let c512_i32_973 : BitVec 32 := 512#32
  let c0_i32_447 : BitVec 32 := 0#32
  let c1_i32_449 : BitVec 32 := 1#32
  let arg18 : BitVec 32 := Scf.iv c0_i32_447 c1_i32_449 k0_t5
  let c0_i32_452 : BitVec 32 := 0#32
  let v1327 : BitVec 1 := Scalar.cmpi .sgt arg18 c0_i32_452
  let v1328 : BitVec 32 := Scalar.extui v1327
  let c0_i32_453 : BitVec 32 := 0#32
  let v1329 : BitVec 1 := Scalar.cmpi .slt arg18 c0_i32_453
  let v1330 : BitVec 32 := Scalar.extui v1329
  let v1331 : BitVec 32 := Scalar.subi v1328 v1330
  let c2_i32_451 : BitVec 32 := 2#32
  let c0_i32_454 : BitVec 32 := 0#32
  let v1332 : BitVec 1 := Scalar.cmpi .sgt c2_i32_451 c0_i32_454
  let v1333 : BitVec 32 := Scalar.extui v1332
  let c0_i32_455 : BitVec 32 := 0#32
  let v1334 : BitVec 1 := Scalar.cmpi .slt c2_i32_451 c0_i32_455
  let v1335 : BitVec 32 := Scalar.extui v1334
  let v1336 : BitVec 32 := Scalar.subi v1333 v1335
  let v1337 : BitVec 1 := Scalar.cmpi .ne v1331 v1336
  let v1338 : BitVec 32 := Scalar.remsi arg18 c2_i32_451
  let c0_i32_456 : BitVec 32 := 0#32
  let v1339 : BitVec 1 := Scalar.cmpi .ne v1338 c0_i32_456
  let v1340 : BitVec 1 := Scalar.andi v1337 v1339
  let v1326 : BitVec 32 := Scalar.divsi arg18 c2_i32_451
  let c1_i32_457 : BitVec 32 := 1#32
  let v1341 : BitVec 32 := Scalar.subi v1326 c1_i32_457
  let v1342 : BitVec 32 := Scalar.select v1340 v1341 v1326
  let v2739 : BitVec 32 := Scalar.muli c512_i32_973 v1342
  let v2740 : BitVec 32 := Scalar.addi v2739 c0_i32_974
  let v2741 : BitVec 32 := Scalar.addi v2740 c0_i32_975
  let c16_i32_976 : BitVec 32 := 16#32
  let c2_i32_458 : BitVec 32 := 2#32
  let c0_i32_459 : BitVec 32 := 0#32
  let v1343 : BitVec 1 := Scalar.cmpi .eq c2_i32_458 c0_i32_459
  let c1_i32_460 : BitVec 32 := 1#32
  let v1344 : BitVec 32 := Scalar.select v1343 c1_i32_460 c2_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v2742 : BitVec 32 := Scalar.muli c16_i32_976 v1352
  let v2743 : BitVec 32 := Scalar.addi v2741 v2742
  let v2744 : Index := Scalar.indexCast v2743
  let c0_978 : Index := 0#32
  ![6, v2744.toNat, 0]
def k0_off22 (k0_t5 : Fin k0_t5_loop.trips) (c0_i32_1002 : BitVec 32) (c0_i32_1003 : BitVec 32) : Fin 3 → Nat :=
  let c7_1005 : Index := 7#32
  let c512_i32_1001 : BitVec 32 := 512#32
  let c0_i32_447 : BitVec 32 := 0#32
  let c1_i32_449 : BitVec 32 := 1#32
  let arg18 : BitVec 32 := Scf.iv c0_i32_447 c1_i32_449 k0_t5
  let c0_i32_452 : BitVec 32 := 0#32
  let v1327 : BitVec 1 := Scalar.cmpi .sgt arg18 c0_i32_452
  let v1328 : BitVec 32 := Scalar.extui v1327
  let c0_i32_453 : BitVec 32 := 0#32
  let v1329 : BitVec 1 := Scalar.cmpi .slt arg18 c0_i32_453
  let v1330 : BitVec 32 := Scalar.extui v1329
  let v1331 : BitVec 32 := Scalar.subi v1328 v1330
  let c2_i32_451 : BitVec 32 := 2#32
  let c0_i32_454 : BitVec 32 := 0#32
  let v1332 : BitVec 1 := Scalar.cmpi .sgt c2_i32_451 c0_i32_454
  let v1333 : BitVec 32 := Scalar.extui v1332
  let c0_i32_455 : BitVec 32 := 0#32
  let v1334 : BitVec 1 := Scalar.cmpi .slt c2_i32_451 c0_i32_455
  let v1335 : BitVec 32 := Scalar.extui v1334
  let v1336 : BitVec 32 := Scalar.subi v1333 v1335
  let v1337 : BitVec 1 := Scalar.cmpi .ne v1331 v1336
  let v1338 : BitVec 32 := Scalar.remsi arg18 c2_i32_451
  let c0_i32_456 : BitVec 32 := 0#32
  let v1339 : BitVec 1 := Scalar.cmpi .ne v1338 c0_i32_456
  let v1340 : BitVec 1 := Scalar.andi v1337 v1339
  let v1326 : BitVec 32 := Scalar.divsi arg18 c2_i32_451
  let c1_i32_457 : BitVec 32 := 1#32
  let v1341 : BitVec 32 := Scalar.subi v1326 c1_i32_457
  let v1342 : BitVec 32 := Scalar.select v1340 v1341 v1326
  let v2783 : BitVec 32 := Scalar.muli c512_i32_1001 v1342
  let v2784 : BitVec 32 := Scalar.addi v2783 c0_i32_1002
  let v2785 : BitVec 32 := Scalar.addi v2784 c0_i32_1003
  let c16_i32_1004 : BitVec 32 := 16#32
  let c2_i32_458 : BitVec 32 := 2#32
  let c0_i32_459 : BitVec 32 := 0#32
  let v1343 : BitVec 1 := Scalar.cmpi .eq c2_i32_458 c0_i32_459
  let c1_i32_460 : BitVec 32 := 1#32
  let v1344 : BitVec 32 := Scalar.select v1343 c1_i32_460 c2_i32_458
  let v1345 : BitVec 32 := Scalar.remsi arg18 v1344
  let c0_i32_462 : BitVec 32 := 0#32
  let v1347 : BitVec 1 := Scalar.cmpi .slt v1345 c0_i32_462
  let c0_i32_463 : BitVec 32 := 0#32
  let v1348 : BitVec 1 := Scalar.cmpi .slt v1344 c0_i32_463
  let v1349 : BitVec 1 := Scalar.xori v1347 v1348
  let c0_i32_461 : BitVec 32 := 0#32
  let v1346 : BitVec 1 := Scalar.cmpi .ne v1345 c0_i32_461
  let v1350 : BitVec 1 := Scalar.andi v1349 v1346
  let v1351 : BitVec 32 := Scalar.addi v1345 v1344
  let v1352 : BitVec 32 := Scalar.select v1350 v1351 v1345
  let v2786 : BitVec 32 := Scalar.muli c16_i32_1004 v1352
  let v2787 : BitVec 32 := Scalar.addi v2785 v2786
  let v2788 : Index := Scalar.indexCast v2787
  let c0_1006 : Index := 0#32
  ![7, v2788.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x2048x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x32x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x32x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x2048x768 : Shape := ⟨3, ![8, 2048, 768]⟩
abbrev S8x2048 : Shape := ⟨2, ![8, 2048]⟩
abbrev S768x2048 : Shape := ⟨2, ![768, 2048]⟩
abbrev S768 : Shape := ⟨1, ![768]⟩
abbrev S8 : Shape := ⟨1, ![8]⟩
abbrev S2048 : Shape := ⟨1, ![2048]⟩
abbrev S1x2048 : Shape := ⟨2, ![1, 2048]⟩
abbrev S8x1 : Shape := ⟨2, ![8, 1]⟩
abbrev S8x2048x1 : Shape := ⟨3, ![8, 2048, 1]⟩
abbrev S_ : Shape := ⟨0, ![]⟩
abbrev S768x8x2048 : Shape := ⟨3, ![768, 8, 2048]⟩
abbrev S768x4096 : Shape := ⟨2, ![768, 4096]⟩
abbrev S768x1x4096 : Shape := ⟨3, ![768, 1, 4096]⟩
abbrev S768x2048x4096 : Shape := ⟨3, ![768, 2048, 4096]⟩
abbrev S768x8388608 : Shape := ⟨2, ![768, 8388608]⟩
abbrev S768x8386560 : Shape := ⟨2, ![768, 8386560]⟩
abbrev S768x2048x4095 : Shape := ⟨3, ![768, 2048, 4095]⟩
abbrev S768x2048x2048 : Shape := ⟨3, ![768, 2048, 2048]⟩
abbrev S768x1x1 : Shape := ⟨3, ![768, 1, 1]⟩
abbrev S768x8x4096 : Shape := ⟨3, ![768, 8, 4096]⟩
abbrev S768x8x1x4096 : Shape := ⟨4, ![768, 8, 1, 4096]⟩
abbrev S768x8x2048x4096 : Shape := ⟨4, ![768, 8, 2048, 4096]⟩
abbrev S768x8x8388608 : Shape := ⟨3, ![768, 8, 8388608]⟩
abbrev S768x8x8386560 : Shape := ⟨3, ![768, 8, 8386560]⟩
abbrev S768x8x2048x4095 : Shape := ⟨4, ![768, 8, 2048, 4095]⟩
abbrev S768x8x2048x2048 : Shape := ⟨4, ![768, 8, 2048, 2048]⟩

abbrev nBuf : Space → Nat
  | .hbm => 56
  | .vmem => 6
  | .smem => 0
  | _ => 0

abbrev bufTy : (tb : Table) → Fin (tcTables nBuf tb) → BufTy
  | .hbm, ⟨0, _⟩ => ⟨S8x2048x768, .i8⟩
  | .hbm, ⟨1, _⟩ => ⟨S8x2048, .f32⟩
  | .hbm, ⟨2, _⟩ => ⟨S8x2048x768, .i8⟩
  | .hbm, ⟨3, _⟩ => ⟨S8x2048, .f32⟩
  | .hbm, ⟨4, _⟩ => ⟨S768x2048, .i8⟩
  | .hbm, ⟨5, _⟩ => ⟨S768, .f32⟩
  | .hbm, ⟨6, _⟩ => ⟨S8, .i32⟩
  | .hbm, ⟨7, _⟩ => ⟨S8x2048x768, .bf16⟩
  | .hbm, ⟨8, _⟩ => ⟨S8x2048x768, .bf16⟩
  | .hbm, ⟨9, _⟩ => ⟨S768x2048, .bf16⟩
  | .hbm, ⟨10, _⟩ => ⟨S2048, .i32⟩
  | .hbm, ⟨11, _⟩ => ⟨S1x2048, .i32⟩
  | .hbm, ⟨12, _⟩ => ⟨S8x1, .i32⟩
  | .hbm, ⟨13, _⟩ => ⟨S8x2048, .i32⟩
  | .hbm, ⟨14, _⟩ => ⟨S8x2048, .i32⟩
  | .hbm, ⟨15, _⟩ => ⟨S8x2048, .i1⟩
  | .hbm, ⟨16, _⟩ => ⟨S8x2048, .bf16⟩
  | .hbm, ⟨17, _⟩ => ⟨S8x2048x1, .bf16⟩
  | .hbm, ⟨18, _⟩ => ⟨S8x2048x768, .bf16⟩
  | .hbm, ⟨19, _⟩ => ⟨S8x2048x768, .bf16⟩
  | .hbm, ⟨20, _⟩ => ⟨S8x2048x1, .i1⟩
  | .hbm, ⟨21, _⟩ => ⟨S_, .bf16⟩
  | .hbm, ⟨22, _⟩ => ⟨S8x2048x768, .i1⟩
  | .hbm, ⟨23, _⟩ => ⟨S8x2048x768, .bf16⟩
  | .hbm, ⟨24, _⟩ => ⟨S8x2048x768, .bf16⟩
  | .hbm, ⟨25, _⟩ => ⟨S8x2048, .bf16⟩
  | .hbm, ⟨26, _⟩ => ⟨S8x2048x1, .bf16⟩
  | .hbm, ⟨27, _⟩ => ⟨S8x2048x768, .bf16⟩
  | .hbm, ⟨28, _⟩ => ⟨S8x2048x768, .bf16⟩
  | .hbm, ⟨29, _⟩ => ⟨S768x8x2048, .bf16⟩
  | .hbm, ⟨30, _⟩ => ⟨S768x8x2048, .bf16⟩
  | .hbm, ⟨31, _⟩ => ⟨S_, .i32⟩
  | .hbm, ⟨32, _⟩ => ⟨S_, .bf16⟩
  | .hbm, ⟨33, _⟩ => ⟨S768x4096, .bf16⟩
  | .hbm, ⟨34, _⟩ => ⟨S768x1x4096, .bf16⟩
  | .hbm, ⟨35, _⟩ => ⟨S768x2048x4096, .bf16⟩
  | .hbm, ⟨36, _⟩ => ⟨S768x8388608, .bf16⟩
  | .hbm, ⟨37, _⟩ => ⟨S768x8386560, .bf16⟩
  | .hbm, ⟨38, _⟩ => ⟨S768x2048x4095, .bf16⟩
  | .hbm, ⟨39, _⟩ => ⟨S768x2048x2048, .bf16⟩
  | .hbm, ⟨40, _⟩ => ⟨S768x8x2048, .f32⟩
  | .hbm, ⟨41, _⟩ => ⟨S768x1x1, .f32⟩
  | .hbm, ⟨42, _⟩ => ⟨S768x8x2048, .f32⟩
  | .hbm, ⟨43, _⟩ => ⟨S768x8x2048, .f32⟩
  | .hbm, ⟨44, _⟩ => ⟨S768x8x2048, .bf16⟩
  | .hbm, ⟨45, _⟩ => ⟨S8x2048x768, .bf16⟩
  | .hbm, ⟨46, _⟩ => ⟨S_, .i32⟩
  | .hbm, ⟨47, _⟩ => ⟨S_, .bf16⟩
  | .hbm, ⟨48, _⟩ => ⟨S768x8x4096, .bf16⟩
  | .hbm, ⟨49, _⟩ => ⟨S768x8x1x4096, .bf16⟩
  | .hbm, ⟨50, _⟩ => ⟨S768x8x2048x4096, .bf16⟩
  | .hbm, ⟨51, _⟩ => ⟨S768x8x8388608, .bf16⟩
  | .hbm, ⟨52, _⟩ => ⟨S768x8x8386560, .bf16⟩
  | .hbm, ⟨53, _⟩ => ⟨S768x8x2048x4095, .bf16⟩
  | .hbm, ⟨54, _⟩ => ⟨S768x8x2048x2048, .bf16⟩
  | .hbm, ⟨55, _⟩ => ⟨S768x2048, .f32⟩
  | .local _ .vmem, ⟨0, _⟩ => ⟨S8x2048x768, .i8⟩
  | .local _ .vmem, ⟨1, _⟩ => ⟨S8x2048x768, .i8⟩
  | .local _ .vmem, ⟨2, _⟩ => ⟨S768x2048, .i8⟩
  | .local _ .vmem, ⟨3, _⟩ => ⟨S8x2048x768, .bf16⟩
  | .local _ .vmem, ⟨4, _⟩ => ⟨S8x2048x768, .bf16⟩
  | .local _ .vmem, ⟨5, _⟩ => ⟨S768x2048, .bf16⟩
  | _, _ => ⟨S8x2048x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_call1_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_0 : Ref sig .tc := ⟨.hbm, 46, rfl⟩
abbrev main_call2_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x2048x768 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x768 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Bits.Trips.lean ====
/-
  The four loops of the kernel's body whose rectangles are strided, each as one trip at a symbolic trip number and
  the contents its trips leave.

  For a loop `t` the pieces one trip stores are the witnesses of `trip_t` (found by running the trip, never written
  out); `step_t` writes them over what the trip finds, `st_t` iterates the step from the contents at the loop's entry,
  and `loopInv_t` is the loop's invariant: before trip `k` every buffer the loop writes holds `st_t k`.
  The loops are: 1, the dy codes packed four tokens to a word; 2, the x codes packed; 4, the channels of the block;
  5, the dx tile written back with channels on the lanes.
-/
module

public import proofs.«01_k».proof.Proof.Gen.Kernel.Loops

@[expose] public section

-- the regions apply some forty operands around each recursive call
set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ### Where loop 2 stores -/

theorem off5_eq : ∀ (k : Fin k0_t2_loop.trips) (n : Fin 4),
    k0_off5 k (BitVec.ofNat 32 n.val) = ![32 * (k.val % 16) + 4 * (k.val / 16) + n.val, 0] := by decide +kernel

instance (k : Fin k0_t2_loop.trips) : ClosedOff (k0_off5 k 0#32) := ⟨![32 * (k.val % 16) + 4 * (k.val / 16) + 0, 0], off5_eq k 0⟩
instance (k : Fin k0_t2_loop.trips) : ClosedOff (k0_off5 k 1#32) := ⟨![32 * (k.val % 16) + 4 * (k.val / 16) + 1, 0], off5_eq k 1⟩
instance (k : Fin k0_t2_loop.trips) : ClosedOff (k0_off5 k 2#32) := ⟨![32 * (k.val % 16) + 4 * (k.val / 16) + 2, 0], off5_eq k 2⟩
instance (k : Fin k0_t2_loop.trips) : ClosedOff (k0_off5 k 3#32) := ⟨![32 * (k.val % 16) + 4 * (k.val / 16) + 3, 0], off5_eq k 3⟩

variable {F : FTy → Type} [FloatOps F]

local notation "𝕄" => MT nD τ sig Unit (Elt F) ℕ (UR sig nD τ) ℕ

variable (𝒱 : Variants) (c : Dev nD) (bd : Option 𝒱.V) (i : grid0.Coords) (arg1 : Memref sig .tc .smem S768 .f32) (harg1 : arg1.IsWhole) (arg2 : Memref sig .tc .vmem S8x2048x128 .i8) (harg2 : arg2.IsWhole) (arg3 : Memref sig .tc .vmem S8x2048x128 .i8) (harg3 : arg3.IsWhole) (arg4 : Memref sig .tc .vmem S128x2048 .i8) (harg4 : arg4.IsWhole) (arg5 : Memref sig .tc .vmem S16x32x128 .bf16) (harg5 : arg5.IsWhole) (arg6 : Memref sig .tc .vmem S4x32x128 .bf16) (harg6 : arg6.IsWhole) (arg7 : Memref sig .tc .vmem S4x32x128 .bf16) (harg7 : arg7.IsWhole) (arg8 : Memref sig .tc .vmem S8x2048x128 .bf16) (harg8 : arg8.IsWhole) (arg9 : Memref sig .tc .vmem S128x2048 .f32) (harg9 : arg9.IsWhole) (arg10 : Memref sig .tc .vmem S128x128 .i32) (harg10 : arg10.IsWhole) (arg11 : Memref sig .tc .vmem S16512x128 .i32) (harg11 : arg11.IsWhole) (arg12 : Memref sig .tc .vmem S4104x128 .i32) (harg12 : arg12.IsWhole) (arg13 : Memref sig .tc .vmem S4128x128 .i32) (harg13 : arg13.IsWhole) (arg14 : Memref sig .tc .vmem S2176x128 .i32) (harg14 : arg14.IsWhole) (arg15 : Memref sig .tc .vmem S16512x128 .f32) (harg15 : arg15.IsWhole) (arg16 : Memref sig .tc .vmem S2048x128 .f32) (harg16 : arg16.IsWhole) (arg17 : Memref sig .tc .vmem S2176x128 .f32) (harg17 : arg17.IsWhole)

/-! ### Loop 1: the dy codes packed four tokens to a word -/

/-- One trip's resources: what it reads at its contents, what it writes at any. -/
abbrev Trip1 (X3 : BufTy.Contents (Elt F) arg3.view.ty) (f10 : BufTy.Contents (Elt F) arg10.view.ty) (f11 : BufTy.Contents (Elt F) arg11.view.ty) : sProp 𝕄 :=
  iprop((arg3.view.loc (c : Thread nD τ) ↦[arg3.view.set]{fullShare} X3) ∗ (arg10.view.loc (c : Thread nD τ) ↦[arg10.view.set]{fullShare} f10) ∗ (arg11.view.loc (c : Thread nD τ) ↦[arg11.view.set]{fullShare} f11))

/-- One trip of loop 1 at a symbolic `k`, from the contents it finds: the pieces it stores are the run's finds. -/
@[irreducible] def trip1 (X3 : BufTy.Contents (Elt F) arg3.view.ty) (k : Fin k0_t1_loop.trips) (f10 : BufTy.Contents (Elt F) arg10.view.ty) (f11 : BufTy.Contents (Elt F) arg11.view.ty) :
    Σ' L10 : List (View.Piece (Elt F) S128x128 .i32), { L11 : List (View.Piece (Elt F) S16512x128 .i32) // ∀ (E : Set ℕ),
      Trip1 (F := F) c arg3 arg10 arg11 X3 f10 f11
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  k PUnit.unit)
          (fun _ => Trip1 (F := F) c arg3 arg10 arg11 X3 (arg10.view.writes (Elt F) f10 L10) (arg11.view.writes (Elt F) f11 L11)) } := by
  refine ⟨?_, ?_, fun E => ?run⟩
  case run =>
    unfold k0_t1_body
    iintro ⟨H3, H10, H11⟩
    sl_exec
    sl_step
    sl_close

/-- Trip `k`'s pieces written over the contents it finds. -/
def step1 (X3 : BufTy.Contents (Elt F) arg3.view.ty) (k : ℕ) (s : BufTy.Contents (Elt F) arg10.view.ty × BufTy.Contents (Elt F) arg11.view.ty) : BufTy.Contents (Elt F) arg10.view.ty × BufTy.Contents (Elt F) arg11.view.ty :=
  if h : k < k0_t1_loop.trips then
    (arg10.view.writes (Elt F) s.1 (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 ⟨k, h⟩ s.1 s.2).1, arg11.view.writes (Elt F) s.2 (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 ⟨k, h⟩ s.1 s.2).2.1)
  else s

/-- The contents before trip `k`, from those at the loop's entry. -/
def st1 (X3 : BufTy.Contents (Elt F) arg3.view.ty) (G10 : BufTy.Contents (Elt F) arg10.view.ty) (G11 : BufTy.Contents (Elt F) arg11.view.ty) : ℕ → BufTy.Contents (Elt F) arg10.view.ty × BufTy.Contents (Elt F) arg11.view.ty
  | 0 => (G10, G11)
  | k + 1 => step1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 k (st1  X3 G10 G11 k)

theorem st1_succ (X3 : BufTy.Contents (Elt F) arg3.view.ty) (G10 : BufTy.Contents (Elt F) arg10.view.ty) (G11 : BufTy.Contents (Elt F) arg11.view.ty) (k : Fin k0_t1_loop.trips) :
    st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11 (k.val + 1) = (arg10.view.writes (Elt F) (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11 k.val).1 (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 k (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11 k.val).1 (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11 k.val).2).1,
      arg11.view.writes (Elt F) (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11 k.val).2 (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 k (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11 k.val).1 (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11 k.val).2).2.1) := by
  rw [st1.eq_2]; unfold step1; exact dif_pos k.isLt

/-- The invariant before trip `k`. -/
abbrev inv1 (X3 : BufTy.Contents (Elt F) arg3.view.ty) (G10 : BufTy.Contents (Elt F) arg10.view.ty) (G11 : BufTy.Contents (Elt F) arg11.view.ty) (k : ℕ) (_u : PUnit) : sProp 𝕄 :=
  iprop((arg3.view.loc (c : Thread nD τ) ↦[arg3.view.set]{fullShare} X3) ∗ (∃ f, (arg10.view.loc (c : Thread nD τ) ↦[arg10.view.set]{fullShare} f) ∗ ⌜f = (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11 k).1⌝) ∗ (∃ f, (arg11.view.loc (c : Thread nD τ) ↦[arg11.view.set]{fullShare} f) ∗ ⌜f = (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11 k).2⌝))

set_option warn.classDefReducibility false in
/-- Loop 1 by its invariant. -/
@[sl_loop] def loopInv1 (E : Set ℕ) (X3 : BufTy.Contents (Elt F) arg3.view.ty) (G10 : BufTy.Contents (Elt F) arg10.view.ty) (G11 : BufTy.Contents (Elt F) arg11.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  where
  inv := inv1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11
  step k acc := by
    iintro ⟨H3, ⟨%f10, H10, %h10⟩, ⟨%f11, H11, %h11⟩⟩
    iapply (wp_wand_r Idealize.ShloMosaic.frame (wpE (defs₀ (F := F)) 𝒱 (c : Thread nD τ) bd) E)
    isplitl [H3 H10 H11]
    · iapply ((trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 k f10 f11).2.2 E)
      isplitl [H3]; · iexact H3
      isplitl [H10]; · iexact H10
      iexact H11
    · iintro %_ ⟨H3, H10, H11⟩
      isplitl [H3]; · iexact H3
      rw [st1_succ]
      subst h10 h11
      isplitl [H10]
      · iexists _; isplitl [H10]; · iexact H10
        ipureintro; rfl
      · iexists _; isplitl [H11]; · iexact H11
        ipureintro; rfl

/-! ### Loop 2: the x codes packed -/

/-- One trip's resources: what it reads at its contents, what it writes at any. -/
abbrev Trip2 (X2 : BufTy.Contents (Elt F) arg2.view.ty) (f12 : BufTy.Contents (Elt F) arg12.view.ty) : sProp 𝕄 :=
  iprop((arg2.view.loc (c : Thread nD τ) ↦[arg2.view.set]{fullShare} X2) ∗ (arg12.view.loc (c : Thread nD τ) ↦[arg12.view.set]{fullShare} f12))

/-- One trip of loop 2 at a symbolic `k`, from the contents it finds: the pieces it stores are the run's finds. -/
@[irreducible] def trip2 (X2 : BufTy.Contents (Elt F) arg2.view.ty) (k : Fin k0_t2_loop.trips) (f12 : BufTy.Contents (Elt F) arg12.view.ty) :
    { L12 : List (View.Piece (Elt F) S4104x128 .i32) // ∀ (E : Set ℕ),
      Trip2 (F := F) c arg2 arg12 X2 f12
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k PUnit.unit)
          (fun _ => Trip2 (F := F) c arg2 arg12 X2 (arg12.view.writes (Elt F) f12 L12)) } := by
  refine ⟨?_, fun E => ?run⟩
  case run =>
    unfold k0_t2_body
    iintro ⟨H2, H12⟩
    sl_exec
    sl_step
    sl_close

/-- Trip `k`'s pieces written over the contents it finds. -/
def step2 (X2 : BufTy.Contents (Elt F) arg2.view.ty) (k : ℕ) (s : BufTy.Contents (Elt F) arg12.view.ty) : BufTy.Contents (Elt F) arg12.view.ty :=
  if h : k < k0_t2_loop.trips then arg12.view.writes (Elt F) s (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 ⟨k, h⟩ s).1 else s

/-- The contents before trip `k`, from those at the loop's entry. -/
def st2 (X2 : BufTy.Contents (Elt F) arg2.view.ty) (G12 : BufTy.Contents (Elt F) arg12.view.ty) : ℕ → BufTy.Contents (Elt F) arg12.view.ty
  | 0 => G12
  | k + 1 => step2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 k (st2 X2 G12 k)

theorem st2_succ (X2 : BufTy.Contents (Elt F) arg2.view.ty) (G12 : BufTy.Contents (Elt F) arg12.view.ty) (k : Fin k0_t2_loop.trips) :
    st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 G12 (k.val + 1) = arg12.view.writes (Elt F) (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 G12 k.val) (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 k (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 G12 k.val)).1 := by
  rw [st2.eq_2]; unfold step2; exact dif_pos k.isLt

/-- The invariant before trip `k`. -/
abbrev inv2 (X2 : BufTy.Contents (Elt F) arg2.view.ty) (G12 : BufTy.Contents (Elt F) arg12.view.ty) (k : ℕ) (_u : PUnit) : sProp 𝕄 :=
  iprop((arg2.view.loc (c : Thread nD τ) ↦[arg2.view.set]{fullShare} X2) ∗ (∃ f, (arg12.view.loc (c : Thread nD τ) ↦[arg12.view.set]{fullShare} f) ∗ ⌜f = st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 G12 k⌝))

set_option warn.classDefReducibility false in
/-- Loop 2 by its invariant. -/
@[sl_loop] def loopInv2 (E : Set ℕ) (X2 : BufTy.Contents (Elt F) arg2.view.ty) (G12 : BufTy.Contents (Elt F) arg12.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 where
  inv := inv2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 G12
  step k acc := by
    iintro ⟨H2, ⟨%f12, H12, %h⟩⟩
    iapply (wp_wand_r Idealize.ShloMosaic.frame (wpE (defs₀ (F := F)) 𝒱 (c : Thread nD τ) bd) E)
    isplitl [H2 H12]
    · iapply ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 k f12).2 E)
      isplitl [H2]; · iexact H2
      iexact H12
    · iintro %_ ⟨H2, H12⟩
      isplitl [H2]; · iexact H2
      rw [st2_succ]
      subst h
      iexists _; isplitl [H12]; · iexact H12
      ipureintro; rfl

/-! ### Loop 4: the channels of the block -/

/-- One trip's resources: what it reads at its contents, what it writes at any. -/
abbrev Trip4 (X1 : BufTy.Contents (Elt F) arg1.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (f15 : BufTy.Contents (Elt F) arg15.view.ty) (f16 : BufTy.Contents (Elt F) arg16.view.ty) : sProp 𝕄 :=
  iprop((arg1.view.loc (c : Thread nD τ) ↦[arg1.view.set]{fullShare} X1) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} f15) ∗ (arg16.view.loc (c : Thread nD τ) ↦[arg16.view.set]{fullShare} f16))

/-- One trip of loop 4 at a symbolic `k`, from the contents it finds: the pieces it stores are the run's finds. -/
@[irreducible] def trip4 (arg0 : BitVec 32) (v1035 : IVec S8x2048 32) (v1264 : IVec S8x128 32) (X1 : BufTy.Contents (Elt F) arg1.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (k : Fin k0_t4_loop.trips) (f15 : BufTy.Contents (Elt F) arg15.view.ty) (f16 : BufTy.Contents (Elt F) arg16.view.ty) :
    Σ' L15 : List (View.Piece (Elt F) S16512x128 .f32), { L16 : List (View.Piece (Elt F) S2048x128 .f32) // ∀ (E : Set ℕ),
      Trip4 (F := F) c arg1 arg5 arg6 arg7 arg11 arg13 arg14 arg15 arg16 X1 X5 X6 X7 X11 X13 X14 f15 f16
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 k PUnit.unit)
          (fun _ => Trip4 (F := F) c arg1 arg5 arg6 arg7 arg11 arg13 arg14 arg15 arg16 X1 X5 X6 X7 X11 X13 X14 (arg15.view.writes (Elt F) f15 L15) (arg16.view.writes (Elt F) f16 L16)) } := by
  refine ⟨?_, ?_, fun E => ?run⟩
  case run =>
    unfold k0_t4_body
    iintro ⟨H1, H5, H6, H7, H11, H13, H14, H15, H16⟩
    sl_exec
    sl_step
    sl_close

/-- Trip `k`'s pieces written over the contents it finds. -/
def step4 (arg0 : BitVec 32) (v1035 : IVec S8x2048 32) (v1264 : IVec S8x128 32) (X1 : BufTy.Contents (Elt F) arg1.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (k : ℕ) (s : BufTy.Contents (Elt F) arg15.view.ty × BufTy.Contents (Elt F) arg16.view.ty) : BufTy.Contents (Elt F) arg15.view.ty × BufTy.Contents (Elt F) arg16.view.ty :=
  if h : k < k0_t4_loop.trips then
    (arg15.view.writes (Elt F) s.1 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 ⟨k, h⟩ s.1 s.2).1, arg16.view.writes (Elt F) s.2 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 ⟨k, h⟩ s.1 s.2).2.1)
  else s

/-- The contents before trip `k`, from those at the loop's entry. -/
def st4 (arg0 : BitVec 32) (v1035 : IVec S8x2048 32) (v1264 : IVec S8x128 32) (X1 : BufTy.Contents (Elt F) arg1.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (G15 : BufTy.Contents (Elt F) arg15.view.ty) (G16 : BufTy.Contents (Elt F) arg16.view.ty) : ℕ → BufTy.Contents (Elt F) arg15.view.ty × BufTy.Contents (Elt F) arg16.view.ty
  | 0 => (G15, G16)
  | k + 1 => step4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 k (st4 arg0 v1035 v1264 X1 X5 X6 X7 X11 X13 X14 G15 G16 k)

theorem st4_succ (arg0 : BitVec 32) (v1035 : IVec S8x2048 32) (v1264 : IVec S8x128 32) (X1 : BufTy.Contents (Elt F) arg1.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (G15 : BufTy.Contents (Elt F) arg15.view.ty) (G16 : BufTy.Contents (Elt F) arg16.view.ty) (k : Fin k0_t4_loop.trips) :
    st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 (k.val + 1) = (arg15.view.writes (Elt F) (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k.val).1 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 k (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k.val).1 (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k.val).2).1,
      arg16.view.writes (Elt F) (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k.val).2 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 k (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k.val).1 (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k.val).2).2.1) := by
  rw [st4.eq_2]; unfold step4; exact dif_pos k.isLt

/-- The invariant before trip `k`. -/
abbrev inv4 (arg0 : BitVec 32) (v1035 : IVec S8x2048 32) (v1264 : IVec S8x128 32) (X1 : BufTy.Contents (Elt F) arg1.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (G15 : BufTy.Contents (Elt F) arg15.view.ty) (G16 : BufTy.Contents (Elt F) arg16.view.ty) (k : ℕ) (_u : PUnit) : sProp 𝕄 :=
  iprop((arg1.view.loc (c : Thread nD τ) ↦[arg1.view.set]{fullShare} X1) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg13.view.loc (c : Thread nD τ) ↦[arg13.view.set]{fullShare} X13) ∗ (arg14.view.loc (c : Thread nD τ) ↦[arg14.view.set]{fullShare} X14) ∗ (∃ f, (arg15.view.loc (c : Thread nD τ) ↦[arg15.view.set]{fullShare} f) ∗ ⌜f = (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k).1⌝) ∗ (∃ f, (arg16.view.loc (c : Thread nD τ) ↦[arg16.view.set]{fullShare} f) ∗ ⌜f = (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k).2⌝))

set_option warn.classDefReducibility false in
/-- Loop 4 by its invariant. -/
@[sl_loop] def loopInv4 (E : Set ℕ) (arg0 : BitVec 32) (v1035 : IVec S8x2048 32) (v1264 : IVec S8x128 32) (X1 : BufTy.Contents (Elt F) arg1.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (G15 : BufTy.Contents (Elt F) arg15.view.ty) (G16 : BufTy.Contents (Elt F) arg16.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 where
  inv := inv4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16
  step k acc := by
    iintro ⟨H1, H5, H6, H7, H11, H13, H14, ⟨%f15, H15, %h15⟩, ⟨%f16, H16, %h16⟩⟩
    iapply (wp_wand_r Idealize.ShloMosaic.frame (wpE (defs₀ (F := F)) 𝒱 (c : Thread nD τ) bd) E)
    isplitl [H1 H5 H6 H7 H11 H13 H14 H15 H16]
    · iapply ((trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 k f15 f16).2.2 E)
      isplitl [H1]; · iexact H1
      isplitl [H5]; · iexact H5
      isplitl [H6]; · iexact H6
      isplitl [H7]; · iexact H7
      isplitl [H11]; · iexact H11
      isplitl [H13]; · iexact H13
      isplitl [H14]; · iexact H14
      isplitl [H15]; · iexact H15
      iexact H16
    · iintro %_ ⟨H1, H5, H6, H7, H11, H13, H14, H15, H16⟩
      isplitl [H1]; · iexact H1
      isplitl [H5]; · iexact H5
      isplitl [H6]; · iexact H6
      isplitl [H7]; · iexact H7
      isplitl [H11]; · iexact H11
      isplitl [H13]; · iexact H13
      isplitl [H14]; · iexact H14
      rw [st4_succ]
      subst h15 h16
      isplitl [H15]
      · iexists _; isplitl [H15]; · iexact H15
        ipureintro; rfl
      · iexists _; isplitl [H16]; · iexact H16
        ipureintro; rfl

/-! ### Loop 5: the dx tile written back with channels on the lanes -/

/-- One trip's resources: what it reads at its contents, what it writes at any. -/
abbrev Trip5 (X15 : BufTy.Contents (Elt F) arg15.view.ty) (f17 : BufTy.Contents (Elt F) arg17.view.ty) (f8 : BufTy.Contents (Elt F) arg8.view.ty) : sProp 𝕄 :=
  iprop((arg15.view.loc (c : Thread nD τ) ↦[arg15.view.set]{fullShare} X15) ∗ (arg17.view.loc (c : Thread nD τ) ↦[arg17.view.set]{fullShare} f17) ∗ (arg8.view.loc (c : Thread nD τ) ↦[arg8.view.set]{fullShare} f8))

/-- One trip of loop 5 at a symbolic `k`, from the contents it finds: the pieces it stores are the run's finds. -/
@[irreducible] def trip5 (X15 : BufTy.Contents (Elt F) arg15.view.ty) (k : Fin k0_t5_loop.trips) (f17 : BufTy.Contents (Elt F) arg17.view.ty) (f8 : BufTy.Contents (Elt F) arg8.view.ty) :
    Σ' L17 : List (View.Piece (Elt F) S2176x128 .f32), { L8 : List (View.Piece (Elt F) S8x2048x128 .bf16) // ∀ (E : Set ℕ),
      Trip5 (F := F) c arg8 arg15 arg17 X15 f17 f8
      ⊢ wp frame (wpE (defs₀ (F := F)) 𝒱 (c : Thread nD τ) bd) E (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  k PUnit.unit)
          (fun _ => Trip5 (F := F) c arg8 arg15 arg17 X15 (arg17.view.writes (Elt F) f17 L17) (arg8.view.writes (Elt F) f8 L8)) } := by
  refine ⟨?_, ?_, fun E => ?run⟩
  case run =>
    unfold k0_t5_body
    iintro ⟨H15, H17, H8⟩
    sl_exec
    sl_step
    sl_close

/-- Trip `k`'s pieces written over the contents it finds. -/
def step5 (X15 : BufTy.Contents (Elt F) arg15.view.ty) (k : ℕ) (s : BufTy.Contents (Elt F) arg17.view.ty × BufTy.Contents (Elt F) arg8.view.ty) : BufTy.Contents (Elt F) arg17.view.ty × BufTy.Contents (Elt F) arg8.view.ty :=
  if h : k < k0_t5_loop.trips then
    (arg17.view.writes (Elt F) s.1 (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 ⟨k, h⟩ s.1 s.2).1, arg8.view.writes (Elt F) s.2 (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 ⟨k, h⟩ s.1 s.2).2.1)
  else s

/-- The contents before trip `k`, from those at the loop's entry. -/
def st5 (X15 : BufTy.Contents (Elt F) arg15.view.ty) (G17 : BufTy.Contents (Elt F) arg17.view.ty) (G8 : BufTy.Contents (Elt F) arg8.view.ty) : ℕ → BufTy.Contents (Elt F) arg17.view.ty × BufTy.Contents (Elt F) arg8.view.ty
  | 0 => (G17, G8)
  | k + 1 => step5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 k (st5  X15 G17 G8 k)

theorem st5_succ (X15 : BufTy.Contents (Elt F) arg15.view.ty) (G17 : BufTy.Contents (Elt F) arg17.view.ty) (G8 : BufTy.Contents (Elt F) arg8.view.ty) (k : Fin k0_t5_loop.trips) :
    st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8 (k.val + 1) = (arg17.view.writes (Elt F) (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8 k.val).1 (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 k (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8 k.val).1 (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8 k.val).2).1,
      arg8.view.writes (Elt F) (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8 k.val).2 (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 k (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8 k.val).1 (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8 k.val).2).2.1) := by
  rw [st5.eq_2]; unfold step5; exact dif_pos k.isLt

/-- The invariant before trip `k`. -/
abbrev inv5 (X15 : BufTy.Contents (Elt F) arg15.view.ty) (G17 : BufTy.Contents (Elt F) arg17.view.ty) (G8 : BufTy.Contents (Elt F) arg8.view.ty) (k : ℕ) (_u : PUnit) : sProp 𝕄 :=
  iprop((arg15.view.loc (c : Thread nD τ) ↦[arg15.view.set]{fullShare} X15) ∗ (∃ f, (arg17.view.loc (c : Thread nD τ) ↦[arg17.view.set]{fullShare} f) ∗ ⌜f = (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8 k).1⌝) ∗ (∃ f, (arg8.view.loc (c : Thread nD τ) ↦[arg8.view.set]{fullShare} f) ∗ ⌜f = (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8 k).2⌝))

set_option warn.classDefReducibility false in
/-- Loop 5 by its invariant. -/
@[sl_loop] def loopInv5 (E : Set ℕ) (X15 : BufTy.Contents (Elt F) arg15.view.ty) (G17 : BufTy.Contents (Elt F) arg17.view.ty) (G8 : BufTy.Contents (Elt F) arg8.view.ty) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  where
  inv := inv5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8
  step k acc := by
    iintro ⟨H15, ⟨%f17, H17, %h17⟩, ⟨%f8, H8, %h8⟩⟩
    iapply (wp_wand_r Idealize.ShloMosaic.frame (wpE (defs₀ (F := F)) 𝒱 (c : Thread nD τ) bd) E)
    isplitl [H15 H17 H8]
    · iapply ((trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 k f17 f8).2.2 E)
      isplitl [H15]; · iexact H15
      isplitl [H17]; · iexact H17
      iexact H8
    · iintro %_ ⟨H15, H17, H8⟩
      isplitl [H15]; · iexact H15
      rw [st5_succ]
      subst h17 h8
      isplitl [H17]
      · iexists _; isplitl [H17]; · iexact H17
        ipureintro; rfl
      · iexists _; isplitl [H8]; · iexact H8
        ipureintro; rfl

end Cert.Proof.Kernel
-- ==== Proof.Bits.Body.lean ====
/-
  The kernel's body run once, at symbolic memrefs: from the staged blocks at their contents and everything the body
  writes at any contents, it returns with the blocks as they were, the dx block at what the last loop leaves and the dh
  block at the stores made from the lag sums. The contents it leaves are the run's own finds.
-/
module

public import proofs.«01_k».proof.Proof.Bits.Trips
public import proofs.«01_k».proof.Proof.Gen.Kernel.Points

@[expose] public section

-- the body applies some forty operands around each of its parts
set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords) (arg1 : Memref sig .tc .smem S768 .f32) (harg1 : arg1.IsWhole) (arg2 : Memref sig .tc .vmem S8x2048x128 .i8) (harg2 : arg2.IsWhole) (arg3 : Memref sig .tc .vmem S8x2048x128 .i8) (harg3 : arg3.IsWhole) (arg4 : Memref sig .tc .vmem S128x2048 .i8) (harg4 : arg4.IsWhole) (arg5 : Memref sig .tc .vmem S16x32x128 .bf16) (harg5 : arg5.IsWhole) (arg6 : Memref sig .tc .vmem S4x32x128 .bf16) (harg6 : arg6.IsWhole) (arg7 : Memref sig .tc .vmem S4x32x128 .bf16) (harg7 : arg7.IsWhole) (arg8 : Memref sig .tc .vmem S8x2048x128 .bf16) (harg8 : arg8.IsWhole) (arg9 : Memref sig .tc .vmem S128x2048 .f32) (harg9 : arg9.IsWhole) (arg10 : Memref sig .tc .vmem S128x128 .i32) (harg10 : arg10.IsWhole) (arg11 : Memref sig .tc .vmem S16512x128 .i32) (harg11 : arg11.IsWhole) (arg12 : Memref sig .tc .vmem S4104x128 .i32) (harg12 : arg12.IsWhole) (arg13 : Memref sig .tc .vmem S4128x128 .i32) (harg13 : arg13.IsWhole) (arg14 : Memref sig .tc .vmem S2176x128 .i32) (harg14 : arg14.IsWhole) (arg15 : Memref sig .tc .vmem S16512x128 .f32) (harg15 : arg15.IsWhole) (arg16 : Memref sig .tc .vmem S2048x128 .f32) (harg16 : arg16.IsWhole) (arg17 : Memref sig .tc .vmem S2176x128 .f32) (harg17 : arg17.IsWhole)

/-- The body's triple, for any continuation. -/
@[irreducible] def kernelRun (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    Σ' g8 : BufTy.Contents (Elt F) arg8.view.ty, { g9 : BufTy.Contents (Elt F) arg9.view.ty // ∀ (E : Set ℕ) (K : PUnit → sProp 𝕄),
      iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} g8) ∗ (arg9.view.loc (c : Thread nD τ) ↦[arg9.view.set]{fullShare} g9) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))) -∗ K ⟨⟩))
      ⊢ wp frame (wpE (defs₀ (F := F)) 𝒱 (c : Thread nD τ) bd) E (cc0_hyena_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_hyena_bwd_eq_skeleton]
    unfold cc0_hyena_bwd_skel
    iintro ⟨H1, H2, H3, H4, H5, H6, H7, H8, H9, H10, H11, H12, H13, H14, H15, H16, H17, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.Proof.Kernel
-- ==== Proof.Bits.Frame.lean ====
/-
  The launch around the body: at every grid point the body's triple is read at the staged blocks, so every weakly fair
  execution of @main ends with the arguments unchanged and every semaphore at zero. What the two results hold is not
  said here.
-/
module

public import proofs.«01_k».proof.Proof.Bits.Body
public import proofs.«01_k».proof.Proof.Gen.Kernel.Frame

@[expose] public section

set_option maxRecDepth 8192
set_option maxHeartbeats 1000000

noncomputable section

namespace Cert.Proof.Kernel

open Cert.Kernel Cert.Kernel.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body

variable (𝒱 : Variants) (c : Dev nD) (bd : Option 𝒱.V) (i : grid0.Coords) (arg1 : Memref sig .tc .smem S768 .f32) (harg1 : arg1.IsWhole) (arg2 : Memref sig .tc .vmem S8x2048x128 .i8) (harg2 : arg2.IsWhole) (arg3 : Memref sig .tc .vmem S8x2048x128 .i8) (harg3 : arg3.IsWhole) (arg4 : Memref sig .tc .vmem S128x2048 .i8) (harg4 : arg4.IsWhole) (arg5 : Memref sig .tc .vmem S16x32x128 .bf16) (harg5 : arg5.IsWhole) (arg6 : Memref sig .tc .vmem S4x32x128 .bf16) (harg6 : arg6.IsWhole) (arg7 : Memref sig .tc .vmem S4x32x128 .bf16) (harg7 : arg7.IsWhole) (arg8 : Memref sig .tc .vmem S8x2048x128 .bf16) (harg8 : arg8.IsWhole) (arg9 : Memref sig .tc .vmem S128x2048 .f32) (harg9 : arg9.IsWhole) (arg10 : Memref sig .tc .vmem S128x128 .i32) (harg10 : arg10.IsWhole) (arg11 : Memref sig .tc .vmem S16512x128 .i32) (harg11 : arg11.IsWhole) (arg12 : Memref sig .tc .vmem S4104x128 .i32) (harg12 : arg12.IsWhole) (arg13 : Memref sig .tc .vmem S4128x128 .i32) (harg13 : arg13.IsWhole) (arg14 : Memref sig .tc .vmem S2176x128 .i32) (harg14 : arg14.IsWhole) (arg15 : Memref sig .tc .vmem S16512x128 .f32) (harg15 : arg15.IsWhole) (arg16 : Memref sig .tc .vmem S2048x128 .f32) (harg16 : arg16.IsWhole) (arg17 : Memref sig .tc .vmem S2176x128 .f32) (harg17 : arg17.IsWhole)

/-- The body on memrefs owned at read contents: the inputs come back as they were, and whatever is true of the read
    contents the run leaves in the two result blocks, from any contents it may have found, is known of them. -/
theorem sound_kernel (Q8 : Vec F S8x2048x128 .bf16 → Prop) (Q9 : Vec F S128x2048 .f32 → Prop)
    (x1 : Vec F S768 .f32) (x2 : Vec F S8x2048x128 .i8) (x3 : Vec F S8x2048x128 .i8) (x4 : Vec F S128x2048 .i8) (x5 : Vec F S16x32x128 .bf16) (x6 : Vec F S4x32x128 .bf16) (x7 : Vec F S4x32x128 .bf16)
    (hQ : ∀ (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty), arg1.view.read (Elt F) X1 = x1 → arg2.view.read (Elt F) X2 = x2 → arg3.view.read (Elt F) X3 = x3 → arg4.view.read (Elt F) X4 = x4 → arg5.view.read (Elt F) X5 = x5 → arg6.view.read (Elt F) X6 = x6 → arg7.view.read (Elt F) X7 = x7 →
      Q8 (arg8.view.read (Elt F) (kernelRun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 f8 f9 f10 f11 f12 f13 f14 f15 f16 f17).1) ∧ Q9 (arg9.view.read (Elt F) (kernelRun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 f8 f9 f10 f11 f12 f13 f14 f15 f16 f17).2.1)) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, ⌜Q8 d⌝ ∗ owns (c : Thread nD τ) arg8 fullShare d) ∗ (∃ d, ⌜Q9 d⌝ ∗ owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) 𝒱 (c : Thread nD τ) bd) E (cc0_hyena_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%X1, %hx1, H1⟩, ⟨%X2, %hx2, H2⟩, ⟨%X3, %hx3, H3⟩, ⟨%X4, %hx4, H4⟩, ⟨%X5, %hx5, H5⟩, ⟨%X6, %hx6, H6⟩, ⟨%X7, %hx7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  iapply ((kernelRun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 f8 f9 f10 f11 f12 f13 f14 f15 f16 f17).2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%e17, H17⟩⟩
  iapply Hk
  isplitl [H1]; · iexists X1; isplitr; (· ipureintro; exact hx1); iexact H1
  isplitl [H2]; · iexists X2; isplitr; (· ipureintro; exact hx2); iexact H2
  isplitl [H3]; · iexists X3; isplitr; (· ipureintro; exact hx3); iexact H3
  isplitl [H4]; · iexists X4; isplitr; (· ipureintro; exact hx4); iexact H4
  isplitl [H5]; · iexists X5; isplitr; (· ipureintro; exact hx5); iexact H5
  isplitl [H6]; · iexists X6; isplitr; (· ipureintro; exact hx6); iexact H6
  isplitl [H7]; · iexists X7; isplitr; (· ipureintro; exact hx7); iexact H7
  have hq := hQ X1 X2 X3 X4 X5 X6 X7 f8 f9 f10 f11 f12 f13 f14 f15 f16 f17 hx1 hx2 hx3 hx4 hx5 hx6 hx7
  isplitl [H8]; · iexists _; isplitr; (· ipureintro; exact hq.1); iexists _; isplitr; swap; (· iexact H8); ipureintro; rfl
  isplitl [H9]; · iexists _; isplitr; (· ipureintro; exact hq.2); iexists _; isplitr; swap; (· iexact H9); ipureintro; rfl
  isplitl [H10]; · iexists _; iexists _; isplitr; swap; (· iexact H10); ipureintro; rfl
  isplitl [H11]; · iexists _; iexists _; isplitr; swap; (· iexact H11); ipureintro; rfl
  isplitl [H12]; · iexists _; iexists _; isplitr; swap; (· iexact H12); ipureintro; rfl
  isplitl [H13]; · iexists _; iexists _; isplitr; swap; (· iexact H13); ipureintro; rfl
  isplitl [H14]; · iexists _; iexists _; isplitr; swap; (· iexact H14); ipureintro; rfl
  isplitl [H15]; · iexists _; iexists _; isplitr; swap; (· iexact H15); ipureintro; rfl
  isplitl [H16]; · iexists _; iexists _; isplitr; swap; (· iexact H16); ipureintro; rfl
  iexists _; iexists _; isplitr; swap; (· iexact H17); ipureintro; rfl

end Body

variable (m : (ℓ : Loc nD τ sig) → Buf (Elt F) ℓ) (ρ : Dev nD → PrngReg)

/-- The windows whose contents are not named: the two results. -/
def forgets0 : Fin cfg0.W → Bool := fun w => match w with
  | ⟨7, _⟩ | ⟨8, _⟩ => true
  | _ => false

/-- The proof data: each input's buffer at its block, the scratch and the generator register untold, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

/-- The scratch buffers, each as a whole memref owned at some contents. -/
theorem scratch_eq (c : Dev nD) : (Pipeline.scopedRest (Ix := Unit) (Name := ℕ) (U := UR sig nD τ) (Lvl := ℕ) (Val := Elt F) spec0 c : sProp 𝕄)
    = iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) := by
  rw [scopedRest0_eq]; simp only [owns_whole]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d))
    ∗ (∃ d, owns (c : Thread nD τ) (st0_7 t) fullShare d) ∗ (∃ d, owns (c : Thread nD τ) (st0_8 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t)
    ∗ (∃ d, owns (c : Thread nD τ) (st0_7 t) fullShare d) ∗ (∃ d, owns (c : Thread nD τ) (st0_8 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6]
  unfold Pipeline.ΦA
  rw [scratch_eq]
  iintro ⟨⟨⟨H10, H11, H12, H13, H14, H15, H16, H17⟩, Hg⟩, Ho, ⟨%d0, H0⟩, ⟨%d1, H1⟩, ⟨%d2, H2⟩, ⟨%d3, H3⟩, ⟨%d4, H4⟩, ⟨%d5, H5⟩, ⟨%d6, H6⟩, H7, H8⟩
  iapply (sound_kernel Variants.none c none (grid0.coords t) _ _ _ _ _ _ _ _ _ _ _ _ _ _ _ _ _ _ _ _ _ _ _ _ _ _ _ _ _ _ _ _ _ _  (fun _ => True) (fun _ => True) (iblk m c 0 t) (iblk m c 1 t) (iblk m c 2 t) (iblk m c 3 t) (iblk m c 4 t) (iblk m c 5 t) (iblk m c 6 t) (fun _ _ _ _ _ _ _ _ _ _ _ _ _ _ _ _ _ _ _ _ _ _ _ _  => ⟨trivial, trivial⟩) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, ⟨%e7, -, H7⟩, ⟨%e8, -, H8⟩, H10, H11, H12, H13, H14, H15, H16, H17⟩
  isplitl [Hg H10 H11 H12 H13 H14 H15 H16 H17]
  · isplitr [Hg]
    · isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments are unchanged and every semaphore is at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.sem = fun _ => 0) :=
  (θ_run defs _ _).mono (fun _ h => ⟨fun c => ⟨
      (Pipeline.RDat.FramePost.arr_in h.1 c 1 rfl).trans ((A_eq m c 1).trans (V_main_arg0 m c)),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c),
      (Pipeline.RDat.FramePost.arr_in h.1 c 3 rfl).trans ((A_eq m c 3).trans (V_main_arg4 m c)),
      (Pipeline.RDat.FramePost.arr_in h.1 c 0 rfl).trans ((A_eq m c 0).trans (V_main_arg5 m c)),
      ((h.1 c).2 main_arg6 (Pipeline.mem_restRefs_of main_arg6 (by decide) (by decide))).trans (V_main_arg6 m c)⟩, h.2⟩) (run_main m ρ)

end Cert.Proof.Kernel
-- ==== Proof.Ideal.Trips.lean ====
/-
  The four loops of the kernel's body whose rectangles are strided, each as one trip at a symbolic trip number and
  the contents its trips leave.

  For a loop `t` the pieces one trip stores are the witnesses of `trip_t` (found by running the trip, never written
  out); `step_t` writes them over what the trip finds, `st_t` iterates the step from the contents at the loop's entry,
  and `loopInv_t` is the loop's invariant: before trip `k` every buffer the loop writes holds `st_t k`.
  The loops are: 1, the dy codes packed four tokens to a word; 2, the x codes packed; 4, the channels of the block;
  5, the dx tile written back with channels on the lanes.
-/
module

public import proofs.«01_k».proof.Proof.Gen.KernelIdeal.Loops

@[expose] public section

-- the regions apply some forty operands around each recursive call
set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ### Where loop 2 stores -/

theorem off5_eq : ∀ (k : Fin k0_t2_loop.trips) (n : Fin 4),
    k0_off5 k (BitVec.ofNat 32 n.val) = ![32 * (k.val % 16) + 4 * (k.val / 16) + n.val, 0] := by decide +kernel

instance (k : Fin k0_t2_loop.trips) : ClosedOff (k0_off5 k 0#32) := ⟨![32 * (k.val % 16) + 4 * (k.val / 16) + 0, 0], off5_eq k 0⟩
instance (k : Fin k0_t2_loop.trips) : ClosedOff (k0_off5 k 1#32) := ⟨![32 * (k.val % 16) + 4 * (k.val / 16) + 1, 0], off5_eq k 1⟩
instance (k : Fin k0_t2_loop.trips) : ClosedOff (k0_off5 k 2#32) := ⟨![32 * (k.val % 16) + 4 * (k.val / 16) + 2, 0], off5_eq k 2⟩
instance (k : Fin k0_t2_loop.trips) : ClosedOff (k0_off5 k 3#32) := ⟨![32 * (k.val % 16) + 4 * (k.val / 16) + 3, 0], off5_eq k 3⟩

variable {F : FTy → Type} [FloatOps F]

local notation "𝕄" => MT nD τ sig Unit (Elt F) ℕ (UR sig nD τ) ℕ

variable (𝒱 : Variants) (c : Dev nD) (bd : Option 𝒱.V) (i : grid0.Coords) (arg1 : Memref sig .tc .smem S768 .f32) (harg1 : arg1.IsWhole) (arg2 : Memref sig .tc .vmem S8x2048x128 .i8) (harg2 : arg2.IsWhole) (arg3 : Memref sig .tc .vmem S8x2048x128 .i8) (harg3 : arg3.IsWhole) (arg4 : Memref sig .tc .vmem S128x2048 .i8) (harg4 : arg4.IsWhole) (arg5 : Memref sig .tc .vmem S16x32x128 .bf16) (harg5 : arg5.IsWhole) (arg6 : Memref sig .tc .vmem S4x32x128 .bf16) (harg6 : arg6.IsWhole) (arg7 : Memref sig .tc .vmem S4x32x128 .bf16) (harg7 : arg7.IsWhole) (arg8 : Memref sig .tc .vmem S8x2048x128 .bf16) (harg8 : arg8.IsWhole) (arg9 : Memref sig .tc .vmem S128x2048 .f32) (harg9 : arg9.IsWhole) (arg10 : Memref sig .tc .vmem S128x128 .i32) (harg10 : arg10.IsWhole) (arg11 : Memref sig .tc .vmem S16512x128 .i32) (harg11 : arg11.IsWhole) (arg12 : Memref sig .tc .vmem S4104x128 .i32) (harg12 : arg12.IsWhole) (arg13 : Memref sig .tc .vmem S4128x128 .i32) (harg13 : arg13.IsWhole) (arg14 : Memref sig .tc .vmem S2176x128 .i32) (harg14 : arg14.IsWhole) (arg15 : Memref sig .tc .vmem S16512x128 .f32) (harg15 : arg15.IsWhole) (arg16 : Memref sig .tc .vmem S2048x128 .f32) (harg16 : arg16.IsWhole) (arg17 : Memref sig .tc .vmem S2176x128 .f32) (harg17 : arg17.IsWhole)

/-! ### Loop 1: the dy codes packed four tokens to a word -/

/-- One trip's resources: what it reads at its contents, what it writes at any. -/
abbrev Trip1 (X3 : BufTy.Contents (Elt F) arg3.view.ty) (f10 : BufTy.Contents (Elt F) arg10.view.ty) (f11 : BufTy.Contents (Elt F) arg11.view.ty) : sProp 𝕄 :=
  iprop((arg3.view.loc (c : Thread nD τ) ↦[arg3.view.set]{fullShare} X3) ∗ (arg10.view.loc (c : Thread nD τ) ↦[arg10.view.set]{fullShare} f10) ∗ (arg11.view.loc (c : Thread nD τ) ↦[arg11.view.set]{fullShare} f11))

/-- One trip of loop 1 at a symbolic `k`, from the contents it finds: the pieces it stores are the run's finds. -/
@[irreducible] def trip1 (X3 : BufTy.Contents (Elt F) arg3.view.ty) (k : Fin k0_t1_loop.trips) (f10 : BufTy.Contents (Elt F) arg10.view.ty) (f11 : BufTy.Contents (Elt F) arg11.view.ty) :
    Σ' L10 : List (View.Piece (Elt F) S128x128 .i32), { L11 : List (View.Piece (Elt F) S16512x128 .i32) // ∀ (E : Set ℕ),
      Trip1 (F := F) c arg3 arg10 arg11 X3 f10 f11
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  k PUnit.unit)
          (fun _ => Trip1 (F := F) c arg3 arg10 arg11 X3 (arg10.view.writes (Elt F) f10 L10) (arg11.view.writes (Elt F) f11 L11)) } := by
  refine ⟨?_, ?_, fun E => ?run⟩
  case run =>
    unfold k0_t1_body
    iintro ⟨H3, H10, H11⟩
    sl_exec
    sl_step
    sl_close

/-- Trip `k`'s pieces written over the contents it finds. -/
def step1 (X3 : BufTy.Contents (Elt F) arg3.view.ty) (k : ℕ) (s : BufTy.Contents (Elt F) arg10.view.ty × BufTy.Contents (Elt F) arg11.view.ty) : BufTy.Contents (Elt F) arg10.view.ty × BufTy.Contents (Elt F) arg11.view.ty :=
  if h : k < k0_t1_loop.trips then
    (arg10.view.writes (Elt F) s.1 (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 ⟨k, h⟩ s.1 s.2).1, arg11.view.writes (Elt F) s.2 (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 ⟨k, h⟩ s.1 s.2).2.1)
  else s

/-- The contents before trip `k`, from those at the loop's entry. -/
def st1 (X3 : BufTy.Contents (Elt F) arg3.view.ty) (G10 : BufTy.Contents (Elt F) arg10.view.ty) (G11 : BufTy.Contents (Elt F) arg11.view.ty) : ℕ → BufTy.Contents (Elt F) arg10.view.ty × BufTy.Contents (Elt F) arg11.view.ty
  | 0 => (G10, G11)
  | k + 1 => step1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 k (st1  X3 G10 G11 k)

theorem st1_succ (X3 : BufTy.Contents (Elt F) arg3.view.ty) (G10 : BufTy.Contents (Elt F) arg10.view.ty) (G11 : BufTy.Contents (Elt F) arg11.view.ty) (k : Fin k0_t1_loop.trips) :
    st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11 (k.val + 1) = (arg10.view.writes (Elt F) (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11 k.val).1 (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 k (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11 k.val).1 (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11 k.val).2).1,
      arg11.view.writes (Elt F) (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11 k.val).2 (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 k (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11 k.val).1 (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11 k.val).2).2.1) := by
  rw [st1.eq_2]; unfold step1; exact dif_pos k.isLt

/-- The invariant before trip `k`. -/
abbrev inv1 (X3 : BufTy.Contents (Elt F) arg3.view.ty) (G10 : BufTy.Contents (Elt F) arg10.view.ty) (G11 : BufTy.Contents (Elt F) arg11.view.ty) (k : ℕ) (_u : PUnit) : sProp 𝕄 :=
  iprop((arg3.view.loc (c : Thread nD τ) ↦[arg3.view.set]{fullShare} X3) ∗ (∃ f, (arg10.view.loc (c : Thread nD τ) ↦[arg10.view.set]{fullShare} f) ∗ ⌜f = (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11 k).1⌝) ∗ (∃ f, (arg11.view.loc (c : Thread nD τ) ↦[arg11.view.set]{fullShare} f) ∗ ⌜f = (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11 k).2⌝))

set_option warn.classDefReducibility false in
/-- Loop 1 by its invariant. -/
@[sl_loop] def loopInv1 (E : Set ℕ) (X3 : BufTy.Contents (Elt F) arg3.view.ty) (G10 : BufTy.Contents (Elt F) arg10.view.ty) (G11 : BufTy.Contents (Elt F) arg11.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  where
  inv := inv1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 G10 G11
  step k acc := by
    iintro ⟨H3, ⟨%f10, H10, %h10⟩, ⟨%f11, H11, %h11⟩⟩
    iapply (wp_wand_r Idealize.ShloMosaic.frame (wpE (defs₀ (F := F)) 𝒱 (c : Thread nD τ) bd) E)
    isplitl [H3 H10 H11]
    · iapply ((trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X3 k f10 f11).2.2 E)
      isplitl [H3]; · iexact H3
      isplitl [H10]; · iexact H10
      iexact H11
    · iintro %_ ⟨H3, H10, H11⟩
      isplitl [H3]; · iexact H3
      rw [st1_succ]
      subst h10 h11
      isplitl [H10]
      · iexists _; isplitl [H10]; · iexact H10
        ipureintro; rfl
      · iexists _; isplitl [H11]; · iexact H11
        ipureintro; rfl

/-! ### Loop 2: the x codes packed -/

/-- One trip's resources: what it reads at its contents, what it writes at any. -/
abbrev Trip2 (X2 : BufTy.Contents (Elt F) arg2.view.ty) (f12 : BufTy.Contents (Elt F) arg12.view.ty) : sProp 𝕄 :=
  iprop((arg2.view.loc (c : Thread nD τ) ↦[arg2.view.set]{fullShare} X2) ∗ (arg12.view.loc (c : Thread nD τ) ↦[arg12.view.set]{fullShare} f12))

/-- One trip of loop 2 at a symbolic `k`, from the contents it finds: the pieces it stores are the run's finds. -/
@[irreducible] def trip2 (X2 : BufTy.Contents (Elt F) arg2.view.ty) (k : Fin k0_t2_loop.trips) (f12 : BufTy.Contents (Elt F) arg12.view.ty) :
    { L12 : List (View.Piece (Elt F) S4104x128 .i32) // ∀ (E : Set ℕ),
      Trip2 (F := F) c arg2 arg12 X2 f12
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k PUnit.unit)
          (fun _ => Trip2 (F := F) c arg2 arg12 X2 (arg12.view.writes (Elt F) f12 L12)) } := by
  refine ⟨?_, fun E => ?run⟩
  case run =>
    unfold k0_t2_body
    iintro ⟨H2, H12⟩
    sl_exec
    sl_step
    sl_close

/-- Trip `k`'s pieces written over the contents it finds. -/
def step2 (X2 : BufTy.Contents (Elt F) arg2.view.ty) (k : ℕ) (s : BufTy.Contents (Elt F) arg12.view.ty) : BufTy.Contents (Elt F) arg12.view.ty :=
  if h : k < k0_t2_loop.trips then arg12.view.writes (Elt F) s (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 ⟨k, h⟩ s).1 else s

/-- The contents before trip `k`, from those at the loop's entry. -/
def st2 (X2 : BufTy.Contents (Elt F) arg2.view.ty) (G12 : BufTy.Contents (Elt F) arg12.view.ty) : ℕ → BufTy.Contents (Elt F) arg12.view.ty
  | 0 => G12
  | k + 1 => step2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 k (st2 X2 G12 k)

theorem st2_succ (X2 : BufTy.Contents (Elt F) arg2.view.ty) (G12 : BufTy.Contents (Elt F) arg12.view.ty) (k : Fin k0_t2_loop.trips) :
    st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 G12 (k.val + 1) = arg12.view.writes (Elt F) (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 G12 k.val) (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 k (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 G12 k.val)).1 := by
  rw [st2.eq_2]; unfold step2; exact dif_pos k.isLt

/-- The invariant before trip `k`. -/
abbrev inv2 (X2 : BufTy.Contents (Elt F) arg2.view.ty) (G12 : BufTy.Contents (Elt F) arg12.view.ty) (k : ℕ) (_u : PUnit) : sProp 𝕄 :=
  iprop((arg2.view.loc (c : Thread nD τ) ↦[arg2.view.set]{fullShare} X2) ∗ (∃ f, (arg12.view.loc (c : Thread nD τ) ↦[arg12.view.set]{fullShare} f) ∗ ⌜f = st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 G12 k⌝))

set_option warn.classDefReducibility false in
/-- Loop 2 by its invariant. -/
@[sl_loop] def loopInv2 (E : Set ℕ) (X2 : BufTy.Contents (Elt F) arg2.view.ty) (G12 : BufTy.Contents (Elt F) arg12.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 where
  inv := inv2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 G12
  step k acc := by
    iintro ⟨H2, ⟨%f12, H12, %h⟩⟩
    iapply (wp_wand_r Idealize.ShloMosaic.frame (wpE (defs₀ (F := F)) 𝒱 (c : Thread nD τ) bd) E)
    isplitl [H2 H12]
    · iapply ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 k f12).2 E)
      isplitl [H2]; · iexact H2
      iexact H12
    · iintro %_ ⟨H2, H12⟩
      isplitl [H2]; · iexact H2
      rw [st2_succ]
      subst h
      iexists _; isplitl [H12]; · iexact H12
      ipureintro; rfl

/-! ### Loop 4: the channels of the block -/

/-- One trip's resources: what it reads at its contents, what it writes at any. -/
abbrev Trip4 (X1 : BufTy.Contents (Elt F) arg1.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (f15 : BufTy.Contents (Elt F) arg15.view.ty) (f16 : BufTy.Contents (Elt F) arg16.view.ty) : sProp 𝕄 :=
  iprop((arg1.view.loc (c : Thread nD τ) ↦[arg1.view.set]{fullShare} X1) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} f15) ∗ (arg16.view.loc (c : Thread nD τ) ↦[arg16.view.set]{fullShare} f16))

/-- One trip of loop 4 at a symbolic `k`, from the contents it finds: the pieces it stores are the run's finds. -/
@[irreducible] def trip4 (arg0 : BitVec 32) (v1035 : IVec S8x2048 32) (v1264 : IVec S8x128 32) (X1 : BufTy.Contents (Elt F) arg1.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (k : Fin k0_t4_loop.trips) (f15 : BufTy.Contents (Elt F) arg15.view.ty) (f16 : BufTy.Contents (Elt F) arg16.view.ty) :
    Σ' L15 : List (View.Piece (Elt F) S16512x128 .f32), { L16 : List (View.Piece (Elt F) S2048x128 .f32) // ∀ (E : Set ℕ),
      Trip4 (F := F) c arg1 arg5 arg6 arg7 arg11 arg13 arg14 arg15 arg16 X1 X5 X6 X7 X11 X13 X14 f15 f16
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 k PUnit.unit)
          (fun _ => Trip4 (F := F) c arg1 arg5 arg6 arg7 arg11 arg13 arg14 arg15 arg16 X1 X5 X6 X7 X11 X13 X14 (arg15.view.writes (Elt F) f15 L15) (arg16.view.writes (Elt F) f16 L16)) } := by
  refine ⟨?_, ?_, fun E => ?run⟩
  case run =>
    unfold k0_t4_body
    iintro ⟨H1, H5, H6, H7, H11, H13, H14, H15, H16⟩
    sl_exec
    sl_step
    sl_close

/-- Trip `k`'s pieces written over the contents it finds. -/
def step4 (arg0 : BitVec 32) (v1035 : IVec S8x2048 32) (v1264 : IVec S8x128 32) (X1 : BufTy.Contents (Elt F) arg1.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (k : ℕ) (s : BufTy.Contents (Elt F) arg15.view.ty × BufTy.Contents (Elt F) arg16.view.ty) : BufTy.Contents (Elt F) arg15.view.ty × BufTy.Contents (Elt F) arg16.view.ty :=
  if h : k < k0_t4_loop.trips then
    (arg15.view.writes (Elt F) s.1 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 ⟨k, h⟩ s.1 s.2).1, arg16.view.writes (Elt F) s.2 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 ⟨k, h⟩ s.1 s.2).2.1)
  else s

/-- The contents before trip `k`, from those at the loop's entry. -/
def st4 (arg0 : BitVec 32) (v1035 : IVec S8x2048 32) (v1264 : IVec S8x128 32) (X1 : BufTy.Contents (Elt F) arg1.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (G15 : BufTy.Contents (Elt F) arg15.view.ty) (G16 : BufTy.Contents (Elt F) arg16.view.ty) : ℕ → BufTy.Contents (Elt F) arg15.view.ty × BufTy.Contents (Elt F) arg16.view.ty
  | 0 => (G15, G16)
  | k + 1 => step4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 k (st4 arg0 v1035 v1264 X1 X5 X6 X7 X11 X13 X14 G15 G16 k)

theorem st4_succ (arg0 : BitVec 32) (v1035 : IVec S8x2048 32) (v1264 : IVec S8x128 32) (X1 : BufTy.Contents (Elt F) arg1.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (G15 : BufTy.Contents (Elt F) arg15.view.ty) (G16 : BufTy.Contents (Elt F) arg16.view.ty) (k : Fin k0_t4_loop.trips) :
    st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 (k.val + 1) = (arg15.view.writes (Elt F) (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k.val).1 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 k (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k.val).1 (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k.val).2).1,
      arg16.view.writes (Elt F) (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k.val).2 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 k (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k.val).1 (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k.val).2).2.1) := by
  rw [st4.eq_2]; unfold step4; exact dif_pos k.isLt

/-- The invariant before trip `k`. -/
abbrev inv4 (arg0 : BitVec 32) (v1035 : IVec S8x2048 32) (v1264 : IVec S8x128 32) (X1 : BufTy.Contents (Elt F) arg1.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (G15 : BufTy.Contents (Elt F) arg15.view.ty) (G16 : BufTy.Contents (Elt F) arg16.view.ty) (k : ℕ) (_u : PUnit) : sProp 𝕄 :=
  iprop((arg1.view.loc (c : Thread nD τ) ↦[arg1.view.set]{fullShare} X1) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg13.view.loc (c : Thread nD τ) ↦[arg13.view.set]{fullShare} X13) ∗ (arg14.view.loc (c : Thread nD τ) ↦[arg14.view.set]{fullShare} X14) ∗ (∃ f, (arg15.view.loc (c : Thread nD τ) ↦[arg15.view.set]{fullShare} f) ∗ ⌜f = (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k).1⌝) ∗ (∃ f, (arg16.view.loc (c : Thread nD τ) ↦[arg16.view.set]{fullShare} f) ∗ ⌜f = (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k).2⌝))

set_option warn.classDefReducibility false in
/-- Loop 4 by its invariant. -/
@[sl_loop] def loopInv4 (E : Set ℕ) (arg0 : BitVec 32) (v1035 : IVec S8x2048 32) (v1264 : IVec S8x128 32) (X1 : BufTy.Contents (Elt F) arg1.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (G15 : BufTy.Contents (Elt F) arg15.view.ty) (G16 : BufTy.Contents (Elt F) arg16.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 where
  inv := inv4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16
  step k acc := by
    iintro ⟨H1, H5, H6, H7, H11, H13, H14, ⟨%f15, H15, %h15⟩, ⟨%f16, H16, %h16⟩⟩
    iapply (wp_wand_r Idealize.ShloMosaic.frame (wpE (defs₀ (F := F)) 𝒱 (c : Thread nD τ) bd) E)
    isplitl [H1 H5 H6 H7 H11 H13 H14 H15 H16]
    · iapply ((trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 k f15 f16).2.2 E)
      isplitl [H1]; · iexact H1
      isplitl [H5]; · iexact H5
      isplitl [H6]; · iexact H6
      isplitl [H7]; · iexact H7
      isplitl [H11]; · iexact H11
      isplitl [H13]; · iexact H13
      isplitl [H14]; · iexact H14
      isplitl [H15]; · iexact H15
      iexact H16
    · iintro %_ ⟨H1, H5, H6, H7, H11, H13, H14, H15, H16⟩
      isplitl [H1]; · iexact H1
      isplitl [H5]; · iexact H5
      isplitl [H6]; · iexact H6
      isplitl [H7]; · iexact H7
      isplitl [H11]; · iexact H11
      isplitl [H13]; · iexact H13
      isplitl [H14]; · iexact H14
      rw [st4_succ]
      subst h15 h16
      isplitl [H15]
      · iexists _; isplitl [H15]; · iexact H15
        ipureintro; rfl
      · iexists _; isplitl [H16]; · iexact H16
        ipureintro; rfl

/-! ### Loop 5: the dx tile written back with channels on the lanes -/

/-- One trip's resources: what it reads at its contents, what it writes at any. -/
abbrev Trip5 (X15 : BufTy.Contents (Elt F) arg15.view.ty) (f17 : BufTy.Contents (Elt F) arg17.view.ty) (f8 : BufTy.Contents (Elt F) arg8.view.ty) : sProp 𝕄 :=
  iprop((arg15.view.loc (c : Thread nD τ) ↦[arg15.view.set]{fullShare} X15) ∗ (arg17.view.loc (c : Thread nD τ) ↦[arg17.view.set]{fullShare} f17) ∗ (arg8.view.loc (c : Thread nD τ) ↦[arg8.view.set]{fullShare} f8))

/-- One trip of loop 5 at a symbolic `k`, from the contents it finds: the pieces it stores are the run's finds. -/
@[irreducible] def trip5 (X15 : BufTy.Contents (Elt F) arg15.view.ty) (k : Fin k0_t5_loop.trips) (f17 : BufTy.Contents (Elt F) arg17.view.ty) (f8 : BufTy.Contents (Elt F) arg8.view.ty) :
    Σ' L17 : List (View.Piece (Elt F) S2176x128 .f32), { L8 : List (View.Piece (Elt F) S8x2048x128 .bf16) // ∀ (E : Set ℕ),
      Trip5 (F := F) c arg8 arg15 arg17 X15 f17 f8
      ⊢ wp frame (wpE (defs₀ (F := F)) 𝒱 (c : Thread nD τ) bd) E (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  k PUnit.unit)
          (fun _ => Trip5 (F := F) c arg8 arg15 arg17 X15 (arg17.view.writes (Elt F) f17 L17) (arg8.view.writes (Elt F) f8 L8)) } := by
  refine ⟨?_, ?_, fun E => ?run⟩
  case run =>
    unfold k0_t5_body
    iintro ⟨H15, H17, H8⟩
    sl_exec
    sl_step
    sl_close

/-- Trip `k`'s pieces written over the contents it finds. -/
def step5 (X15 : BufTy.Contents (Elt F) arg15.view.ty) (k : ℕ) (s : BufTy.Contents (Elt F) arg17.view.ty × BufTy.Contents (Elt F) arg8.view.ty) : BufTy.Contents (Elt F) arg17.view.ty × BufTy.Contents (Elt F) arg8.view.ty :=
  if h : k < k0_t5_loop.trips then
    (arg17.view.writes (Elt F) s.1 (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 ⟨k, h⟩ s.1 s.2).1, arg8.view.writes (Elt F) s.2 (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 ⟨k, h⟩ s.1 s.2).2.1)
  else s

/-- The contents before trip `k`, from those at the loop's entry. -/
def st5 (X15 : BufTy.Contents (Elt F) arg15.view.ty) (G17 : BufTy.Contents (Elt F) arg17.view.ty) (G8 : BufTy.Contents (Elt F) arg8.view.ty) : ℕ → BufTy.Contents (Elt F) arg17.view.ty × BufTy.Contents (Elt F) arg8.view.ty
  | 0 => (G17, G8)
  | k + 1 => step5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 k (st5  X15 G17 G8 k)

theorem st5_succ (X15 : BufTy.Contents (Elt F) arg15.view.ty) (G17 : BufTy.Contents (Elt F) arg17.view.ty) (G8 : BufTy.Contents (Elt F) arg8.view.ty) (k : Fin k0_t5_loop.trips) :
    st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8 (k.val + 1) = (arg17.view.writes (Elt F) (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8 k.val).1 (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 k (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8 k.val).1 (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8 k.val).2).1,
      arg8.view.writes (Elt F) (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8 k.val).2 (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 k (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8 k.val).1 (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8 k.val).2).2.1) := by
  rw [st5.eq_2]; unfold step5; exact dif_pos k.isLt

/-- The invariant before trip `k`. -/
abbrev inv5 (X15 : BufTy.Contents (Elt F) arg15.view.ty) (G17 : BufTy.Contents (Elt F) arg17.view.ty) (G8 : BufTy.Contents (Elt F) arg8.view.ty) (k : ℕ) (_u : PUnit) : sProp 𝕄 :=
  iprop((arg15.view.loc (c : Thread nD τ) ↦[arg15.view.set]{fullShare} X15) ∗ (∃ f, (arg17.view.loc (c : Thread nD τ) ↦[arg17.view.set]{fullShare} f) ∗ ⌜f = (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8 k).1⌝) ∗ (∃ f, (arg8.view.loc (c : Thread nD τ) ↦[arg8.view.set]{fullShare} f) ∗ ⌜f = (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8 k).2⌝))

set_option warn.classDefReducibility false in
/-- Loop 5 by its invariant. -/
@[sl_loop] def loopInv5 (E : Set ℕ) (X15 : BufTy.Contents (Elt F) arg15.view.ty) (G17 : BufTy.Contents (Elt F) arg17.view.ty) (G8 : BufTy.Contents (Elt F) arg8.view.ty) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  where
  inv := inv5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 G17 G8
  step k acc := by
    iintro ⟨H15, ⟨%f17, H17, %h17⟩, ⟨%f8, H8, %h8⟩⟩
    iapply (wp_wand_r Idealize.ShloMosaic.frame (wpE (defs₀ (F := F)) 𝒱 (c : Thread nD τ) bd) E)
    isplitl [H15 H17 H8]
    · iapply ((trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X15 k f17 f8).2.2 E)
      isplitl [H15]; · iexact H15
      isplitl [H17]; · iexact H17
      iexact H8
    · iintro %_ ⟨H15, H17, H8⟩
      isplitl [H15]; · iexact H15
      rw [st5_succ]
      subst h17 h8
      isplitl [H17]
      · iexists _; isplitl [H17]; · iexact H17
        ipureintro; rfl
      · iexists _; isplitl [H8]; · iexact H8
        ipureintro; rfl

end Cert.Proof.KernelIdeal
-- ==== Proof.Ideal.Body.lean ====
/-
  The kernel's body run once, at symbolic memrefs: from the staged blocks at their contents and everything the body
  writes at any contents, it returns with the blocks as they were, the dx block at what the last loop leaves and the dh
  block at the stores made from the lag sums. The contents it leaves are the run's own finds.
-/
module

public import proofs.«01_k».proof.Proof.Ideal.Trips
public import proofs.«01_k».proof.Proof.Gen.KernelIdeal.Points

@[expose] public section

-- the body applies some forty operands around each of its parts
set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords) (arg1 : Memref sig .tc .smem S768 .f32) (harg1 : arg1.IsWhole) (arg2 : Memref sig .tc .vmem S8x2048x128 .i8) (harg2 : arg2.IsWhole) (arg3 : Memref sig .tc .vmem S8x2048x128 .i8) (harg3 : arg3.IsWhole) (arg4 : Memref sig .tc .vmem S128x2048 .i8) (harg4 : arg4.IsWhole) (arg5 : Memref sig .tc .vmem S16x32x128 .bf16) (harg5 : arg5.IsWhole) (arg6 : Memref sig .tc .vmem S4x32x128 .bf16) (harg6 : arg6.IsWhole) (arg7 : Memref sig .tc .vmem S4x32x128 .bf16) (harg7 : arg7.IsWhole) (arg8 : Memref sig .tc .vmem S8x2048x128 .bf16) (harg8 : arg8.IsWhole) (arg9 : Memref sig .tc .vmem S128x2048 .f32) (harg9 : arg9.IsWhole) (arg10 : Memref sig .tc .vmem S128x128 .i32) (harg10 : arg10.IsWhole) (arg11 : Memref sig .tc .vmem S16512x128 .i32) (harg11 : arg11.IsWhole) (arg12 : Memref sig .tc .vmem S4104x128 .i32) (harg12 : arg12.IsWhole) (arg13 : Memref sig .tc .vmem S4128x128 .i32) (harg13 : arg13.IsWhole) (arg14 : Memref sig .tc .vmem S2176x128 .i32) (harg14 : arg14.IsWhole) (arg15 : Memref sig .tc .vmem S16512x128 .f32) (harg15 : arg15.IsWhole) (arg16 : Memref sig .tc .vmem S2048x128 .f32) (harg16 : arg16.IsWhole) (arg17 : Memref sig .tc .vmem S2176x128 .f32) (harg17 : arg17.IsWhole)

/-- The body's triple, for any continuation. -/
@[irreducible] def kernelRun (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    Σ' g8 : BufTy.Contents (Elt F) arg8.view.ty, { g9 : BufTy.Contents (Elt F) arg9.view.ty // ∀ (E : Set ℕ) (K : PUnit → sProp 𝕄),
      iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} g8) ∗ (arg9.view.loc (c : Thread nD τ) ↦[arg9.view.set]{fullShare} g9) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))) -∗ K ⟨⟩))
      ⊢ wp frame (wpE (defs₀ (F := F)) 𝒱 (c : Thread nD τ) bd) E (cc0_hyena_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_hyena_bwd_eq_skeleton]
    unfold cc0_hyena_bwd_skel
    iintro ⟨H1, H2, H3, H4, H5, H6, H7, H8, H9, H10, H11, H12, H13, H14, H15, H16, H17, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.Proof.KernelIdeal
-- ==== Proof.Ideal.Frame.lean ====
/-
  The launch around the body: at every grid point the body's triple is read at the staged blocks, so every weakly fair
  execution of @main ends with the arguments unchanged and every semaphore at zero. What the two results hold is not
  said here.
-/
module

public import proofs.«01_k».proof.Proof.Ideal.Body
public import proofs.«01_k».proof.Proof.Gen.KernelIdeal.Frame

@[expose] public section

set_option maxRecDepth 8192
set_option maxHeartbeats 1000000

noncomputable section

namespace Cert.Proof.KernelIdeal

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body

variable (𝒱 : Variants) (c : Dev nD) (bd : Option 𝒱.V) (i : grid0.Coords) (arg1 : Memref sig .tc .smem S768 .f32) (harg1 : arg1.IsWhole) (arg2 : Memref sig .tc .vmem S8x2048x128 .i8) (harg2 : arg2.IsWhole) (arg3 : Memref sig .tc .vmem S8x2048x128 .i8) (harg3 : arg3.IsWhole) (arg4 : Memref sig .tc .vmem S128x2048 .i8) (harg4 : arg4.IsWhole) (arg5 : Memref sig .tc .vmem S16x32x128 .bf16) (harg5 : arg5.IsWhole) (arg6 : Memref sig .tc .vmem S4x32x128 .bf16) (harg6 : arg6.IsWhole) (arg7 : Memref sig .tc .vmem S4x32x128 .bf16) (harg7 : arg7.IsWhole) (arg8 : Memref sig .tc .vmem S8x2048x128 .bf16) (harg8 : arg8.IsWhole) (arg9 : Memref sig .tc .vmem S128x2048 .f32) (harg9 : arg9.IsWhole) (arg10 : Memref sig .tc .vmem S128x128 .i32) (harg10 : arg10.IsWhole) (arg11 : Memref sig .tc .vmem S16512x128 .i32) (harg11 : arg11.IsWhole) (arg12 : Memref sig .tc .vmem S4104x128 .i32) (harg12 : arg12.IsWhole) (arg13 : Memref sig .tc .vmem S4128x128 .i32) (harg13 : arg13.IsWhole) (arg14 : Memref sig .tc .vmem S2176x128 .i32) (harg14 : arg14.IsWhole) (arg15 : Memref sig .tc .vmem S16512x128 .f32) (harg15 : arg15.IsWhole) (arg16 : Memref sig .tc .vmem S2048x128 .f32) (harg16 : arg16.IsWhole) (arg17 : Memref sig .tc .vmem S2176x128 .f32) (harg17 : arg17.IsWhole)

/-- The body on memrefs owned at read contents: the inputs come back as they were, and whatever is true of the read
    contents the run leaves in the two result blocks, from any contents it may have found, is known of them. -/
theorem sound_kernel (Q8 : Vec F S8x2048x128 .bf16 → Prop) (Q9 : Vec F S128x2048 .f32 → Prop)
    (x1 : Vec F S768 .f32) (x2 : Vec F S8x2048x128 .i8) (x3 : Vec F S8x2048x128 .i8) (x4 : Vec F S128x2048 .i8) (x5 : Vec F S16x32x128 .bf16) (x6 : Vec F S4x32x128 .bf16) (x7 : Vec F S4x32x128 .bf16)
    (hQ : ∀ (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty), arg1.view.read (Elt F) X1 = x1 → arg2.view.read (Elt F) X2 = x2 → arg3.view.read (Elt F) X3 = x3 → arg4.view.read (Elt F) X4 = x4 → arg5.view.read (Elt F) X5 = x5 → arg6.view.read (Elt F) X6 = x6 → arg7.view.read (Elt F) X7 = x7 →
      Q8 (arg8.view.read (Elt F) (kernelRun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 f8 f9 f10 f11 f12 f13 f14 f15 f16 f17).1) ∧ Q9 (arg9.view.read (Elt F) (kernelRun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 f8 f9 f10 f11 f12 f13 f14 f15 f16 f17).2.1)) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, ⌜Q8 d⌝ ∗ owns (c : Thread nD τ) arg8 fullShare d) ∗ (∃ d, ⌜Q9 d⌝ ∗ owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) 𝒱 (c : Thread nD τ) bd) E (cc0_hyena_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%X1, %hx1, H1⟩, ⟨%X2, %hx2, H2⟩, ⟨%X3, %hx3, H3⟩, ⟨%X4, %hx4, H4⟩, ⟨%X5, %hx5, H5⟩, ⟨%X6, %hx6, H6⟩, ⟨%X7, %hx7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  iapply ((kernelRun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 f8 f9 f10 f11 f12 f13 f14 f15 f16 f17).2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%e17, H17⟩⟩
  iapply Hk
  isplitl [H1]; · iexists X1; isplitr; (· ipureintro; exact hx1); iexact H1
  isplitl [H2]; · iexists X2; isplitr; (· ipureintro; exact hx2); iexact H2
  isplitl [H3]; · iexists X3; isplitr; (· ipureintro; exact hx3); iexact H3
  isplitl [H4]; · iexists X4; isplitr; (· ipureintro; exact hx4); iexact H4
  isplitl [H5]; · iexists X5; isplitr; (· ipureintro; exact hx5); iexact H5
  isplitl [H6]; · iexists X6; isplitr; (· ipureintro; exact hx6); iexact H6
  isplitl [H7]; · iexists X7; isplitr; (· ipureintro; exact hx7); iexact H7
  have hq := hQ X1 X2 X3 X4 X5 X6 X7 f8 f9 f10 f11 f12 f13 f14 f15 f16 f17 hx1 hx2 hx3 hx4 hx5 hx6 hx7
  isplitl [H8]; · iexists _; isplitr; (· ipureintro; exact hq.1); iexists _; isplitr; swap; (· iexact H8); ipureintro; rfl
  isplitl [H9]; · iexists _; isplitr; (· ipureintro; exact hq.2); iexists _; isplitr; swap; (· iexact H9); ipureintro; rfl
  isplitl [H10]; · iexists _; iexists _; isplitr; swap; (· iexact H10); ipureintro; rfl
  isplitl [H11]; · iexists _; iexists _; isplitr; swap; (· iexact H11); ipureintro; rfl
  isplitl [H12]; · iexists _; iexists _; isplitr; swap; (· iexact H12); ipureintro; rfl
  isplitl [H13]; · iexists _; iexists _; isplitr; swap; (· iexact H13); ipureintro; rfl
  isplitl [H14]; · iexists _; iexists _; isplitr; swap; (· iexact H14); ipureintro; rfl
  isplitl [H15]; · iexists _; iexists _; isplitr; swap; (· iexact H15); ipureintro; rfl
  isplitl [H16]; · iexists _; iexists _; isplitr; swap; (· iexact H16); ipureintro; rfl
  iexists _; iexists _; isplitr; swap; (· iexact H17); ipureintro; rfl

end Body

variable (m : (ℓ : Loc nD τ sig) → Buf (Elt F) ℓ) (ρ : Dev nD → PrngReg)

/-- The windows whose contents are not named: the two results. -/
def forgets0 : Fin cfg0.W → Bool := fun w => match w with
  | ⟨7, _⟩ | ⟨8, _⟩ => true
  | _ => false

/-- The proof data: each input's buffer at its block, the scratch and the generator register untold, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

/-- The scratch buffers, each as a whole memref owned at some contents. -/
theorem scratch_eq (c : Dev nD) : (Pipeline.scopedRest (Ix := Unit) (Name := ℕ) (U := UR sig nD τ) (Lvl := ℕ) (Val := Elt F) spec0 c : sProp 𝕄)
    = iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) := by
  rw [scopedRest0_eq]; simp only [owns_whole]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d))
    ∗ (∃ d, owns (c : Thread nD τ) (st0_7 t) fullShare d) ∗ (∃ d, owns (c : Thread nD τ) (st0_8 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t)
    ∗ (∃ d, owns (c : Thread nD τ) (st0_7 t) fullShare d) ∗ (∃ d, owns (c : Thread nD τ) (st0_8 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6]
  unfold Pipeline.ΦA
  rw [scratch_eq]
  iintro ⟨⟨⟨H10, H11, H12, H13, H14, H15, H16, H17⟩, Hg⟩, Ho, ⟨%d0, H0⟩, ⟨%d1, H1⟩, ⟨%d2, H2⟩, ⟨%d3, H3⟩, ⟨%d4, H4⟩, ⟨%d5, H5⟩, ⟨%d6, H6⟩, H7, H8⟩
  iapply (sound_kernel Variants.none c none (grid0.coords t) _ _ _ _ _ _ _ _ _ _ _ _ _ _ _ _ _ _ _ _ _ _ _ _ _ _ _ _ _ _ _ _ _ _  (fun _ => True) (fun _ => True) (iblk m c 0 t) (iblk m c 1 t) (iblk m c 2 t) (iblk m c 3 t) (iblk m c 4 t) (iblk m c 5 t) (iblk m c 6 t) (fun _ _ _ _ _ _ _ _ _ _ _ _ _ _ _ _ _ _ _ _ _ _ _ _  => ⟨trivial, trivial⟩) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, ⟨%e7, -, H7⟩, ⟨%e8, -, H8⟩, H10, H11, H12, H13, H14, H15, H16, H17⟩
  isplitl [Hg H10 H11 H12 H13 H14 H15 H16 H17]
  · isplitr [Hg]
    · isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments are unchanged and every semaphore is at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.sem = fun _ => 0) :=
  (θ_run defs _ _).mono (fun _ h => ⟨fun c => ⟨
      (Pipeline.RDat.FramePost.arr_in h.1 c 1 rfl).trans ((A_eq m c 1).trans (V_main_arg0 m c)),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c),
      (Pipeline.RDat.FramePost.arr_in h.1 c 3 rfl).trans ((A_eq m c 3).trans (V_main_arg4 m c)),
      (Pipeline.RDat.FramePost.arr_in h.1 c 0 rfl).trans ((A_eq m c 0).trans (V_main_arg5 m c)),
      ((h.1 c).2 main_arg6 (Pipeline.mem_restRefs_of main_arg6 (by decide) (by decide))).trans (V_main_arg6 m c)⟩, h.2⟩) (run_main m ρ)

end Cert.Proof.KernelIdeal
-- ==== Proof.Ideal.Words.lean ====
/-
  Four bytes in a word: the byte interleave of four words, the byte reversal, and the reinterpretation between eight-bit
  rows and words, each read byte by byte.
-/
module

public import proofs.«01_k».proof.Proof.Gen.KernelIdeal.Loops
public import Idealize.ShloMosaic.Lib.Pointwise
public import Idealize.ShloMosaic.Lib.BitcastFour

@[expose] public section

noncomputable section

namespace Cert.Proof.KernelIdeal

open Idealize.ShloMosaic

/-- Byte `j` of a word. -/
def byte (w : BitVec 32) (j : ℕ) : BitVec 8 := w.extractLsb' (8 * j) 8

section
variable {s : Shape}

/-- The even bytes of two words interleaved. -/
def evenPair (a b : IVec s 32) : IVec s 32 :=
  ori (andi a (broadcast s 16711935#32)) (shli (andi b (broadcast s 16711935#32)) (broadcast s 8#32))
/-- The odd bytes of two words interleaved. -/
def oddPair (a b : IVec s 32) : IVec s 32 :=
  ori (andi (shrui a (broadcast s 8#32)) (broadcast s 16711935#32)) (andi b (broadcast s 4278255360#32))
/-- The low halves of two words. -/
def lowHalves (e f : IVec s 32) : IVec s 32 :=
  ori (andi e (broadcast s 65535#32)) (shli f (broadcast s 16#32))
/-- The high halves of two words. -/
def highHalves (e f : IVec s 32) : IVec s 32 :=
  ori (shrui e (broadcast s 16#32)) (andi f (broadcast s 4294901760#32))

/-- Byte `r` of each of four words, as one word. -/
def interleave (r : ℕ) (a0 a1 a2 a3 : IVec s 32) : IVec s 32 :=
  match r with
  | 0 => lowHalves (evenPair a0 a1) (evenPair a2 a3)
  | 1 => lowHalves (oddPair a0 a1) (oddPair a2 a3)
  | 2 => highHalves (evenPair a0 a1) (evenPair a2 a3)
  | _ => highHalves (oddPair a0 a1) (oddPair a2 a3)

/-- The halves of a word exchanged. -/
def swapHalves (w : IVec s 32) : IVec s 32 := ori (shli w (broadcast s 16#32)) (shrui w (broadcast s 16#32))
/-- The bytes of a word in reverse order. -/
def reverseBytes (w : IVec s 32) : IVec s 32 :=
  ori (shli (andi (swapHalves w) (broadcast s 16711935#32)) (broadcast s 8#32))
    (andi (shrui (swapHalves w) (broadcast s 8#32)) (broadcast s 16711935#32))

theorem byte_ext {w : BitVec 32} {j : ℕ} {b : BitVec 8} (h : ∀ i < 8, w.getLsbD (8 * j + i) = b.getLsbD i) : byte w j = b := by
  apply BitVec.eq_of_getLsbD_eq
  intro i hi
  unfold byte
  rw [BitVec.getLsbD_extractLsb']
  simp only [hi, decide_true, Bool.true_and]
  exact h i hi

theorem byte_getLsbD (w : BitVec 32) (j i : ℕ) (hi : i < 8) : (byte w j).getLsbD i = w.getLsbD (8 * j + i) := by
  unfold byte
  rw [BitVec.getLsbD_extractLsb']
  simp [hi]

theorem interleave_byte (r j : ℕ) (hr : r < 4) (hj : j < 4) (a0 a1 a2 a3 : IVec s 32) (x : s.Idx) :
    byte (interleave r a0 a1 a2 a3 x) j = byte (![a0 x, a1 x, a2 x, a3 x] ⟨j, hj⟩) r := by
  refine byte_ext fun i hi => ?_
  rw [byte_getLsbD _ _ _ hi]
  interval_cases r <;> interval_cases j <;> interval_cases i <;>
    simp [interleave, lowHalves, highHalves, evenPair, oddPair, ori, andi, shli, shrui, broadcast, IntOp.ori, IntOp.andi, IntOp.shli, IntOp.shrui]

theorem reverse_byte (j : ℕ) (hj : j < 4) (a : IVec s 32) (x : s.Idx) : byte (reverseBytes a x) j = byte (a x) (3 - j) := by
  refine byte_ext fun i hi => ?_
  rw [byte_getLsbD _ _ _ hi]
  interval_cases j <;> interval_cases i <;>
    simp [reverseBytes, swapHalves, ori, andi, shli, shrui, broadcast, IntOp.ori, IntOp.andi, IntOp.shli, IntOp.shrui]
end

/-- A word made of four eight-bit rows: byte `j` is row `4 r + j`. -/
theorem byte_bitcast {R r n : ℕ} (x : (⟨2, ![R, n]⟩ : Shape).Idx → BitVec 8)
    (h : (⟨2, ![R, n]⟩ : Shape).Bitcasts 8 ⟨2, ![r, n]⟩ 32) (a : Fin r) (l : Fin n) (j : ℕ) (hj : j < 4) (p : Fin R) (hp : p.val = 4 * a.val + j) :
    byte (bitcast ⟨2, ![r, n]⟩ 32 x h (ix2 a l)) j = x (ix2 p l) := by
  refine byte_ext fun i hi => ?_
  rw [show (ix2 a l : (⟨2, ![r, n]⟩ : Shape).Idx) = ValueIdx.ix2 a l from rfl, bitcast_8_32_getLsbD_ix2 x h a l _ (by omega) p (by omega)]
  rw [show (8 * j + i) % 8 = i by omega]
  rfl

/-- Rows of eight bits from words: row `p` is byte `p % 4` of word `p / 4`. -/
theorem bitcast_word {R r n : ℕ} (x : (⟨2, ![r, n]⟩ : Shape).Idx → BitVec 32)
    (h : (⟨2, ![r, n]⟩ : Shape).Bitcasts 32 ⟨2, ![R, n]⟩ 8) (p : Fin R) (l : Fin n) (hp : p.val / 4 < r) :
    bitcast ⟨2, ![R, n]⟩ 8 x h (ix2 p l) = byte (x (ix2 ⟨p.val / 4, hp⟩ l)) (p.val % 4) := by
  apply BitVec.eq_of_getLsbD_eq
  intro i hi
  rw [byte_getLsbD _ _ _ hi, bitcast_getLsbD x h _ i hi (by decide)]
  have hrow : (⟨2, ![R, n]⟩ : Shape).row (ix2 p l) = p.val := rfl
  congr 1
  · congr 1
    funext c
    match c with
    | ⟨0, _⟩ => exact Fin.ext ((h.srcIdx_row _ _ _ ⟨0, Nat.zero_lt_two⟩ rfl).trans (by rw [hrow]; show (p.val * 8 + i) / 32 = p.val / 4; omega))
    | ⟨1, _⟩ => exact Fin.ext (h.srcIdx_other _ _ _ ⟨1, Nat.one_lt_two⟩ (by show ¬ 1 + 2 = 2; omega))
  · rw [hrow]; omega

end Cert.Proof.KernelIdeal
-- ==== Proof.Ideal.Taps.lean ====
/-
  The taps of h as the channel loop reads them: in every block the word at lane `l` packs the taps `l`, `l - 1`, `l - 2`,
  `l - 3` of one channel, one to a byte, and a block of zeros stands in front.
-/
module

public import proofs.«01_k».proof.Proof.Ideal.Words
public import proofs.«01_k».proof.Proof.Ideal.Body

@[expose] public section

set_option maxRecDepth 8192
set_option maxHeartbeats 40000000

noncomputable section

namespace Cert.Proof.KernelIdeal

open Cert.KernelIdeal Cert.KernelIdeal.Gen
open Idealize.ShloMosaic

variable {F : FTy → Type} [FloatOps F]

theorem inbTaps (w : ℕ) (hw : w < 4) : ∀ a, (![32 * w, 0] : Fin 2 → ℕ) a + S32x2048.size a ≤ S128x2048.size a := by
  intro a; match a with
  | 0 => show 32 * w + 32 ≤ 128; omega
  | 1 => show 0 + 2048 ≤ 2048; omega

theorem inbH (n : Fin 256) : ∀ a, S8x128.size a = 0 ∨ (![(n.val % 16 + 1) * 128 + 32 * (n.val / 64) + n.val / 16 % 4, 0] : Fin 2 → ℕ) a + (![4, 1] : Fin 2 → ℕ) a * (S8x128.size a - 1) < S2176x128.size a := by
  intro a; match a with
  | 0 => exact .inr (show (n.val % 16 + 1) * 128 + 32 * (n.val / 64) + n.val / 16 % 4 + 4 * (8 - 1) < 2176 by omega)
  | 1 => exact .inr (show 0 + 1 * (128 - 1) < 128 by omega)

theorem slicesH (m : ℕ) (h : m < 16) : S8x2048.Slices ![0, 128 * m] S8x128 := by
  refine ⟨rfl, fun a => ?_⟩
  match a with
  | 0 => show 0 + 8 ≤ 8; omega
  | 1 => show 128 * m + 128 ≤ 2048; omega

/-- The taps of thirty-two channels, four channels to a word. -/
def hBase (A4 : Vec F S128x2048 .i8) (w : ℕ) (hw : w < 4) : IVec S8x2048 32 :=
  bitcast S8x2048 32 (fun x => A4 ((Rect.unit (s := S128x2048) ![32 * w, 0] S32x2048.size (inbTaps w hw)).toLoadRect.idx x) : Vec F S32x2048 .i8) bitcasts_S32x2048_w8_S8x2048_w32

/-- The same words moved `j` taps later, zeros moving in. -/
def hMoved (a : IVec S8x2048 32) (j : BitVec 32) : IVec S8x2048 32 :=
  select (cmpi .sge (iota .tc S8x2048 32 [1] iota_S8x2048_d1_w32) (broadcast S8x2048 j)) (dynamicRotate 1 j none a rotates_S8x2048_d1) (broadcast S8x2048 0#32)

/-- The four taps of one channel in four. -/
def hInter (a : IVec S8x2048 32) (i : ℕ) : IVec S8x2048 32 :=
  interleave i a (hMoved a 1#32) (hMoved a 2#32) (hMoved a 3#32)

/-- Piece `n` of the taps. -/
def hPiece (A4 : Vec F S128x2048 .i8) (n : Fin 256) : View.Piece (Elt F) S2176x128 .i32 :=
  ⟨⟨⟨![(n.val % 16 + 1) * 128 + 32 * (n.val / 64) + n.val / 16 % 4, 0], S8x128.size, ![4, 1], inbH n⟩, spos_4_1⟩,
    shapeCast S8x128 (extractStridedSlice S8x128 ![0, 128 * (n.val % 16)] (hInter (hBase A4 (n.val / 64) (by omega)) (n.val / 16 % 4)) (slicesH _ (Nat.mod_lt _ (by decide)))) shapeCasts_S8x128_S8x128⟩

/-- The block of zeros in front, and over it the first `n` pieces, the last one first. -/
def hPieces (A4 : Vec F S128x2048 .i8) : ℕ → List (View.Piece (Elt F) S2176x128 .i32)
  | 0 => [⟨Rect.unit ![0, 0] S128x128.size inb_S2176x128_S128x128_0_0, shapeCast S128x128 (broadcast S128x128 0#32) shapeCasts_S128x128_S128x128⟩]
  | n + 1 => hPiece A4 (Fin.ofNat 256 n) :: hPieces A4 n

variable (arg4 : Memref sig .tc .vmem S128x2048 .i8)

theorem taps_eq (X4 : BufTy.Contents (Elt F) arg4.view.ty) :
    (⟨{ off := ![2147, 0], size := S8x128.size, stride := ![4, 1], inb := inb_S2176x128_S8x128_2147_0_s_4_1, stride_pos := spos_4_1 }, k0_pay1134 (kernelRun.sl.v1035 arg4 X4)⟩ :: ⟨{ off := ![2019, 0], size := S8x128.size, stride := ![4, 1], inb := inb_S2176x128_S8x128_2019_0_s_4_1, stride_pos := spos_4_1 }, k0_pay1133 (kernelRun.sl.v1035 arg4 X4)⟩ :: ⟨{ off := ![1891, 0], size := S8x128.size, stride := ![4, 1], inb := inb_S2176x128_S8x128_1891_0_s_4_1, stride_pos := spos_4_1 }, k0_pay1132 (kernelRun.sl.v1035 arg4 X4)⟩ :: ⟨{ off := ![1763, 0], size := S8x128.size, stride := ![4, 1], inb := inb_S2176x128_S8x128_1763_0_s_4_1, stride_pos := spos_4_1 }, k0_pay1131 (kernelRun.sl.v1035 arg4 X4)⟩ :: ⟨{ off := ![1635, 0], size := S8x128.size, stride := ![4, 1], inb := inb_S2176x128_S8x128_1635_0_s_4_1, stride_pos := spos_4_1 }, k0_pay1130 (kernelRun.sl.v1035 arg4 X4)⟩ :: ⟨{ off := ![1507, 0], size := S8x128.size, stride := ![4, 1], inb := inb_S2176x128_S8x128_1507_0_s_4_1, stride_pos := spos_4_1 }, k0_pay1129 (kernelRun.sl.v1035 arg4 X4)⟩ :: ⟨{ off := ![1379, 0], size := S8x128.size, stride := ![4, 1], inb := inb_S2176x128_S8x128_1379_0_s_4_1, stride_pos := spos_4_1 }, k0_pay1128 (kernelRun.sl.v1264 arg4 X4)⟩ :: kernelRun.sl.H14_250 arg4 X4) = hPieces (arg4.view.read (Elt F) X4) 256 := rfl

end Cert.Proof.KernelIdeal
-- ==== Proof.Ideal.Run.lean ====
/-
  What the body's run leaves, in the loops' own terms.
-/
module

public import proofs.«01_k».proof.Proof.Ideal.Body
public import proofs.«01_k».proof.Proof.Ideal.Taps

@[expose] public section

set_option maxRecDepth 8192
set_option maxHeartbeats 4000000

noncomputable section

namespace Cert.Proof.KernelIdeal

open Cert.KernelIdeal Cert.KernelIdeal.Gen
open Idealize.ShloMosaic Idealize.ShloMosaic.TcCoe

variable {F : FTy → Type} [FloatOps F]

variable (𝒱 : Variants) (c : Dev nD) (bd : Option 𝒱.V) (i : grid0.Coords) (arg1 : Memref sig .tc .smem S768 .f32) (harg1 : arg1.IsWhole) (arg2 : Memref sig .tc .vmem S8x2048x128 .i8) (harg2 : arg2.IsWhole) (arg3 : Memref sig .tc .vmem S8x2048x128 .i8) (harg3 : arg3.IsWhole) (arg4 : Memref sig .tc .vmem S128x2048 .i8) (harg4 : arg4.IsWhole) (arg5 : Memref sig .tc .vmem S16x32x128 .bf16) (harg5 : arg5.IsWhole) (arg6 : Memref sig .tc .vmem S4x32x128 .bf16) (harg6 : arg6.IsWhole) (arg7 : Memref sig .tc .vmem S4x32x128 .bf16) (harg7 : arg7.IsWhole) (arg8 : Memref sig .tc .vmem S8x2048x128 .bf16) (harg8 : arg8.IsWhole) (arg9 : Memref sig .tc .vmem S128x2048 .f32) (harg9 : arg9.IsWhole) (arg10 : Memref sig .tc .vmem S128x128 .i32) (harg10 : arg10.IsWhole) (arg11 : Memref sig .tc .vmem S16512x128 .i32) (harg11 : arg11.IsWhole) (arg12 : Memref sig .tc .vmem S4104x128 .i32) (harg12 : arg12.IsWhole) (arg13 : Memref sig .tc .vmem S4128x128 .i32) (harg13 : arg13.IsWhole) (arg14 : Memref sig .tc .vmem S2176x128 .i32) (harg14 : arg14.IsWhole) (arg15 : Memref sig .tc .vmem S16512x128 .f32) (harg15 : arg15.IsWhole) (arg16 : Memref sig .tc .vmem S2048x128 .f32) (harg16 : arg16.IsWhole) (arg17 : Memref sig .tc .vmem S2176x128 .f32) (harg17 : arg17.IsWhole)

/-- The filter's rows as the run stores them. -/
def taps (arg4 : Memref sig .tc .vmem S128x2048 .i8) (X4 : BufTy.Contents (Elt F) arg4.view.ty) : List (View.Piece (Elt F) S2176x128 .i32) :=
  (⟨{ off := ![2147, 0], size := S8x128.size, stride := ![4, 1], inb := inb_S2176x128_S8x128_2147_0_s_4_1, stride_pos := spos_4_1 }, k0_pay1134 (kernelRun.sl.v1035 arg4 X4)⟩ :: ⟨{ off := ![2019, 0], size := S8x128.size, stride := ![4, 1], inb := inb_S2176x128_S8x128_2019_0_s_4_1, stride_pos := spos_4_1 }, k0_pay1133 (kernelRun.sl.v1035 arg4 X4)⟩ :: ⟨{ off := ![1891, 0], size := S8x128.size, stride := ![4, 1], inb := inb_S2176x128_S8x128_1891_0_s_4_1, stride_pos := spos_4_1 }, k0_pay1132 (kernelRun.sl.v1035 arg4 X4)⟩ :: ⟨{ off := ![1763, 0], size := S8x128.size, stride := ![4, 1], inb := inb_S2176x128_S8x128_1763_0_s_4_1, stride_pos := spos_4_1 }, k0_pay1131 (kernelRun.sl.v1035 arg4 X4)⟩ :: ⟨{ off := ![1635, 0], size := S8x128.size, stride := ![4, 1], inb := inb_S2176x128_S8x128_1635_0_s_4_1, stride_pos := spos_4_1 }, k0_pay1130 (kernelRun.sl.v1035 arg4 X4)⟩ :: ⟨{ off := ![1507, 0], size := S8x128.size, stride := ![4, 1], inb := inb_S2176x128_S8x128_1507_0_s_4_1, stride_pos := spos_4_1 }, k0_pay1129 (kernelRun.sl.v1035 arg4 X4)⟩ :: ⟨{ off := ![1379, 0], size := S8x128.size, stride := ![4, 1], inb := inb_S2176x128_S8x128_1379_0_s_4_1, stride_pos := spos_4_1 }, k0_pay1128 (kernelRun.sl.v1264 arg4 X4)⟩ :: kernelRun.sl.H14_250 arg4 X4)

theorem taps_def (arg4 : Memref sig .tc .vmem S128x2048 .i8) (X4 : BufTy.Contents (Elt F) arg4.view.ty) : taps arg4 X4 = hPieces (arg4.view.read (Elt F) X4) 256 := taps_eq arg4 X4

/-- The two accumulators after the fourth loop, from the blocks and the scratch as found. -/
def sums (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)   (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)   : BufTy.Contents (Elt F) arg15.view.ty × BufTy.Contents (Elt F) arg16.view.ty :=
  st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val) (kernelRun.sl.v1035 arg4 X4) (kernelRun.sl.v1264 arg4 X4) X1 X5 X6 X7
    (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 f10 f11 k0_t1_loop.trips).2
    (arg13.view.writes (Elt F) f13 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 f12 k0_t2_loop.trips) k0_t3_loop.trips))
    (arg14.view.writes (Elt F) f14 (taps arg4 X4)) f15 f16 k0_t4_loop.trips

theorem run8 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)  : (kernelRun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 f8 f9 f10 f11 f12 f13 f14 f15 f16 f17).1 = (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (sums 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 f10 f11 f12 f13 f14 f15 f16).1 f17 f8 k0_t5_loop.trips).2 := by
  unfold kernelRun sums taps
  rfl

theorem inbDh (n : Fin 16) : ∀ a, (![0, 128 * n.val] : Fin 2 → ℕ) a + S128x128.size a ≤ S128x2048.size a := by
  have hn := n.isLt
  intro a; match a with
  | 0 => show 0 + 128 ≤ 128; omega
  | 1 => show 128 * n.val + 128 ≤ 2048; omega

theorem inbSum (n : Fin 16) : ∀ a, (![128 * n.val, 0] : Fin 2 → ℕ) a + S128x128.size a ≤ S2048x128.size a := by
  have hn := n.isLt
  intro a; match a with
  | 0 => show 128 * n.val + 128 ≤ 2048; omega
  | 1 => show 0 + 128 ≤ 128; omega

/-- The filter gradient's columns `128 n` on: the accumulator's rows `128 n` on. -/
def dhOut (A16 : Vec F S2048x128 .f32) (n : Fin 16) : View.Piece (Elt F) S128x2048 .f32 :=
  ⟨Rect.unit ![0, 128 * n.val] S128x128.size (inbDh n), fun x => A16 ((Rect.unit (s := S2048x128) ![128 * n.val, 0] S128x128.size (inbSum n)).toLoadRect.idx x)⟩

theorem run9 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)  : (kernelRun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 f8 f9 f10 f11 f12 f13 f14 f15 f16 f17).2.1 = arg9.view.writes (Elt F) arg9.view.junk ([15, 14, 13, 12, 11, 10, 9, 8, 7, 6, 5, 4, 3, 2, 1, 0].map (dhOut (arg16.view.read (Elt F) (sums 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 f10 f11 f12 f13 f14 f15 f16).2))) := by
  unfold kernelRun
  dsimp only
  unfold kernelRun.sl.H9_16
  rfl

end Cert.Proof.KernelIdeal
-- ==== Proof.Ideal.Offsets.lean ====
/-
  The offsets of the strided accesses as plain arithmetic in the trip number, each decided over all trips.
-/
module

public import proofs.«01_k».proof.Proof.Gen.KernelIdeal.Loops

@[expose] public section

noncomputable section

namespace Cert.Proof.KernelIdeal

open Cert.KernelIdeal Cert.KernelIdeal.Gen
open Idealize.ShloMosaic

theorem off1_eq : ∀ (k : Fin k0_t1_loop.trips) (n : Fin 4), k0_off1 k (BitVec.ofNat 32 (32 * n.val)) = ![k.val / 16, 128 * (k.val % 16) + 32 * n.val, 0] := by decide +kernel
theorem off2_eq : ∀ (k : Fin k0_t1_loop.trips) (n : Fin 3), k0_off2 k (BitVec.ofNat 32 (128 + 32 * n.val)) = ![k.val / 16, min (128 * (k.val % 16) + 128 + 32 * n.val) 2016, 0] := by decide +kernel
theorem off3_eq : ∀ (k : Fin k0_t1_loop.trips), k0_off3 k = ![129 * (8 * (k.val % 16) + k.val / 16), 0] := by decide +kernel
theorem off4_eq : ∀ (k : Fin k0_t2_loop.trips) (n : Fin 4), k0_off4 k (BitVec.ofNat 32 (32 * n.val)) = ![k.val / 16, 128 * (k.val % 16) + 32 * n.val, 0] := by decide +kernel
theorem off5_eq : ∀ (k : Fin k0_t2_loop.trips) (n : Fin 4), k0_off5 k (BitVec.ofNat 32 n.val) = ![32 * (k.val % 16) + 4 * (k.val / 16) + n.val, 0] := by decide +kernel
theorem off6_eq : ∀ (k : Fin k0_t3_loop.trips), k0_off6 k = ![513 * (k.val % 8) + 128 * (k.val / 8), 0] := by decide +kernel
theorem off7_eq : ∀ (k : Fin k0_t3_loop.trips), k0_off7 k = ![129 * (8 * (k.val / 8) + (if k.val % 2 = 0 then k.val % 8 + 1 else k.val % 8 - 1)), 0] := by decide +kernel
theorem off9_eq : ∀ (k : Fin k0_t4_loop.trips) (n : Fin 17), k0_off9 k (BitVec.ofNat 32 (128 * n.val)) = ![128 * n.val + k.val, 0] := by decide +kernel
theorem off10_eq : ∀ (k : Fin k0_t4_loop.trips) (n : Fin 16), k0_off10 k (BitVec.ofNat 32 (1032 * n.val)) = ![1032 * n.val + k.val, 0] := by decide +kernel
theorem off11_eq : ∀ (k : Fin k0_t4_loop.trips) (n : Fin 4), k0_off11 k (BitVec.ofNat 32 (1032 * n.val)) = ![1032 * n.val + k.val, 0] := by decide +kernel
theorem off12_eq : ∀ (k : Fin k0_t4_loop.trips) (n : Fin 16), k0_off12 k (BitVec.ofNat 32 (128 * n.val)) = ![128 * n.val + k.val, 0] := by decide +kernel
theorem off13_eq : ∀ (k : Fin k0_t4_loop.trips) (n : Fin 8), k0_off13 k (BitVec.ofNat 32 (2064 * n.val)) = ![2064 * n.val + k.val, 0] := by decide +kernel
theorem off14_eq : ∀ (k : Fin k0_t5_loop.trips) (n : Fin 16), k0_off14 k (BitVec.ofNat 32 n.val) = ![2064 * k.val + 129 * n.val, 0] := by decide +kernel
theorem off8_eq : ∀ (i : grid0.Coords) (k : Fin k0_t4_loop.trips), k0_off8 i k = ![128 * (i 0).val + k.val] := by decide +kernel

theorem trips4 : k0_t4_loop.trips = 128 := by decide
theorem trips1 : k0_t1_loop.trips = 128 := by decide
theorem trips2 : k0_t2_loop.trips = 128 := by decide
theorem trips3 : k0_t3_loop.trips = 32 := by decide
theorem trips5 : k0_t5_loop.trips = 8 := by decide

theorem inb9 (k : Fin k0_t4_loop.trips) (n : Fin 17) : ∀ a, k0_off9 k (BitVec.ofNat 32 (128 * n.val)) a + S1x128.size a ≤ S2176x128.size a := by
  have hk : k.val < 128 := trips4 ▸ k.isLt
  rw [off9_eq, Fin.forall_fin_two]
  refine ⟨?_, ?_⟩ <;> simp [S1x128, S2176x128] <;> omega

theorem inb12 (k : Fin k0_t4_loop.trips) (n : Fin 16) : ∀ a, k0_off12 k (BitVec.ofNat 32 (128 * n.val)) a + S1x128.size a ≤ S2048x128.size a := by
  have hk : k.val < 128 := trips4 ▸ k.isLt
  rw [off12_eq, Fin.forall_fin_two]
  refine ⟨?_, ?_⟩ <;> simp [S1x128, S2048x128] <;> omega

theorem inb10 (k : Fin k0_t4_loop.trips) (n : Fin 16) : ∀ a, S8x128.size a = 0 ∨ k0_off10 k (BitVec.ofNat 32 (1032 * n.val)) a + (![129, 1] : Fin 2 → ℕ) a * (S8x128.size a - 1) < S16512x128.size a := by
  have hk : k.val < 128 := trips4 ▸ k.isLt
  rw [off10_eq, Fin.forall_fin_two]
  refine ⟨?_, ?_⟩ <;> simp [S8x128, S16512x128] <;> omega

theorem inb11 (k : Fin k0_t4_loop.trips) (n : Fin 4) : ∀ a, S8x128.size a = 0 ∨ k0_off11 k (BitVec.ofNat 32 (1032 * n.val)) a + (![129, 1] : Fin 2 → ℕ) a * (S8x128.size a - 1) < S4128x128.size a := by
  have hk : k.val < 128 := trips4 ▸ k.isLt
  rw [off11_eq, Fin.forall_fin_two]
  refine ⟨?_, ?_⟩ <;> simp [S8x128, S4128x128] <;> omega

theorem inb13 (k : Fin k0_t4_loop.trips) (n : Fin 8) : ∀ a, S16x128.size a = 0 ∨ k0_off13 k (BitVec.ofNat 32 (2064 * n.val)) a + (![129, 1] : Fin 2 → ℕ) a * (S16x128.size a - 1) < S16512x128.size a := by
  have hk : k.val < 128 := trips4 ▸ k.isLt
  rw [off13_eq, Fin.forall_fin_two]
  refine ⟨?_, ?_⟩ <;> simp [S16x128, S16512x128] <;> omega

end Cert.Proof.KernelIdeal
-- ==== Proof.Ideal.Pack.lean ====
/-
  The first three loops, trip by trip: the dy codes gathered four tokens to a word and transposed, the x codes packed with
  their tokens in reverse order, and those transposed. Every piece a trip stores is one of these vectors.
-/
module

public import proofs.«01_k».proof.Proof.Ideal.Offsets
public import proofs.«01_k».proof.Proof.Ideal.Words
public import proofs.«01_k».proof.Proof.Ideal.Trips

@[expose] public section

set_option maxRecDepth 8192
set_option maxHeartbeats 4000000

noncomputable section

namespace Cert.Proof.KernelIdeal

open Cert.KernelIdeal Cert.KernelIdeal.Gen
open Idealize.ShloMosaic

theorem inb1 (k : Fin k0_t1_loop.trips) (n : Fin 4) : ∀ a, k0_off1 k (BitVec.ofNat 32 (32 * n.val)) a + S1x32x128.size a ≤ S8x2048x128.size a := by
  have hk : k.val < 128 := trips1 ▸ k.isLt
  rw [off1_eq]
  intro a; match a with
  | 0 => show k.val / 16 + 1 ≤ 8; omega
  | 1 => show 128 * (k.val % 16) + 32 * n.val + 32 ≤ 2048; omega
  | 2 => show 0 + 128 ≤ 128; omega

theorem inb2 (k : Fin k0_t1_loop.trips) (n : Fin 3) : ∀ a, k0_off2 k (BitVec.ofNat 32 (128 + 32 * n.val)) a + S1x32x128.size a ≤ S8x2048x128.size a := by
  have hk : k.val < 128 := trips1 ▸ k.isLt
  rw [off2_eq]
  intro a; match a with
  | 0 => show k.val / 16 + 1 ≤ 8; omega
  | 1 => show min (128 * (k.val % 16) + 128 + 32 * n.val) 2016 + 32 ≤ 2048; omega
  | 2 => show 0 + 128 ≤ 128; omega

theorem inb3 (k : Fin k0_t1_loop.trips) : ∀ a, k0_off3 k a + S128x128.size a ≤ S16512x128.size a := by
  have hk : k.val < 128 := trips1 ▸ k.isLt
  rw [off3_eq]
  intro a; match a with
  | 0 => show 129 * (8 * (k.val % 16) + k.val / 16) + 128 ≤ 16512; omega
  | 1 => show 0 + 128 ≤ 128; omega

theorem inb4 (k : Fin k0_t2_loop.trips) (n : Fin 4) : ∀ a, k0_off4 k (BitVec.ofNat 32 (32 * n.val)) a + S1x32x128.size a ≤ S8x2048x128.size a := by
  have hk : k.val < 128 := trips2 ▸ k.isLt
  rw [off4_eq]
  intro a; match a with
  | 0 => show k.val / 16 + 1 ≤ 8; omega
  | 1 => show 128 * (k.val % 16) + 32 * n.val + 32 ≤ 2048; omega
  | 2 => show 0 + 128 ≤ 128; omega

theorem inb5 (k : Fin k0_t2_loop.trips) (n : Fin 4) : ∀ a, S8x128.size a = 0 ∨ k0_off5 k (BitVec.ofNat 32 n.val) a + (![513, 1] : Fin 2 → ℕ) a * (S8x128.size a - 1) < S4104x128.size a := by
  have hk : k.val < 128 := trips2 ▸ k.isLt
  rw [off5_eq]
  intro a; match a with
  | 0 => exact .inr (show 32 * (k.val % 16) + 4 * (k.val / 16) + n.val + 513 * (8 - 1) < 4104 by omega)
  | 1 => exact .inr (show 0 + 1 * (128 - 1) < 128 by omega)

theorem inb6 (k : Fin k0_t3_loop.trips) : ∀ a, k0_off6 k a + S128x128.size a ≤ S4104x128.size a := by
  have hk : k.val < 32 := lt_of_lt_of_eq k.isLt trips3
  rw [off6_eq]
  intro a; match a with
  | 0 => show 513 * (k.val % 8) + 128 * (k.val / 8) + 128 ≤ 4104; omega
  | 1 => show 0 + 128 ≤ 128; omega

theorem inb7 (k : Fin k0_t3_loop.trips) : ∀ a, k0_off7 k a + S128x128.size a ≤ S4128x128.size a := by
  have hk : k.val < 32 := lt_of_lt_of_eq k.isLt trips3
  rw [off7_eq]
  intro a; match a with
  | 0 =>
    show 129 * (8 * (k.val / 8) + (if k.val % 2 = 0 then k.val % 8 + 1 else k.val % 8 - 1)) + 128 ≤ 4128
    split <;> omega
  | 1 => show 0 + 128 ≤ 128; omega

theorem inbTmp (n : Fin 16) : ∀ a, S8x128.size a = 0 ∨ (![32 * (n.val / 4) + n.val % 4, 0] : Fin 2 → ℕ) a + (![4, 1] : Fin 2 → ℕ) a * (S8x128.size a - 1) < S128x128.size a := by
  intro a; match a with
  | 0 => exact .inr (show 32 * (n.val / 4) + n.val % 4 + 4 * (8 - 1) < 128 by omega)
  | 1 => exact .inr (show 0 + 1 * (128 - 1) < 128 by omega)

variable {F : FTy → Type} [FloatOps F]

/-- The words of thirty-two tokens of dy, block `o` after the trip's first; past the end zeros. -/
def dyTok (A3 : Vec F S8x2048x128 .i8) (k : Fin k0_t1_loop.trips) (o : ℕ) : IVec S8x128 32 :=
  if h : o < 4 then
    bitcast S8x128 32 (shapeCast S32x128 (fun x => A3 ((Rect.unit (s := S8x2048x128) (k0_off1 k (BitVec.ofNat 32 (32 * o))) S1x32x128.size (inb1 k ⟨o, h⟩)).toLoadRect.idx x) : Vec F S1x32x128 .i8) shapeCasts_S1x32x128_S32x128) bitcasts_S32x128_w8_S8x128_w32
  else if h : o - 4 < 3 then
    Scalar.select (trip1.sl.v1394 k)
      (bitcast S8x128 32 (shapeCast S32x128 (fun x => A3 ((Rect.unit (s := S8x2048x128) (k0_off2 k (BitVec.ofNat 32 (128 + 32 * (o - 4)))) S1x32x128.size (inb2 k ⟨o - 4, h⟩)).toLoadRect.idx x) : Vec F S1x32x128 .i8) shapeCasts_S1x32x128_S32x128) bitcasts_S32x128_w8_S8x128_w32)
      (broadcast S8x128 0#32)
  else broadcast S8x128 0#32

/-- Piece `n` of the words before they are transposed. -/
def tmpPiece (A3 : Vec F S8x2048x128 .i8) (k : Fin k0_t1_loop.trips) (n : Fin 16) : View.Piece (Elt F) S128x128 .i32 :=
  ⟨⟨⟨![32 * (n.val / 4) + n.val % 4, 0], S8x128.size, ![4, 1], inbTmp n⟩, spos_4_1⟩,
    shapeCast S8x128 (interleave (n.val % 4) (dyTok A3 k (n.val / 4)) (dyTok A3 k (n.val / 4 + 1)) (dyTok A3 k (n.val / 4 + 2)) (dyTok A3 k (n.val / 4 + 3))) shapeCasts_S8x128_S8x128⟩

/-- Piece `n` of the x words. -/
def xPiece (A2 : Vec F S8x2048x128 .i8) (k : Fin k0_t2_loop.trips) (n : Fin 4) : View.Piece (Elt F) S4104x128 .i32 :=
  ⟨⟨⟨k0_off5 k (BitVec.ofNat 32 n.val), S8x128.size, ![513, 1], inb5 k n⟩, spos_513_1⟩,
    shapeCast S8x128 (reverseBytes (bitcast S8x128 32 (shapeCast S32x128 (fun x => A2 ((Rect.unit (s := S8x2048x128) (k0_off4 k (BitVec.ofNat 32 (32 * n.val))) S1x32x128.size (inb4 k n)).toLoadRect.idx x) : Vec F S1x32x128 .i8) shapeCasts_S1x32x128_S32x128) bitcasts_S32x128_w8_S8x128_w32)) shapeCasts_S8x128_S8x128⟩

variable (𝒱 : Variants) (c : Dev nD) (bd : Option 𝒱.V) (i : grid0.Coords) (arg1 : Memref sig .tc .smem S768 .f32) (harg1 : arg1.IsWhole) (arg2 : Memref sig .tc .vmem S8x2048x128 .i8) (harg2 : arg2.IsWhole) (arg3 : Memref sig .tc .vmem S8x2048x128 .i8) (harg3 : arg3.IsWhole) (arg4 : Memref sig .tc .vmem S128x2048 .i8) (harg4 : arg4.IsWhole) (arg5 : Memref sig .tc .vmem S16x32x128 .bf16) (harg5 : arg5.IsWhole) (arg6 : Memref sig .tc .vmem S4x32x128 .bf16) (harg6 : arg6.IsWhole) (arg7 : Memref sig .tc .vmem S4x32x128 .bf16) (harg7 : arg7.IsWhole) (arg8 : Memref sig .tc .vmem S8x2048x128 .bf16) (harg8 : arg8.IsWhole) (arg9 : Memref sig .tc .vmem S128x2048 .f32) (harg9 : arg9.IsWhole) (arg10 : Memref sig .tc .vmem S128x128 .i32) (harg10 : arg10.IsWhole) (arg11 : Memref sig .tc .vmem S16512x128 .i32) (harg11 : arg11.IsWhole) (arg12 : Memref sig .tc .vmem S4104x128 .i32) (harg12 : arg12.IsWhole) (arg13 : Memref sig .tc .vmem S4128x128 .i32) (harg13 : arg13.IsWhole) (arg14 : Memref sig .tc .vmem S2176x128 .i32) (harg14 : arg14.IsWhole) (arg15 : Memref sig .tc .vmem S16512x128 .f32) (harg15 : arg15.IsWhole) (arg16 : Memref sig .tc .vmem S2048x128 .f32) (harg16 : arg16.IsWhole) (arg17 : Memref sig .tc .vmem S2176x128 .f32) (harg17 : arg17.IsWhole)

theorem pieces11_eq (X3 : BufTy.Contents (Elt F) arg3.view.ty) (k : Fin k0_t1_loop.trips) (f10 : BufTy.Contents (Elt F) arg10.view.ty) (f11 : BufTy.Contents (Elt F) arg11.view.ty) :
    (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 k f10 f11).2.1 =
      [⟨Rect.unit (k0_off3 k) S128x128.size (inb3 k), shapeCast S128x128 (transpose S128x128 [1, 0] (View.readAt (Elt F) arg10.view (Rect.unit ![0, 0] S128x128.size inb_S128x128_S128x128_0_0).toLoadRect (arg10.view.writes (Elt F) f10 (trip1.sl.H10_16 arg3 X3 k))) transposes_S128x128_p1_0_S128x128) shapeCasts_S128x128_S128x128⟩] := by
  unfold trip1
  rfl

theorem pieces12_eq (X2 : BufTy.Contents (Elt F) arg2.view.ty) (k : Fin k0_t2_loop.trips) (f12 : BufTy.Contents (Elt F) arg12.view.ty) :
    (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 k f12).1 = [3, 2, 1, 0].map (xPiece (arg2.view.read (Elt F) X2) k) := by
  unfold trip2
  rfl

theorem pieces13_eq (X12 : BufTy.Contents (Elt F) arg12.view.ty) (k : Fin k0_t3_loop.trips) :
    tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X12 k =
      [⟨Rect.unit (k0_off7 k) S128x128.size (inb7 k), shapeCast S128x128 (transpose S128x128 [1, 0] (fun x => arg12.view.read (Elt F) X12 ((Rect.unit (s := S4104x128) (k0_off6 k) S128x128.size (inb6 k)).toLoadRect.idx x) : Vec F S128x128 .i32) transposes_S128x128_p1_0_S128x128) shapeCasts_S128x128_S128x128⟩] := by
  unfold tripL_k0_t3 trip_k0_t3
  rfl

end Cert.Proof.KernelIdeal
-- ==== Proof.Ideal.Steps.lean ====
/-
  What a buffer holds after a loop, from what each trip stores: where every piece of every trip agrees with one function,
  the buffer reads that function at every place some trip has stored to.
-/
module

public import proofs.«01_k».proof.Proof.Ideal.Pack

@[expose] public section

namespace Cert.Proof.KernelIdeal

open Cert.KernelIdeal Cert.KernelIdeal.Gen
open Idealize.ShloMosaic

section
variable {sg : RefSig} {κ : Kind} {sp : Space} {s : Shape} {e : EltTy} {Val : EltTy → Type}

theorem read_steps (v : View sg κ sp s e) (N : ℕ) (st : ℕ → v.ty.Contents Val) (P : Fin N → List (View.Piece Val s e))
    (hst : ∀ k : Fin N, st (k.val + 1) = v.writes Val (st k.val) (P k)) (G : s.Idx → Val e)
    (hG : ∀ k, ∀ p ∈ P k, ∀ x : p.1.shape.Idx, p.2 x = G (p.1.emb x)) :
    ∀ m ≤ N, ∀ y, (∃ k : Fin N, k.val < m ∧ ∃ p ∈ P k, y ∈ p.1.set) → v.read Val (st m) y = G y := by
  intro m
  induction m with
  | zero => rintro _ y ⟨k, hk, _⟩; exact absurd hk (Nat.not_lt_zero _)
  | succ n ih =>
    intro hn y hy
    have e := hst ⟨n, hn⟩
    rw [show st (n + 1) = _ from e]
    by_cases h : ∃ p ∈ P ⟨n, hn⟩, y ∈ p.1.set
    · exact v.read_writes_apply_of_pieces (st n) G (P ⟨n, hn⟩) (hG ⟨n, hn⟩) y h
    · rw [v.read_writes_apply_of_forall_not_mem (st n) y (P ⟨n, hn⟩) fun p hp hy => h ⟨p, hp, hy⟩]
      refine ih (by omega) y ?_
      obtain ⟨k, hk, p, hp, hyp⟩ := hy
      refine ⟨k, ?_, p, hp, hyp⟩
      by_cases hkn : k.val = n
      · obtain rfl : k = ⟨n, hn⟩ := Fin.ext hkn
        exact absurd ⟨p, hp, hyp⟩ h
      · omega

end

/-- A rectangle of a matrix holds the position that is a step away in each axis. -/
theorem mem_rect2 {n m : ℕ} (r : Rect ⟨2, ![n, m]⟩) (y : (⟨2, ![n, m]⟩ : Shape).Idx) (a b : ℕ) (ha : a < r.size 0) (hb : b < r.size 1)
    (h0 : (y 0).val = r.off 0 + r.stride 0 * a) (h1 : (y 1).val = r.off 1 + r.stride 1 * b) : y ∈ r.set := by
  rw [LoadRect.mem_set]
  intro c
  match c with
  | 0 => exact ⟨a, ha, h0⟩
  | 1 => exact ⟨b, hb, h1⟩

/-- A vector of codes at natural coordinates, zero outside. -/
def codeAt (A : S8x2048x128.Idx → BitVec 8) (b p c : ℕ) : BitVec 8 :=
  if h : b < 8 ∧ p < 2048 ∧ c < 128 then A (ix3 ⟨b, h.1⟩ ⟨p, h.2.1⟩ ⟨c, h.2.2⟩) else 0#8

theorem codeAt_eq (A : S8x2048x128.Idx → BitVec 8) (j : S8x2048x128.Idx) : A j = codeAt A (j 0).val (j 1).val (j 2).val := by
  unfold codeAt
  rw [dif_pos ⟨(j 0).isLt, (j 1).isLt, (j 2).isLt⟩]
  congr 1
  funext c
  match c with
  | 0 => rfl
  | 1 => rfl
  | 2 => rfl

variable {F : FTy → Type} [FloatOps F]

theorem wordsCast (v : Vec F S1x32x128 .i8) (i : Fin 8) (c : Fin 128) (j : ℕ) (hj : j < 4) :
    byte (bitcast S8x128 32 (shapeCast S32x128 v shapeCasts_S1x32x128_S32x128) bitcasts_S32x128_w8_S8x128_w32 (ix2 i c)) j = v (ix3 0 ⟨4 * i.val + j, by omega⟩ c) := by
  rw [byte_bitcast _ _ i c j hj ⟨4 * i.val + j, by omega⟩ rfl]
  pointwise

theorem scalarSelect_one {α : Type} (a b : α) : Scalar.select 1#1 a b = a := rfl
theorem scalarSelect_zero {α : Type} (a b : α) : Scalar.select 0#1 a b = b := rfl

/-- Whether the trip's next block exists. -/
theorem next_block : ∀ k : Fin k0_t1_loop.trips, trip1.sl.v1394 k = if k.val % 16 < 15 then 1#1 else 0#1 := by
  unfold trip1.sl.v1394 trip1.sl.v1352
  decide +kernel

theorem dyTok_byte (A3 : Vec F S8x2048x128 .i8) (k : Fin k0_t1_loop.trips) (o : ℕ) (ho : o < 7) (i : Fin 8) (c : Fin 128) (j : ℕ) (hj : j < 4) :
    byte (dyTok A3 k o (ix2 i c)) j = codeAt A3 (k.val / 16) (128 * (k.val % 16) + 32 * o + (4 * i.val + j)) c.val := by
  unfold dyTok
  by_cases h : o < 4
  · rw [dif_pos h, wordsCast _ i c j hj, codeAt_eq A3]
    have e := off1_eq k ⟨o, h⟩
    congr 1
    · show k0_off1 k (BitVec.ofNat 32 (32 * o)) 0 + 1 * 0 = _
      rw [e]; rfl
    · show k0_off1 k (BitVec.ofNat 32 (32 * o)) 1 + 1 * (4 * i.val + j) = _
      rw [e]; show 128 * (k.val % 16) + 32 * o + 1 * (4 * i.val + j) = _; omega
    · show k0_off1 k (BitVec.ofNat 32 (32 * o)) 2 + 1 * c.val = _
      rw [e]; show 0 + 1 * c.val = _; omega
  · have h3 : o - 4 < 3 := by omega
    rw [dif_neg h, dif_pos h3, next_block]
    by_cases hk : k.val % 16 < 15
    · rw [if_pos hk]
      rw [scalarSelect_one]
      rw [wordsCast _ i c j hj, codeAt_eq A3]
      have e := off2_eq k ⟨o - 4, h3⟩
      congr 1
      · show k0_off2 k (BitVec.ofNat 32 (128 + 32 * (o - 4))) 0 + 1 * 0 = _
        rw [e]; rfl
      · show k0_off2 k (BitVec.ofNat 32 (128 + 32 * (o - 4))) 1 + 1 * (4 * i.val + j) = _
        rw [e]; show min (128 * (k.val % 16) + 128 + 32 * (o - 4)) 2016 + 1 * (4 * i.val + j) = _; omega
      · show k0_off2 k (BitVec.ofNat 32 (128 + 32 * (o - 4))) 2 + 1 * c.val = _
        rw [e]; show 0 + 1 * c.val = _; omega
    · rw [if_neg hk]
      rw [scalarSelect_zero]
      show byte 0#32 j = _
      unfold codeAt
      rw [dif_neg (by omega)]
      unfold byte; simp

end Cert.Proof.KernelIdeal
-- ==== Proof.Ideal.TmpEq.lean ====
/-
  The stores that loop 1 makes into the untransposed words, as the pieces of the packing.
-/
module

public import proofs.«01_k».proof.Proof.Ideal.Pack

@[expose] public section

set_option maxRecDepth 8192
set_option maxHeartbeats 4000000

noncomputable section

namespace Cert.Proof.KernelIdeal

open Cert.KernelIdeal Cert.KernelIdeal.Gen
open Idealize.ShloMosaic

variable {F : FTy → Type} [FloatOps F]

variable (𝒱 : Variants) (c : Dev nD) (bd : Option 𝒱.V) (i : grid0.Coords) (arg1 : Memref sig .tc .smem S768 .f32) (harg1 : arg1.IsWhole) (arg2 : Memref sig .tc .vmem S8x2048x128 .i8) (harg2 : arg2.IsWhole) (arg3 : Memref sig .tc .vmem S8x2048x128 .i8) (harg3 : arg3.IsWhole) (arg4 : Memref sig .tc .vmem S128x2048 .i8) (harg4 : arg4.IsWhole) (arg5 : Memref sig .tc .vmem S16x32x128 .bf16) (harg5 : arg5.IsWhole) (arg6 : Memref sig .tc .vmem S4x32x128 .bf16) (harg6 : arg6.IsWhole) (arg7 : Memref sig .tc .vmem S4x32x128 .bf16) (harg7 : arg7.IsWhole) (arg8 : Memref sig .tc .vmem S8x2048x128 .bf16) (harg8 : arg8.IsWhole) (arg9 : Memref sig .tc .vmem S128x2048 .f32) (harg9 : arg9.IsWhole) (arg10 : Memref sig .tc .vmem S128x128 .i32) (harg10 : arg10.IsWhole) (arg11 : Memref sig .tc .vmem S16512x128 .i32) (harg11 : arg11.IsWhole) (arg12 : Memref sig .tc .vmem S4104x128 .i32) (harg12 : arg12.IsWhole) (arg13 : Memref sig .tc .vmem S4128x128 .i32) (harg13 : arg13.IsWhole) (arg14 : Memref sig .tc .vmem S2176x128 .i32) (harg14 : arg14.IsWhole) (arg15 : Memref sig .tc .vmem S16512x128 .f32) (harg15 : arg15.IsWhole) (arg16 : Memref sig .tc .vmem S2048x128 .f32) (harg16 : arg16.IsWhole) (arg17 : Memref sig .tc .vmem S2176x128 .f32) (harg17 : arg17.IsWhole)

theorem tmp_eq (X3 : BufTy.Contents (Elt F) arg3.view.ty) (k : Fin k0_t1_loop.trips) :
    trip1.sl.H10_16 arg3 X3 k = [15, 14, 13, 12, 11, 10, 9, 8, 7, 6, 5, 4, 3, 2, 1, 0].map (tmpPiece (arg3.view.read (Elt F) X3) k) := rfl

end Cert.Proof.KernelIdeal
-- ==== Proof.Ideal.Fill.lean ====
/-
  What the packing loops leave: every word of the dy and x buffers, byte by byte, as a code of its batch, token and channel.
-/
module

public import proofs.«01_k».proof.Proof.Ideal.Steps
public import proofs.«01_k».proof.Proof.Ideal.TmpEq

@[expose] public section

set_option maxRecDepth 8192
set_option maxHeartbeats 1000000
set_option backward.isDefEq.respectTransparency.types false

noncomputable section

namespace Cert.Proof.KernelIdeal

open Cert.KernelIdeal Cert.KernelIdeal.Gen
open Idealize.ShloMosaic

/-- The word of four bytes, the first the lowest. -/
def wordOf (f : ℕ → BitVec 8) : BitVec 32 := f 3 ++ (f 2 ++ (f 1 ++ f 0))

theorem byte_wordOf (f : ℕ → BitVec 8) (j : ℕ) (hj : j < 4) : byte (wordOf f) j = f j := by
  refine byte_ext fun i hi => ?_
  unfold wordOf
  simp only [BitVec.getLsbD_append]
  interval_cases j
  · rw [if_pos (by omega), if_pos (by omega), if_pos (by omega)]; congr 1; omega
  · rw [if_pos (by omega), if_pos (by omega), if_neg (by omega)]; congr 1; omega
  · rw [if_pos (by omega), if_neg (by omega)]; congr 1; omega
  · rw [if_neg (by omega)]; congr 1; omega

theorem word_ext {w w' : BitVec 32} (h : ∀ j < 4, byte w j = byte w' j) : w = w' := by
  apply BitVec.eq_of_getLsbD_eq
  intro i hi
  have e := congrArg (fun b => b.getLsbD (i % 8)) (h (i / 8) (by omega))
  simp only [byte_getLsbD _ _ _ (Nat.mod_lt i (by omega : 8 > 0))] at e
  rwa [show 8 * (i / 8) + i % 8 = i by omega] at e

theorem eq_wordOf {w : BitVec 32} {f : ℕ → BitVec 8} (h : ∀ j < 4, byte w j = f j) : w = wordOf f :=
  word_ext fun j hj => (h j hj).trans (byte_wordOf f j hj).symm

theorem castSelf {α : Type} {s : Shape} (v : s.Idx → α) (h : s.ShapeCasts s) (x : s.Idx) :
    shapeCast s v h x = v x := by
  rw [shapeCast_id]

/-- The words of trip `k` before they are transposed: row `r`, channel `c`. -/
def tmpG (A3 : S8x2048x128.Idx → BitVec 8) (k r c : ℕ) : BitVec 32 := wordOf fun j => codeAt A3 (k / 16) (128 * (k % 16) + 32 * j + r) c
/-- The dy words: row `R`, lane `l`. -/
def sdG (A3 : S8x2048x128.Idx → BitVec 8) (R l : ℕ) : BitVec 32 := wordOf fun j => codeAt A3 (R / 129 % 8) (128 * (R / 129 / 8) + 32 * j + l) (R % 129)
/-- The x words before they are transposed: row `R`, channel `c`. -/
def xtG (A2 : S8x2048x128.Idx → BitVec 8) (R c : ℕ) : BitVec 32 :=
  wordOf fun j => codeAt A2 (R % 513 / 4 % 8) (128 * (R % 513 / 32) + 32 * (R % 513 % 4) + 4 * (R / 513) + (3 - j)) c
/-- The x words: row `R`, lane `l`. -/
def sxG (A2 : S8x2048x128.Idx → BitVec 8) (R l : ℕ) : BitVec 32 :=
  wordOf fun j => codeAt A2 (l / 4 % 8) (128 * (4 * (R / 129 / 8) + l / 32) + 32 * (l % 4) + 4 * (if R / 129 % 2 = 0 then R / 129 % 8 + 1 else R / 129 % 8 - 1) + (3 - j)) (R % 129)

/-- A tile of words turned. -/
theorem turned_apply (w : IVec S128x128 32) (x : S128x128.Idx) :
    shapeCast S128x128 (transpose S128x128 [1, 0] w transposes_S128x128_p1_0_S128x128) shapeCasts_S128x128_S128x128 x = w (ix2 (x 1) (x 0)) := by
  rw [show x = ix2 (x 0) (x 1) from ValueIdx.eq_ix2 x]
  pointwise

theorem tmp_sd (A3 : S8x2048x128.Idx → BitVec 8) (k l r : ℕ) (hk : k < 128) (hr : r < 128) :
    tmpG A3 k l r = sdG A3 (129 * (8 * (k % 16) + k / 16) + r) l := by
  obtain ⟨a, ha⟩ : ∃ a, a = k % 16 := ⟨_, rfl⟩
  obtain ⟨b, hb⟩ : ∃ b, b = k / 16 := ⟨_, rfl⟩
  have hb' : b < 8 := by omega
  unfold tmpG sdG
  rw [← ha, ← hb]
  have e1 : (129 * (8 * a + b) + r) / 129 = 8 * a + b := by omega
  have e2 : (129 * (8 * a + b) + r) % 129 = r := by omega
  rw [e1, e2, show (8 * a + b) % 8 = b by omega, show (8 * a + b) / 8 = a by omega]

theorem xt_sx (A2 : S8x2048x128.Idx → BitVec 8) (k l r : ℕ) (hk : k < 32) (hl : l < 128) (hr : r < 128) :
    xtG A2 (513 * (k % 8) + 128 * (k / 8) + l) r = sxG A2 (129 * (8 * (k / 8) + (if k % 2 = 0 then k % 8 + 1 else k % 8 - 1)) + r) l := by
  obtain ⟨a, ha⟩ : ∃ a, a = k % 8 := ⟨_, rfl⟩
  obtain ⟨v, hv⟩ : ∃ v, v = k / 8 := ⟨_, rfl⟩
  obtain ⟨q, hq⟩ : ∃ q, q = if k % 2 = 0 then k % 8 + 1 else k % 8 - 1 := ⟨_, rfl⟩
  have ha' : a < 8 := by omega
  have hv' : v < 4 := by omega
  have hq8 : q < 8 := by rw [hq]; split <;> omega
  have hqa : (if q % 2 = 0 then q + 1 else q - 1) = a := by
    by_cases h2 : k % 2 = 0
    · rw [if_pos h2] at hq
      rw [if_neg (by omega)]; omega
    · rw [if_neg h2] at hq
      rw [if_pos (by omega)]; omega
  rw [← hq, ← ha, ← hv]
  unfold xtG sxG
  have e1 : (129 * (8 * v + q) + r) / 129 = 8 * v + q := by omega
  have e2 : (129 * (8 * v + q) + r) % 129 = r := by omega
  have e3 : (513 * a + 128 * v + l) % 513 = 128 * v + l := by omega
  have e4 : (513 * a + 128 * v + l) / 513 = a := by omega
  rw [e1, e2, e3, e4]
  congr 1; funext j
  rw [show (8 * v + q) % 2 = q % 2 by omega, show (8 * v + q) % 8 = q by omega, hqa]
  refine congrArg₂ (fun b p => codeAt A2 b p r) ?_ ?_ <;> omega

variable {F : FTy → Type} [FloatOps F]

theorem tmpPiece_val (A3 : Vec F S8x2048x128 .i8) (k : Fin k0_t1_loop.trips) (n : Fin 16) (x : S8x128.Idx) :
    (tmpPiece A3 k n).2 x = tmpG A3 k.val (((tmpPiece A3 k n).1.emb x) 0).val (((tmpPiece A3 k n).1.emb x) 1).val := by
  have hx0 : (x 0).val < 8 := (x 0).isLt
  have hx1 : (x 1).val < 128 := (x 1).isLt
  have e0 : (((tmpPiece A3 k n).1.emb x) 0).val = 32 * (n.val / 4) + n.val % 4 + 4 * (x 0).val := rfl
  have e1 : (((tmpPiece A3 k n).1.emb x) 1).val = (x 1).val := by
    show 0 + 1 * (x 1).val = _; omega
  rw [e0, e1]
  have e2 : (tmpPiece A3 k n).2 x = shapeCast S8x128 (interleave (n.val % 4) (dyTok A3 k (n.val / 4)) (dyTok A3 k (n.val / 4 + 1)) (dyTok A3 k (n.val / 4 + 2)) (dyTok A3 k (n.val / 4 + 3))) shapeCasts_S8x128_S8x128 x := rfl
  rw [e2, castSelf]
  refine eq_wordOf fun j hj => ?_
  rw [interleave_byte (n.val % 4) j (Nat.mod_lt _ (by decide)) hj]
  have key : ∀ o, o < 7 → o = n.val / 4 + j → byte (dyTok A3 k o x) (n.val % 4)
      = codeAt A3 (k.val / 16) (128 * (k.val % 16) + 32 * j + (32 * (n.val / 4) + n.val % 4 + 4 * (x 0).val)) (x 1).val := by
    intro o ho e
    rw [show x = ix2 (⟨(x 0).val, hx0⟩ : Fin 8) (⟨(x 1).val, hx1⟩ : Fin 128) from ValueIdx.eq_ix2 x, dyTok_byte A3 k o ho _ _ _ (Nat.mod_lt _ (by decide))]
    refine congrArg₂ (codeAt A3 (k.val / 16)) ?_ rfl
    show 128 * (k.val % 16) + 32 * o + (4 * (x 0).val + n.val % 4) = 128 * (k.val % 16) + 32 * j + (32 * (n.val / 4) + n.val % 4 + 4 * (x 0).val)
    omega
  interval_cases j
  · exact key _ (by omega) rfl
  · exact key _ (by omega) rfl
  · exact key _ (by omega) rfl
  · exact key _ (by omega) rfl

theorem mem16 : ∀ n : Fin 16, n ∈ ([15, 14, 13, 12, 11, 10, 9, 8, 7, 6, 5, 4, 3, 2, 1, 0] : List (Fin 16)) := by decide

theorem xtG_eq (A2 : S8x2048x128.Idx → BitVec 8) (R l : ℕ) {a b : ℕ} (d1 : R % 513 = a) (d2 : R / 513 = b) :
    xtG A2 R l = wordOf fun j => codeAt A2 (a / 4 % 8) (128 * (a / 32) + 32 * (a % 4) + 4 * b + (3 - j)) l := by
  subst d1 d2; rfl

theorem xPiece_val (A2 : Vec F S8x2048x128 .i8) (k : Fin k0_t2_loop.trips) (n : Fin 4) (x : S8x128.Idx) :
    (xPiece A2 k n).2 x = xtG A2 (((xPiece A2 k n).1.emb x) 0).val (((xPiece A2 k n).1.emb x) 1).val := by
  have hk : k.val < 128 := lt_of_lt_of_eq k.isLt trips2
  have hx0 : (x 0).val < 8 := (x 0).isLt
  have hx1 : (x 1).val < 128 := (x 1).isLt
  have e0 : (((xPiece A2 k n).1.emb x) 0).val = 32 * (k.val % 16) + 4 * (k.val / 16) + n.val + 513 * (x 0).val := by
    show k0_off5 k (BitVec.ofNat 32 n.val) 0 + 513 * (x 0).val = _
    rw [off5_eq]; rfl
  have e1 : (((xPiece A2 k n).1.emb x) 1).val = (x 1).val := by
    show k0_off5 k (BitVec.ofNat 32 n.val) 1 + 1 * (x 1).val = _
    rw [off5_eq]; show 0 + 1 * (x 1).val = _; omega
  have d1 : (32 * (k.val % 16) + 4 * (k.val / 16) + n.val + 513 * (x 0).val) % 513 = 32 * (k.val % 16) + 4 * (k.val / 16) + n.val := by omega
  have d2 : (32 * (k.val % 16) + 4 * (k.val / 16) + n.val + 513 * (x 0).val) / 513 = (x 0).val := by omega
  rw [e0, e1, xtG_eq _ _ _ d1 d2]
  have e2 : (xPiece A2 k n).2 x = shapeCast S8x128 (reverseBytes (bitcast S8x128 32 (shapeCast S32x128 (fun x => A2 ((Rect.unit (s := S8x2048x128) (k0_off4 k (BitVec.ofNat 32 (32 * n.val))) S1x32x128.size (inb4 k n)).toLoadRect.idx x) : Vec F S1x32x128 .i8) shapeCasts_S1x32x128_S32x128) bitcasts_S32x128_w8_S8x128_w32)) shapeCasts_S8x128_S8x128 x := rfl
  rw [e2, castSelf]
  refine eq_wordOf fun j hj => ?_
  rw [reverse_byte j hj, show x = ix2 (⟨(x 0).val, hx0⟩ : Fin 8) (⟨(x 1).val, hx1⟩ : Fin 128) from ValueIdx.eq_ix2 x, wordsCast _ _ _ _ (by omega), codeAt_eq A2]
  have e := off4_eq k n
  obtain ⟨u, hu⟩ : ∃ u, u = k.val % 16 := ⟨_, rfl⟩
  obtain ⟨g, hg⟩ : ∃ g, g = k.val / 16 := ⟨_, rfl⟩
  have hg8 : g < 8 := by omega
  have hn : n.val < 4 := n.isLt
  rw [← hu, ← hg]
  refine congr (congrArg₂ (codeAt A2) ?_ ?_) ?_
  · show k0_off4 k (BitVec.ofNat 32 (32 * n.val)) 0 + 1 * 0 = _
    rw [e]; show k.val / 16 + 1 * 0 = _; omega
  · show k0_off4 k (BitVec.ofNat 32 (32 * n.val)) 1 + 1 * (4 * (x 0).val + (3 - j)) = 128 * ((32 * u + 4 * g + n.val) / 32) + 32 * ((32 * u + 4 * g + n.val) % 4) + 4 * (x 0).val + (3 - j)
    rw [e]; show 128 * (k.val % 16) + 32 * n.val + 1 * (4 * (x 0).val + (3 - j)) = _
    rw [← hu, show (32 * u + 4 * g + n.val) / 32 = u by omega, show (32 * u + 4 * g + n.val) % 4 = n.val by omega]; omega
  · show k0_off4 k (BitVec.ofNat 32 (32 * n.val)) 2 + 1 * (x 1).val = (x 1).val
    rw [e]; show 0 + 1 * (x 1).val = _; omega

variable (𝒱 : Variants) (c : Dev nD) (bd : Option 𝒱.V) (i : grid0.Coords) (arg1 : Memref sig .tc .smem S768 .f32) (harg1 : arg1.IsWhole) (arg2 : Memref sig .tc .vmem S8x2048x128 .i8) (harg2 : arg2.IsWhole) (arg3 : Memref sig .tc .vmem S8x2048x128 .i8) (harg3 : arg3.IsWhole) (arg4 : Memref sig .tc .vmem S128x2048 .i8) (harg4 : arg4.IsWhole) (arg5 : Memref sig .tc .vmem S16x32x128 .bf16) (harg5 : arg5.IsWhole) (arg6 : Memref sig .tc .vmem S4x32x128 .bf16) (harg6 : arg6.IsWhole) (arg7 : Memref sig .tc .vmem S4x32x128 .bf16) (harg7 : arg7.IsWhole) (arg8 : Memref sig .tc .vmem S8x2048x128 .bf16) (harg8 : arg8.IsWhole) (arg9 : Memref sig .tc .vmem S128x2048 .f32) (harg9 : arg9.IsWhole) (arg10 : Memref sig .tc .vmem S128x128 .i32) (harg10 : arg10.IsWhole) (arg11 : Memref sig .tc .vmem S16512x128 .i32) (harg11 : arg11.IsWhole) (arg12 : Memref sig .tc .vmem S4104x128 .i32) (harg12 : arg12.IsWhole) (arg13 : Memref sig .tc .vmem S4128x128 .i32) (harg13 : arg13.IsWhole) (arg14 : Memref sig .tc .vmem S2176x128 .i32) (harg14 : arg14.IsWhole) (arg15 : Memref sig .tc .vmem S16512x128 .f32) (harg15 : arg15.IsWhole) (arg16 : Memref sig .tc .vmem S2048x128 .f32) (harg16 : arg16.IsWhole) (arg17 : Memref sig .tc .vmem S2176x128 .f32) (harg17 : arg17.IsWhole)

theorem read10 (X3 : BufTy.Contents (Elt F) arg3.view.ty) (k : Fin k0_t1_loop.trips) (f10 : BufTy.Contents (Elt F) arg10.view.ty) (y : S128x128.Idx) :
    arg10.view.read (Elt F) (arg10.view.writes (Elt F) f10 (trip1.sl.H10_16 arg3 X3 k)) y = tmpG (arg3.view.read (Elt F) X3) k.val (y 0).val (y 1).val := by
  have h0 : (y 0).val < 128 := (y 0).isLt
  have h1 : (y 1).val < 128 := (y 1).isLt
  rw [tmp_eq]
  refine arg10.view.read_writes_apply_of_pieces f10 (fun y => tmpG (arg3.view.read (Elt F) X3) k.val (y 0).val (y 1).val) _ ?_ y ?_
  · intro p hp
    obtain ⟨n, -, rfl⟩ := List.mem_map.mp hp
    exact tmpPiece_val _ k n
  · refine ⟨_, List.mem_map_of_mem (mem16 ⟨4 * ((y 0).val / 32) + (y 0).val % 4, by omega⟩), ?_⟩
    refine mem_rect2 _ y ((y 0).val % 32 / 4) (y 1).val ?_ ?_ ?_ ?_
    · show _ < 8; omega
    · exact h1
    · show _ = 32 * ((4 * ((y 0).val / 32) + (y 0).val % 4) / 4) + (4 * ((y 0).val / 32) + (y 0).val % 4) % 4 + 4 * ((y 0).val % 32 / 4); omega
    · show _ = 0 + 1 * (y 1).val; omega

/-- The dy words after the first loop. -/
theorem read11 (X3 : BufTy.Contents (Elt F) arg3.view.ty) (f10 : BufTy.Contents (Elt F) arg10.view.ty) (f11 : BufTy.Contents (Elt F) arg11.view.ty) (y : S16512x128.Idx) (hy : (y 0).val % 129 < 128) :
    arg11.view.read (Elt F) (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 f10 f11 k0_t1_loop.trips).2 y = sdG (arg3.view.read (Elt F) X3) (y 0).val (y 1).val := by
  have h0 : (y 0).val < 16512 := (y 0).isLt
  have h1 : (y 1).val < 128 := (y 1).isLt
  refine read_steps arg11.view k0_t1_loop.trips (fun m => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 f10 f11 m).2) (fun k => (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 k (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 f10 f11 k.val).1 (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 f10 f11 k.val).2).2.1)
    (fun k => by rw [st1_succ]) (fun y => sdG (arg3.view.read (Elt F) X3) (y 0).val (y 1).val) ?_ _ (le_refl _) y ?_
  · intro k p hp x
    have hk : k.val < 128 := lt_of_lt_of_eq k.isLt trips1
    have f0 : ∀ z : S128x128.Idx, (((Rect.unit (s := S16512x128) (k0_off3 k) S128x128.size (inb3 k)).emb z) 0).val = 129 * (8 * (k.val % 16) + k.val / 16) + (z 0).val := fun z => by
      show k0_off3 k 0 + 1 * (z 0).val = _
      rw [off3_eq]; show 129 * (8 * (k.val % 16) + k.val / 16) + 1 * (z 0).val = _; omega
    have f1 : ∀ z : S128x128.Idx, (((Rect.unit (s := S16512x128) (k0_off3 k) S128x128.size (inb3 k)).emb z) 1).val = (z 1).val := fun z => by
      show k0_off3 k 1 + 1 * (z 1).val = _
      rw [off3_eq]; show 0 + 1 * (z 1).val = _; omega
    have main : ∀ z : S128x128.Idx, shapeCast S128x128 (transpose S128x128 [1, 0] (View.readAt (Elt F) arg10.view (Rect.unit ![0, 0] S128x128.size inb_S128x128_S128x128_0_0).toLoadRect (arg10.view.writes (Elt F) (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 f10 f11 k.val).1 (trip1.sl.H10_16 arg3 X3 k))) transposes_S128x128_p1_0_S128x128) shapeCasts_S128x128_S128x128 z
        = sdG (arg3.view.read (Elt F) X3) (((Rect.unit (s := S16512x128) (k0_off3 k) S128x128.size (inb3 k)).emb z) 0).val (((Rect.unit (s := S16512x128) (k0_off3 k) S128x128.size (inb3 k)).emb z) 1).val := fun z => by
      have hz0 : (z 0).val < 128 := (z 0).isLt
      rw [turned_apply, f0, f1]
      refine (read10 arg3 arg10 X3 k _ _).trans ?_
      show tmpG _ k.val (0 + 1 * (z 1).val) (0 + 1 * (z 0).val) = _
      rw [Nat.zero_add, Nat.zero_add, Nat.one_mul, Nat.one_mul]
      exact tmp_sd _ k.val (z 1).val (z 0).val hk hz0
    rw [pieces11_eq] at hp
    obtain rfl := List.mem_singleton.mp hp
    exact main x
  · obtain ⟨K, hK⟩ : ∃ K : Fin k0_t1_loop.trips, K.val = 16 * ((y 0).val / 129 % 8) + (y 0).val / 129 / 8 := ⟨⟨_, by rw [trips1]; omega⟩, rfl⟩
    have ha : K.val % 16 = (y 0).val / 129 / 8 := by omega
    have hb : K.val / 16 = (y 0).val / 129 % 8 := by omega
    refine ⟨K, K.isLt, _, by rw [pieces11_eq]; exact List.mem_singleton.mpr rfl, ?_⟩
    refine mem_rect2 _ y ((y 0).val % 129) (y 1).val hy h1 ?_ ?_
    · show (y 0).val = k0_off3 K 0 + 1 * ((y 0).val % 129)
      rw [off3_eq]
      show (y 0).val = 129 * (8 * (K.val % 16) + K.val / 16) + 1 * ((y 0).val % 129)
      rw [ha, hb]; omega
    · show (y 1).val = k0_off3 K 1 + 1 * (y 1).val
      rw [off3_eq]; show (y 1).val = 0 + 1 * (y 1).val; omega

/-- The x words before they are transposed, after the second loop. -/
theorem read12 (X2 : BufTy.Contents (Elt F) arg2.view.ty) (f12 : BufTy.Contents (Elt F) arg12.view.ty) (y : S4104x128.Idx) (hy : (y 0).val % 513 < 512) :
    arg12.view.read (Elt F) (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 f12 k0_t2_loop.trips) y = xtG (arg2.view.read (Elt F) X2) (y 0).val (y 1).val := by
  have h0 : (y 0).val < 4104 := (y 0).isLt
  have h1 : (y 1).val < 128 := (y 1).isLt
  refine read_steps arg12.view k0_t2_loop.trips (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 f12) (fun k => (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 k (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 f12 k.val)).1)
    (fun k => by rw [st2_succ]) (fun y => xtG (arg2.view.read (Elt F) X2) (y 0).val (y 1).val) ?_ _ (le_refl _) y ?_
  · intro k p hp
    rw [pieces12_eq] at hp
    obtain ⟨n, -, rfl⟩ := List.mem_map.mp hp
    exact xPiece_val _ k n
  · obtain ⟨K, hK⟩ : ∃ K : Fin k0_t2_loop.trips, K.val = 16 * ((y 0).val % 513 / 4 % 8) + (y 0).val % 513 / 32 := ⟨⟨_, by rw [trips2]; omega⟩, rfl⟩
    obtain ⟨n, hn⟩ : ∃ n : Fin 4, n.val = (y 0).val % 513 % 4 := ⟨⟨_, Nat.mod_lt _ (by decide)⟩, rfl⟩
    have ha : K.val % 16 = (y 0).val % 513 / 32 := by omega
    have hb : K.val / 16 = (y 0).val % 513 / 4 % 8 := by omega
    refine ⟨K, K.isLt, xPiece (arg2.view.read (Elt F) X2) K n, by
      rw [pieces12_eq]; exact List.mem_map_of_mem ((by decide : ∀ n : Fin 4, n ∈ ([3, 2, 1, 0] : List (Fin 4))) n), ?_⟩
    refine mem_rect2 _ y ((y 0).val / 513) (y 1).val ?_ h1 ?_ ?_
    · show (y 0).val / 513 < 8; omega
    · show (y 0).val = k0_off5 K (BitVec.ofNat 32 n.val) 0 + 513 * ((y 0).val / 513)
      rw [off5_eq]
      show (y 0).val = 32 * (K.val % 16) + 4 * (K.val / 16) + n.val + 513 * ((y 0).val / 513)
      rw [ha, hb, hn]; omega
    · show (y 1).val = k0_off5 K (BitVec.ofNat 32 n.val) 1 + 1 * (y 1).val
      rw [off5_eq]
      show (y 1).val = 0 + 1 * (y 1).val; omega

/-- The x words after the third loop, over contents whose words are in place. -/
theorem read13 (A2 : S8x2048x128.Idx → BitVec 8) (X12 : BufTy.Contents (Elt F) arg12.view.ty) (h12 : ∀ y : S4104x128.Idx, (y 0).val % 513 < 512 → arg12.view.read (Elt F) X12 y = xtG A2 (y 0).val (y 1).val)
    (f13 : BufTy.Contents (Elt F) arg13.view.ty) (y : S4128x128.Idx) (hy : (y 0).val % 129 < 128) :
    arg13.view.read (Elt F) (arg13.view.writes (Elt F) f13 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X12 k0_t3_loop.trips)) y = sxG A2 (y 0).val (y 1).val := by
  have h0 : (y 0).val < 4128 := (y 0).isLt
  have h1 : (y 1).val < 128 := (y 1).isLt
  refine read_steps arg13.view k0_t3_loop.trips (fun m => arg13.view.writes (Elt F) f13 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X12 m)) (fun k => tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X12 k)
    (fun k => by rw [pb_k0_t3_succ, View.writes_append]) (fun y => sxG A2 (y 0).val (y 1).val) ?_ _ (le_refl _) y ?_
  · intro k p hp x
    have hk : k.val < 32 := lt_of_lt_of_eq k.isLt trips3
    have e0 : ∀ z : S128x128.Idx, (((Rect.unit (s := S4104x128) (k0_off6 k) S128x128.size (inb6 k)).toLoadRect.idx z) 0).val = 513 * (k.val % 8) + 128 * (k.val / 8) + (z 0).val := fun z => by
      show k0_off6 k 0 + 1 * (z 0).val = _
      rw [off6_eq]; show 513 * (k.val % 8) + 128 * (k.val / 8) + 1 * (z 0).val = _; omega
    have e1 : ∀ z : S128x128.Idx, (((Rect.unit (s := S4104x128) (k0_off6 k) S128x128.size (inb6 k)).toLoadRect.idx z) 1).val = (z 1).val := fun z => by
      show k0_off6 k 1 + 1 * (z 1).val = _
      rw [off6_eq]; show 0 + 1 * (z 1).val = _; omega
    have f0 : ∀ z : S128x128.Idx, (((Rect.unit (s := S4128x128) (k0_off7 k) S128x128.size (inb7 k)).emb z) 0).val = 129 * (8 * (k.val / 8) + (if k.val % 2 = 0 then k.val % 8 + 1 else k.val % 8 - 1)) + (z 0).val := fun z => by
      show k0_off7 k 0 + 1 * (z 0).val = _
      rw [off7_eq]; show 129 * (8 * (k.val / 8) + (if k.val % 2 = 0 then k.val % 8 + 1 else k.val % 8 - 1)) + 1 * (z 0).val = _; omega
    have f1 : ∀ z : S128x128.Idx, (((Rect.unit (s := S4128x128) (k0_off7 k) S128x128.size (inb7 k)).emb z) 1).val = (z 1).val := fun z => by
      show k0_off7 k 1 + 1 * (z 1).val = _
      rw [off7_eq]; show 0 + 1 * (z 1).val = _; omega
    have main : ∀ z : S128x128.Idx, shapeCast S128x128 (transpose S128x128 [1, 0] (fun x => arg12.view.read (Elt F) X12 ((Rect.unit (s := S4104x128) (k0_off6 k) S128x128.size (inb6 k)).toLoadRect.idx x) : Vec F S128x128 .i32) transposes_S128x128_p1_0_S128x128) shapeCasts_S128x128_S128x128 z
        = sxG A2 (((Rect.unit (s := S4128x128) (k0_off7 k) S128x128.size (inb7 k)).emb z) 0).val (((Rect.unit (s := S4128x128) (k0_off7 k) S128x128.size (inb7 k)).emb z) 1).val := fun z => by
      have hz0 : (z 0).val < 128 := (z 0).isLt
      have hz1 : (z 1).val < 128 := (z 1).isLt
      rw [turned_apply, f0, f1]
      refine (h12 _ ?_).trans ?_
      · rw [e0]
        show (513 * (k.val % 8) + 128 * (k.val / 8) + (z 1).val) % 513 < 512
        rw [show (513 * (k.val % 8) + 128 * (k.val / 8) + (z 1).val) % 513 = 128 * (k.val / 8) + (z 1).val by omega]
        omega
      · rw [e0, e1]
        exact xt_sx A2 k.val (z 1).val (z 0).val hk hz1 hz0
    rw [pieces13_eq] at hp
    obtain rfl := List.mem_singleton.mp hp
    exact main x
  · have hq : (y 0).val / 129 < 32 := by omega
    obtain ⟨K, hK⟩ : ∃ K : Fin k0_t3_loop.trips, K.val = 8 * ((y 0).val / 129 / 8) + (if (y 0).val / 129 % 2 = 0 then (y 0).val / 129 % 8 + 1 else (y 0).val / 129 % 8 - 1) := ⟨⟨_, by rw [trips3]; split <;> omega⟩, rfl⟩
    refine ⟨K, K.isLt, _, by rw [pieces13_eq]; exact List.mem_singleton.mpr rfl, ?_⟩
    have e : 8 * (K.val / 8) + (if K.val % 2 = 0 then K.val % 8 + 1 else K.val % 8 - 1) = (y 0).val / 129 := by
      by_cases h2 : (y 0).val / 129 % 2 = 0
      · rw [if_pos h2] at hK
        rw [if_neg (by omega)]; omega
      · rw [if_neg h2] at hK
        rw [if_pos (by omega)]; omega
    refine mem_rect2 _ y ((y 0).val % 129) (y 1).val hy h1 ?_ ?_
    · show (y 0).val = k0_off7 K 0 + 1 * ((y 0).val % 129)
      rw [off7_eq]
      show (y 0).val = 129 * (8 * (K.val / 8) + (if K.val % 2 = 0 then K.val % 8 + 1 else K.val % 8 - 1)) + 1 * ((y 0).val % 129)
      rw [e]; omega
    · show (y 1).val = k0_off7 K 1 + 1 * (y 1).val
      rw [off7_eq]; show (y 1).val = 0 + 1 * (y 1).val; omega

end Cert.Proof.KernelIdeal
-- ==== Proof.Ideal.Chan.lean ====
/-
  One channel of the block as a function of the buffers' contents: the operands decoded from words, the four matrix
  products, the folds of their results. Every piece that a trip of the channel loop stores is one of these vectors.
-/
module

public import proofs.«01_k».proof.Proof.Ideal.Offsets

@[expose] public section

noncomputable section

namespace Cert.Proof.KernelIdeal

open Cert.KernelIdeal Cert.KernelIdeal.Gen
open Idealize.ShloMosaic

variable {F : FTy → Type} [FloatOps F]

/-- Row `n` of a stack of matrices, with the axis of extent one. -/
theorem inbStack {N : ℕ} (n : Fin N) : ∀ a, (![n.val, 0, 0] : Fin 3 → ℕ) a + S1x32x128.size a ≤ (⟨3, ![N, 32, 128]⟩ : Shape).size a := by
  intro a; match a with
  | 0 => simp [S1x32x128]; omega
  | 1 => simp [S1x32x128]
  | 2 => simp [S1x32x128]

/-- Matrix `n` of the stack of dy scales. -/
def dyScale (A5 : Vec F S16x32x128 .bf16) (n : Fin 16) : Vec F S1x32x128 .bf16 :=
  fun x => A5 ((Rect.unit (s := S16x32x128) ![n.val, 0, 0] S1x32x128.size (inbStack n)).toLoadRect.idx x)
/-- Matrix `v` of a stack of x scales. -/
def xScale (A : Vec F S4x32x128 .bf16) (v : Fin 4) : Vec F S1x32x128 .bf16 :=
  fun x => A ((Rect.unit (s := S4x32x128) ![v.val, 0, 0] S1x32x128.size (inbStack v)).toLoadRect.idx x)
/-- The dy words of block `n`, one row per batch. -/
def dyWords (A11 : Vec F S16512x128 .i32) (k : Fin k0_t4_loop.trips) (n : Fin 16) : Vec F S8x128 .i32 :=
  fun x => A11 ((⟨k0_off10 k (BitVec.ofNat 32 (1032 * n.val)), S8x128.size, ![129, 1], inb10 k n⟩ : LoadRect S16512x128).idx x)
/-- The x words of lane block `v`. -/
def xWords (A13 : Vec F S4128x128 .i32) (k : Fin k0_t4_loop.trips) (v : Fin 4) : Vec F S8x128 .i32 :=
  fun x => A13 ((⟨k0_off11 k (BitVec.ofNat 32 (1032 * v.val)), S8x128.size, ![129, 1], inb11 k v⟩ : LoadRect S4128x128).idx x)
/-- The filter words of block `n`. -/
def hWords (A14 : Vec F S2176x128 .i32) (k : Fin k0_t4_loop.trips) (n : Fin 17) : Vec F S1x128 .i32 :=
  fun x => A14 ((Rect.unit (s := S2176x128) (k0_off9 k (BitVec.ofNat 32 (128 * n.val))) S1x128.size (inb9 k n)).toLoadRect.idx x)

/-- The lane number. -/
abbrev laneIota : IVec S8x128 32 := iota .tc S8x128 32 [1] (by decide)
/-- The sublane number. -/
abbrev subIota : IVec S8x128 32 := iota .tc S8x128 32 [0] (by decide)
/-- Lanes at or past four times the sublane. -/
abbrev skew : IVec S8x128 1 := cmpi .sge laneIota (muli (broadcast S8x128 4#32) subIota)

/-- A row of filter words on eight sublanes, sublane `r` turned by `4 r` lanes. -/
def rolledRow (w : Vec F S1x128 .i32) : IVec S8x128 32 :=
  dynamicRotate 1 0#32 (some (4, 0)) (broadcastTo S8x128 (shapeCast S1x128 w shapeCasts_S1x128_S1x128) broadcasts_S1x128_S8x128) rotates_S8x128_d1s4a0

/-- Thirty-two rows of the Toeplitz matrix on 128 columns. -/
def hBlock (W : Fin 17 → Vec F S1x128 .i32) (n : Fin 16) : FVec F S32x128 .bf16 :=
  extf .bf16 (bitcastToFloat .fp8e4m3 (bitcast S32x128 8 (select skew (rolledRow (W n.succ)) (rolledRow (W n.castSucc))) bitcasts_S8x128_w32_S32x128_w8)) bitsLt_fp8e4m3_bf16

/-- Thirty-two rows on 256 columns. -/
def hPair (W : Fin 17 → Vec F S1x128 .i32) (d : Fin 8) : FVec F S32x256 .bf16 :=
  concatenate S32x256 1 [⟨S32x128, hBlock W ⟨2 * d.val, by omega⟩⟩, ⟨S32x128, hBlock W ⟨2 * d.val + 1, by omega⟩⟩] concatenates_S32x128_S32x128_S32x256_d1

/-- A tile of zeros. -/
abbrev zeroTile : FVec F S32x128 .bf16 := broadcast S32x128 (Scalar.ofBits .bf16 0x0000#16 : F .bf16)

/-- The scaled dy tile of block `k`; past the end zeros. -/
def dyTile (W : Fin 16 → Vec F S8x128 .i32) (S : Fin 16 → Vec F S1x32x128 .bf16) (k : ℕ) : FVec F S32x128 .bf16 :=
  if h : k < 16 then mulf (extf .bf16 (bitcastToFloat .fp8e5m2 (bitcast S32x128 8 (W ⟨k, h⟩) bitcasts_S8x128_w32_S32x128_w8)) bitsLt_fp8e5m2_bf16) (shapeCast S32x128 (S ⟨k, h⟩) shapeCasts_S1x32x128_S32x128)
  else zeroTile

/-- Two neighbouring dy tiles side by side. -/
def dyPair (T : ℕ → FVec F S32x128 .bf16) (k : ℕ) : FVec F S32x256 .bf16 :=
  concatenate S32x256 1 [⟨S32x128, T k⟩, ⟨S32x128, T (k + 1)⟩] concatenates_S32x128_S32x128_S32x256_d1

/-- Eight row blocks on top of each other. -/
def stack8 (f : ℕ → FVec F S32x256 .bf16) : FVec F S256x256 .bf16 :=
  concatenate S256x256 0 [⟨S32x256, f 0⟩, ⟨S32x256, f 1⟩, ⟨S32x256, f 2⟩, ⟨S32x256, f 3⟩, ⟨S32x256, f 4⟩, ⟨S32x256, f 5⟩, ⟨S32x256, f 6⟩, ⟨S32x256, f 7⟩] concatenates_S32x256_S32x256_S32x256_S32x256_S32x256_S32x256_S32x256_S32x256_S256x256_d0
/-- Four row blocks on top of each other. -/
def stack4 (f : ℕ → FVec F S32x256 .bf16) : FVec F S128x256 .bf16 :=
  concatenate S128x256 0 [⟨S32x256, f 0⟩, ⟨S32x256, f 1⟩, ⟨S32x256, f 2⟩, ⟨S32x256, f 3⟩] concatenates_S32x256_S32x256_S32x256_S32x256_S128x256_d0

/-- The dy operand of contraction half `kt`. -/
def dyMat (T : ℕ → FVec F S32x128 .bf16) (kt : ℕ) : FVec F S256x256 .bf16 := stack8 fun r => dyPair T (8 * kt + r)

/-- The x words moved by two token blocks. -/
def xMoved (W : Fin 4 → Vec F S8x128 .i32) (v : Fin 4) : IVec S8x128 32 :=
  select (cmpi .slt laneIota (broadcast S8x128 64#32))
    (if h : 0 < v.val then dynamicRotate 1 64#32 none (W ⟨v.val - 1, by omega⟩) rotates_S8x128_d1 else broadcast S8x128 0#32)
    (dynamicRotate 1 64#32 none (W v) rotates_S8x128_d1)

/-- A scaled x tile. -/
def xTile (w : IVec S8x128 32) (s : Vec F S1x32x128 .bf16) : FVec F S32x128 .bf16 :=
  mulf (extf .bf16 (bitcastToFloat .fp8e4m3 (bitcast S32x128 8 w bitcasts_S8x128_w32_S32x128_w8)) bitsLt_fp8e4m3_bf16) (shapeCast S32x128 s shapeCasts_S1x32x128_S32x128)

/-- The x tile of parity `odd` and lane block `v`, both moved down by `e` blocks: zeros where that is before the start. -/
def xAt (X : ℕ → Fin 4 → FVec F S32x128 .bf16) (odd v e : ℕ) : FVec F S32x128 .bf16 :=
  if h : e ≤ v ∧ v - e < 4 then X odd ⟨v - e, h.2⟩ else zeroTile

/-- The x rows of lag block `d` for contraction half `kt`. -/
def xRows (X : ℕ → Fin 4 → FVec F S32x128 .bf16) (kt d : ℕ) : FVec F S32x256 .bf16 :=
  concatenate S32x256 1 [⟨S32x128, xAt X (d % 2) (2 * kt) (d / 2)⟩, ⟨S32x128, xAt X (d % 2) (2 * kt + 1) (d / 2)⟩] concatenates_S32x128_S32x128_S32x256_d1

def p0Of (X : ℕ → Fin 4 → FVec F S32x128 .bf16) (D : FVec F S256x256 .bf16) : FVec F S128x256 .f32 :=
  matmul dot_S128x256_S256x256_S128x256_1_0_0_1_n_n none (stack4 (xRows X 0)) D (constant S128x256 .f32 0x00000000#32)
def p1Of (X : ℕ → Fin 4 → FVec F S32x128 .bf16) (D : FVec F S256x256 .bf16) : FVec F S256x256 .f32 :=
  matmul dot_S256x256_S256x256_S256x256_1_0_0_1_n_n none (stack8 (xRows X 1)) D (constant S256x256 .f32 0x00000000#32)
def y0Of (H : ℕ → FVec F S32x256 .bf16) (D : FVec F S256x256 .bf16) : FVec F S128x256 .f32 :=
  matmul dot_S128x256_S256x256_S128x256_1_1_0_0_n_n none (stack4 H) D (constant S128x256 .f32 0x00000000#32)
def y1Of (H : ℕ → FVec F S32x256 .bf16) (D : FVec F S256x256 .bf16) : FVec F S256x256 .f32 :=
  matmul dot_S256x256_S256x256_S256x256_1_1_0_0_n_n none (stack8 H) D (constant S256x256 .f32 0x00000000#32)

theorem slices0 (r c : ℕ) (h : r + 8 ≤ 128 ∧ c + 128 ≤ 256) : S128x256.Slices ![r, c] S8x128 := by
  refine ⟨rfl, ?_⟩
  intro a; match a with
  | 0 => exact h.1
  | 1 => exact h.2
theorem slices1 (r c : ℕ) (h : r + 8 ≤ 256 ∧ c + 128 ≤ 256) : S256x256.Slices ![r, c] S8x128 := by
  refine ⟨rfl, ?_⟩
  intro a; match a with
  | 0 => exact h.1
  | 1 => exact h.2

/-- A vector of zeros. -/
abbrev zero8 : FVec F S8x128 .f32 := broadcast S8x128 (Scalar.ofBits .f32 0x00000000#32 : F .f32)

/-- Eight rows of the correlation: of the first half too where it has them. -/
def dhPart (p0 : FVec F S128x256 .f32) (p1 : FVec F S256x256 .f32) (a n : ℕ) : FVec F S8x128 .f32 :=
  if h1 : 32 * (n / 2) + 8 * a + 8 ≤ 256 ∧ 128 * (n % 2) + 128 ≤ 256 then
    if h0 : 32 * (n / 2) + 8 * a + 8 ≤ 128 ∧ 128 * (n % 2) + 128 ≤ 256 then
      addf (extractStridedSlice S8x128 ![32 * (n / 2) + 8 * a, 128 * (n % 2)] p1 (slices1 _ _ h1))
        (extractStridedSlice S8x128 ![32 * (n / 2) + 8 * a, 128 * (n % 2)] p0 (slices0 _ _ h0))
    else extractStridedSlice S8x128 ![32 * (n / 2) + 8 * a, 128 * (n % 2)] p1 (slices1 _ _ h1)
  else zero8

/-- The fold of the eight-row groups: group `3 - j` and what came before it, moved by eight lanes. -/
def accOf (p0 : FVec F S128x256 .f32) (p1 : FVec F S256x256 .f32) : ℕ → ℕ → FVec F S8x128 .f32
  | 0, n => dhPart p0 p1 3 n
  | j + 1, n => addf (dhPart p0 p1 (2 - j) n)
      (select (cmpi .slt laneIota (broadcast S8x128 120#32)) (dynamicRotate 1 120#32 none (accOf p0 p1 j n) rotates_S8x128_d1)
        (if n + 1 < 16 then dynamicRotate 1 120#32 none (accOf p0 p1 j (n + 1)) rotates_S8x128_d1 else zero8))

/-- One stored row of dh. -/
def dhRow (p0 : FVec F S128x256 .f32) (p1 : FVec F S256x256 .f32) (n : ℕ) : FVec F S1x128 .f32 :=
  shapeCast S1x128 (shapeCast S1x128 (multiReduction .add [0] S128
    (select (cmpi .slt laneIota (addi (broadcast S8x128 121#32) subIota))
      (dynamicRotate 1 121#32 (some (1, 0)) (accOf p0 p1 3 n) rotates_S8x128_d1s1a0)
      (if n + 1 < 16 then dynamicRotate 1 121#32 (some (1, 0)) (accOf p0 p1 3 (n + 1)) rotates_S8x128_d1s1a0 else zero8))
    0x00000000#32 reduces_S8x128_S128 (.inl rfl) rfl) shapeCasts_S128_S1x128) shapeCasts_S1x128_S1x128

/-- Eight rows `8 i + s` of the product of lag block `d` on lane block `v`. -/
def dxPart (y0 : FVec F S128x256 .f32) (y1 : FVec F S256x256 .f32) (i d v : ℕ) : FVec F S8x128 .f32 :=
  if v < 2 then
    if h : 32 * d + 8 * i + 8 ≤ 128 ∧ 128 * (v % 2) + 128 ≤ 256 then
      extractStridedSlice S8x128 ![32 * d + 8 * i, 128 * (v % 2)] y0 (slices0 _ _ h) else zero8
  else
    if h : 32 * d + 8 * i + 8 ≤ 256 ∧ 128 * (v % 2) + 128 ≤ 256 then
      extractStridedSlice S8x128 ![32 * d + 8 * i, 128 * (v % 2)] y1 (slices1 _ _ h) else zero8

/-- The partial sums of the terms on one diagonal. -/
def dxSum (f : ℕ → FVec F S8x128 .f32) : ℕ → FVec F S8x128 .f32
  | 0 => f 0
  | e + 1 => addf (dxSum f e) (f (e + 1))

/-- The terms of parity `odd` for lane block `v`. -/
def dxDiag (y0 : FVec F S128x256 .f32) (y1 : FVec F S256x256 .f32) (i odd v : ℕ) : FVec F S8x128 .f32 :=
  dxSum (fun e => dxPart y0 y1 i (2 * e + odd) (v + e)) (3 - v)

/-- Eight rows of the dx tile. -/
def dxOut (hs : F .f32) (y0 : FVec F S128x256 .f32) (y1 : FVec F S256x256 .f32) (i v : ℕ) : FVec F S8x128 .f32 :=
  mulf (addf (dxDiag y0 y1 i 0 v)
    (select (cmpi .slt laneIota (broadcast S8x128 64#32)) (dynamicRotate 1 64#32 none (dxDiag y0 y1 i 1 v) rotates_S8x128_d1)
      (if v + 1 < 4 then dynamicRotate 1 64#32 none (dxDiag y0 y1 i 1 (v + 1)) rotates_S8x128_d1 else zero8)))
    (broadcast S8x128 hs)

/-- Sixteen stored rows of the dx tile, for half `sh`. -/
def dxRows (hs : F .f32) (y0 : FVec F S128x256 .f32) (y1 : FVec F S256x256 .f32) (v sh : ℕ) : FVec F S16x128 .f32 :=
  shapeCast S16x128 (extf .f32 (truncf .bf16 (concatenate S16x128 0 [⟨S8x128, dxOut hs y0 y1 (2 * sh) v⟩, ⟨S8x128, dxOut hs y0 y1 (2 * sh + 1) v⟩] concatenates_S8x128_S8x128_S16x128_d0) bitsLt_bf16_f32) bitsLt_bf16_f32) shapeCasts_S16x128_S16x128

/-! ### The channel of a trip, from the buffers -/

section Trip
variable (A5 : Vec F S16x32x128 .bf16) (A6 A7 : Vec F S4x32x128 .bf16) (A11 : Vec F S16512x128 .i32) (A13 : Vec F S4128x128 .i32) (A14 : Vec F S2176x128 .i32) (k : Fin k0_t4_loop.trips)

def dyT : ℕ → FVec F S32x128 .bf16 := dyTile (dyWords A11 k) (dyScale A5)
def xT (odd : ℕ) (v : Fin 4) : FVec F S32x128 .bf16 :=
  if odd = 0 then xTile (xWords A13 k v) (xScale A6 v) else xTile (xMoved (xWords A13 k) v) (xScale A7 v)
def hT (d : ℕ) : FVec F S32x256 .bf16 := hPair (hWords A14 k) (Fin.ofNat 8 d)
def p0T : FVec F S128x256 .f32 := p0Of (xT A6 A7 A13 k) (dyMat (dyT A5 A11 k) 0)
def p1T : FVec F S256x256 .f32 := p1Of (xT A6 A7 A13 k) (dyMat (dyT A5 A11 k) 1)
def y0T : FVec F S128x256 .f32 := y0Of (hT A14 k) (dyMat (dyT A5 A11 k) 0)
def y1T : FVec F S256x256 .f32 := y1Of (hT A14 k) (dyMat (dyT A5 A11 k) 1)

/-- The piece of dh rows number `n`. -/
def dhPiece (n : Fin 16) : View.Piece (Elt F) S2048x128 .f32 :=
  ⟨Rect.unit (k0_off12 k (BitVec.ofNat 32 (128 * n.val))) S1x128.size (inb12 k n), dhRow (p0T A5 A6 A7 A11 A13 k) (p1T A5 A6 A7 A11 A13 k) n.val⟩

/-- The piece of dx rows number `n`. -/
def dxPiece (hs : F .f32) (n : Fin 8) : View.Piece (Elt F) S16512x128 .f32 :=
  ⟨⟨⟨k0_off13 k (BitVec.ofNat 32 (2064 * n.val)), S16x128.size, ![129, 1], inb13 k n⟩, spos_129_1⟩, dxRows hs (y0T A5 A11 A14 k) (y1T A5 A11 A14 k) (n.val / 2) (n.val % 2)⟩
end Trip

end Cert.Proof.KernelIdeal
-- ==== Proof.Ideal.Fold.lean ====
/-
  The folds of one channel read at an index: what a stored row of dh and a stored row of dx are in terms of the four
  products.
-/
module

public import proofs.«01_k».proof.Proof.Ideal.Chan
public import Idealize.ShloMosaic.Lib.Pointwise

@[expose] public section

set_option maxRecDepth 16384

noncomputable section

namespace Cert.Proof.KernelIdeal

open Cert.KernelIdeal Cert.KernelIdeal.Gen
open Idealize.ShloMosaic
open Finset (range)

/-- Comparing small words is comparing the numbers. -/
theorem slt_lane (m : Fin 129) (c : Fin 128) : IntOp.cmpi .slt (BitVec.ofNat 32 c.val) (BitVec.ofNat 32 m.val) = if c.val < m.val then 1#1 else 0#1 := by
  revert m c; decide +kernel

theorem slt_lane_sub (i : Fin 8) (c : Fin 128) : IntOp.cmpi .slt (BitVec.ofNat 32 c.val) (IntOp.addi 121#32 (BitVec.ofNat 32 i.val)) = if c.val < 121 + i.val then 1#1 else 0#1 := by
  revert i c; decide +kernel

theorem sge_skew (i : Fin 8) (c : Fin 128) : IntOp.cmpi .sge (BitVec.ofNat 32 c.val) (IntOp.muli 4#32 (BitVec.ofNat 32 i.val)) = if 4 * i.val ≤ c.val then 1#1 else 0#1 := by
  revert i c; decide +kernel

theorem select_ite {α : Type} (p : Prop) [Decidable p] (x y : α) : Scalar.select (if p then 1#1 else 0#1) x y = if p then x else y := by
  by_cases h : p <;> simp [h, Scalar.select]

/-! ### dh -/

section Dh
variable (p0 : FVec Ideal S128x256 .f32) (p1 : FVec Ideal S256x256 .f32)

/-- The two halves of the correlation together. -/
def corr (r t : ℕ) : EReal :=
  (if h : r < 256 ∧ t < 256 then p1 (ix2 ⟨r, h.1⟩ ⟨t, h.2⟩) else 0) + (if h : r < 128 ∧ t < 256 then p0 (ix2 ⟨r, h.1⟩ ⟨t, h.2⟩) else 0)

/-- Row `8 a + i` of the lag block of `q`, at `q`'s place in it. -/
def corrAt (a i q : ℕ) : EReal := if q < 2048 then corr p0 p1 (32 * (q / 256) + 8 * a + i) (q % 256) else 0

theorem dhPart_apply (a n : ℕ) (ha : a < 4) (hn : n < 16) (i : Fin 8) (l : Fin 128) :
    dhPart p0 p1 a n (ix2 i l) = corrAt p0 p1 a i (128 * n + l) := by
  have e1 : (128 * n + l.val) / 256 = n / 2 := by omega
  have e2 : (128 * n + l.val) % 256 = 128 * (n % 2) + l.val := by omega
  have hi := i.isLt
  have hl := l.isLt
  unfold dhPart corrAt corr
  rw [if_pos (by omega), e1, e2, dif_pos (show 32 * (n / 2) + 8 * a + 8 ≤ 256 ∧ 128 * (n % 2) + 128 ≤ 256 by omega),
    dif_pos (show 32 * (n / 2) + 8 * a + i.val < 256 ∧ 128 * (n % 2) + l.val < 256 by omega)]
  by_cases h : 32 * (n / 2) + 8 * a + 8 ≤ 128
  · rw [dif_pos (show 32 * (n / 2) + 8 * a + 8 ≤ 128 ∧ 128 * (n % 2) + 128 ≤ 256 by omega),
      dif_pos (show 32 * (n / 2) + 8 * a + i.val < 128 ∧ 128 * (n % 2) + l.val < 256 by omega)]
    pointwise
  · rw [dif_neg (show ¬(32 * (n / 2) + 8 * a + 8 ≤ 128 ∧ 128 * (n % 2) + 128 ≤ 256) by omega),
      dif_neg (show ¬(32 * (n / 2) + 8 * a + i.val < 128 ∧ 128 * (n % 2) + l.val < 256) by omega), add_zero]
    pointwise

theorem accOf_apply (j : ℕ) (hj : j ≤ 3) : ∀ (n : ℕ) (_ : n < 16) (i : Fin 8) (l : Fin 128),
    accOf p0 p1 j n (ix2 i l) = ∑ e ∈ range (j + 1), corrAt p0 p1 (3 - j + e) i (128 * n + l + 8 * e) := by
  induction j with
  | zero =>
    intro n hn i l
    simp only [accOf, dhPart_apply p0 p1 3 n (by omega) hn, zero_add, Finset.sum_range_one]; rfl
  | succ j ih =>
    intro n hn i l
    have ih := ih (by omega)
    have hl := l.isLt
    rw [Finset.sum_range_succ']
    simp only [accOf]
    pointwise
    rw [dhPart_apply p0 p1 _ n (by omega) hn, add_comm]
    refine congrArg₂ (· + ·) ?_ (by congr 1; omega)
    have hs := slt_lane 120 l
    rw [show BitVec.ofNat 32 (120 : Fin 129).val = 120#32 from rfl, show (120 : Fin 129).val = 120 from rfl] at hs
    rw [hs, select_ite]
    by_cases h : l.val < 120
    · rw [if_pos h, ih n hn]
      refine Finset.sum_congr rfl fun e _ => ?_
      congr 1
      · omega
      · show 128 * n + (l.val + 128 - 120) % 128 + 8 * e = _
        omega
    · rw [if_neg h]
      by_cases hn' : n + 1 < 16
      · rw [if_pos hn']
        pointwise
        rw [ih (n + 1) hn']
        refine Finset.sum_congr rfl fun e _ => ?_
        congr 1
        · omega
        · show 128 * (n + 1) + (l.val + 128 - 120) % 128 + 8 * e = _
          omega
      · rw [if_neg hn']
        refine Eq.trans ?_ (Finset.sum_eq_zero fun e _ => ?_).symm
        · pointwise
        · unfold corrAt
          rw [if_neg (by omega)]

theorem dhRow_apply (n : ℕ) (hn : n < 16) (l : Fin 128) :
    dhRow p0 p1 n (ix2 0 l) = ∑ i ∈ range 8, ∑ e ∈ range 4, corrAt p0 p1 e i (128 * n + l + (7 - i) + 8 * e) := by
  pointwise [dhRow]
  rw [Finset.sum_range]
  refine Finset.sum_congr rfl fun i _ => ?_
  have hi := i.isLt
  have hl := l.isLt
  rw [slt_lane_sub, select_ite]
  by_cases h : l.val < 121 + i.val
  · rw [if_pos h, accOf_apply p0 p1 3 le_rfl n hn]
    refine Finset.sum_congr rfl fun e _ => ?_
    congr 1
    · omega
    · show 128 * n + (l.val + 128 - (121 + i.val) % 128) % 128 + 8 * e = _
      omega
  · rw [if_neg h]
    by_cases hn' : n + 1 < 16
    · rw [if_pos hn']
      pointwise
      rw [accOf_apply p0 p1 3 le_rfl (n + 1) hn']
      refine Finset.sum_congr rfl fun e _ => ?_
      congr 1
      · omega
      · show 128 * (n + 1) + (l.val + 128 - (121 + i.val) % 128) % 128 + 8 * e = _
        omega
    · rw [if_neg hn']
      refine Eq.trans ?_ (Finset.sum_eq_zero fun e _ => ?_).symm
      · pointwise
      · unfold corrAt
        rw [if_neg (by omega)]
end Dh

/-! ### dx -/

section Dx
variable (hs : EReal) (y0 : FVec Ideal S128x256 .f32) (y1 : FVec Ideal S256x256 .f32)

/-- Row `s` of the product of lag block `d`, at column `K` of both halves. -/
def prodAt (d s K : ℕ) : EReal :=
  if K < 256 then (if h : 32 * d + s < 128 ∧ K < 256 then y0 (ix2 ⟨32 * d + s, h.1⟩ ⟨K, h.2⟩) else 0)
  else (if h : 32 * d + s < 256 ∧ K - 256 < 256 then y1 (ix2 ⟨32 * d + s, h.1⟩ ⟨K - 256, h.2⟩) else 0)

theorem dxPart_apply (i d v : ℕ) (hi : i < 4) (hd : d < 8) (hd' : v < 2 → d < 4) (hv : v < 4) (s : Fin 8) (l : Fin 128) :
    dxPart y0 y1 i d v (ix2 s l) = prodAt y0 y1 d (8 * i + s) (128 * v + l) := by
  have hs := s.isLt
  have hl := l.isLt
  unfold dxPart prodAt
  by_cases h : v < 2
  · have := hd' h
    rw [if_pos h, dif_pos (by omega), if_pos (by omega), dif_pos (by omega)]
    pointwise
    refine congrArg y0 ?_
    rw [ix2_inj]
    exact ⟨Fin.ext (by simp only; omega), Fin.ext (by simp only; omega)⟩
  · rw [if_neg h, dif_pos (by omega), if_neg (by omega), dif_pos (by omega)]
    pointwise
    refine congrArg y1 ?_
    rw [ix2_inj]
    exact ⟨Fin.ext (by simp only; omega), Fin.ext (by simp only; omega)⟩

theorem dxSum_apply (f : ℕ → FVec Ideal S8x128 .f32) (m : ℕ) (j : S8x128.Idx) : dxSum f m j = ∑ e ∈ range (m + 1), f e j := by
  induction m with
  | zero => simp [dxSum]
  | succ m ih => rw [Finset.sum_range_succ, ← ih]; rfl

theorem dxDiag_apply (i odd v : ℕ) (hi : i < 4) (ho : odd < 2) (hv : v < 4) (s : Fin 8) (l : Fin 128) :
    dxDiag y0 y1 i odd v (ix2 s l) = ∑ e ∈ range (4 - v), prodAt y0 y1 (2 * e + odd) (8 * i + s) (128 * (v + e) + l) := by
  unfold dxDiag
  rw [dxSum_apply, show 3 - v + 1 = 4 - v by omega]
  refine Finset.sum_congr rfl fun e he => ?_
  have he := Finset.mem_range.mp he
  exact dxPart_apply y0 y1 i _ _ hi (by omega) (by omega) (by omega) s l

theorem sum_even_odd (f : ℕ → EReal) : ∑ d ∈ range 8, f d = ∑ e ∈ range 4, (f (2 * e + 0) + f (2 * e + 1)) := by
  simp only [Finset.sum_range_succ, Finset.sum_range_zero, zero_add]
  simp only [Nat.mul_zero, Nat.mul_one, Nat.reduceMul, Nat.reduceAdd, Nat.add_zero, Nat.zero_add, ← add_assoc]

/-- The terms of lag blocks `d` with column `K + 64 d` still in range. -/
theorem dxOut_apply (i v : ℕ) (hi : i < 4) (hv : v < 4) (s : Fin 8) (l : Fin 128) :
    dxOut hs y0 y1 i v (ix2 s l) = (∑ d ∈ range 8, if 128 * v + l + 64 * d < 512 then prodAt y0 y1 d (8 * i + s) (128 * v + l + 64 * d) else 0) * hs := by
  have hl := l.isLt
  pointwise [dxOut]
  refine congrArg (· * hs) ?_
  have hc := slt_lane 64 l
  rw [show BitVec.ofNat 32 (64 : Fin 129).val = 64#32 from rfl, show (64 : Fin 129).val = 64 from rfl] at hc
  rw [hc, select_ite, dxDiag_apply y0 y1 i 0 v hi (by omega) hv]
  rw [sum_even_odd fun d => if 128 * v + l.val + 64 * d < 512 then prodAt y0 y1 d (8 * i + s) (128 * v + l + 64 * d) else 0, Finset.sum_add_distrib]
  refine congrArg₂ (· + ·) ?_ ?_
  · rw [← Finset.sum_subset (Finset.range_subset_range.mpr (show 4 - v ≤ 4 by omega))]
    · refine Finset.sum_congr rfl fun e he => ?_
      have he := Finset.mem_range.mp he
      rw [if_pos (by omega)]
      congr 1; omega
    · intro e _ he
      have he := Finset.mem_range.not.mp he
      rw [if_neg (by omega)]
  · by_cases h : l.val < 64
    · rw [if_pos h]
      rw [dxDiag_apply y0 y1 i 1 v hi (by omega) hv]
      rw [← Finset.sum_subset (Finset.range_subset_range.mpr (show 4 - v ≤ 4 by omega))]
      · refine Finset.sum_congr rfl fun e he => ?_
        have he := Finset.mem_range.mp he
        rw [if_pos (by omega)]
        congr 1
        show 128 * (v + e) + (l.val + 128 - 64) % 128 = _
        omega
      · intro e _ he
        have he := Finset.mem_range.not.mp he
        rw [if_neg (by omega)]
    · rw [if_neg h]
      by_cases hv' : v + 1 < 4
      · rw [if_pos hv']
        pointwise
        rw [dxDiag_apply y0 y1 i 1 (v + 1) hi (by omega) hv']
        rw [← Finset.sum_subset (Finset.range_subset_range.mpr (show 4 - (v + 1) ≤ 4 by omega))]
        · refine Finset.sum_congr rfl fun e he => ?_
          have he := Finset.mem_range.mp he
          rw [if_pos (by omega)]
          congr 1
          show 128 * (v + 1 + e) + (l.val + 128 - 64) % 128 = _
          omega
        · intro e _ he
          have he := Finset.mem_range.not.mp he
          rw [if_neg (by omega)]
      · rw [if_neg hv']
        refine Eq.trans ?_ (Finset.sum_eq_zero fun e _ => ?_).symm
        · pointwise
        · rw [if_neg (by omega)]

theorem dxRows_apply (v sh : ℕ) (hv : v < 4) (hsh : sh < 2) (w : Fin 16) (l : Fin 128) :
    dxRows hs y0 y1 v sh (ix2 w l) = (∑ d ∈ range 8, if 128 * v + l + 64 * d < 512 then prodAt y0 y1 d (16 * sh + w) (128 * v + l + 64 * d) else 0) * hs := by
  have hw := w.isLt
  pointwise [dxRows]
  by_cases h : w.val < 8
  · rw [dif_pos h, dxOut_apply hs y0 y1 _ v (by omega) hv]
    rw [show 8 * (2 * sh) + w.val = 16 * sh + w.val by omega]
  · rw [dif_neg h, dxOut_apply hs y0 y1 _ v (by omega) hv]
    rw [show 8 * (2 * sh + 1) + (w.val - 8) = 16 * sh + w.val by omega]
end Dx

end Cert.Proof.KernelIdeal
-- ==== Proof.Ideal.TapsVal.lean ====
/-
  What the taps buffer holds after its pieces are stored, byte by byte.
-/
module

public import proofs.«01_k».proof.Proof.Ideal.Taps
public import proofs.«01_k».proof.Proof.Ideal.Fill
public import proofs.«01_k».proof.Proof.Ideal.Fold

@[expose] public section

set_option maxRecDepth 8192

noncomputable section

namespace Cert.Proof.KernelIdeal

open Cert.KernelIdeal Cert.KernelIdeal.Gen
open Idealize.ShloMosaic

/-- The code of channel `c` at tap `p`, zero outside. -/
def tapAt (A4 : S128x2048.Idx → BitVec 8) (c p : ℕ) : BitVec 8 :=
  if h : c < 128 ∧ p < 2048 then A4 (ix2 ⟨c, h.1⟩ ⟨p, h.2⟩) else 0#8

theorem tapAt_eq (A4 : S128x2048.Idx → BitVec 8) (j : S128x2048.Idx) : A4 j = tapAt A4 (j 0).val (j 1).val := by
  unfold tapAt
  rw [dif_pos ⟨(j 0).isLt, (j 1).isLt⟩]
  exact congrArg A4 (ValueIdx.eq_ix2 j)

/-- The word at row `R`, lane `l`. -/
def shG (A4 : S128x2048.Idx → BitVec 8) (R l : ℕ) : BitVec 32 :=
  wordOf fun j => if 128 + j ≤ 128 * (R / 128) + l then tapAt A4 (R % 128) (128 * (R / 128) + l - (128 + j)) else 0#8

theorem sge_tap : ∀ (j : Fin 4) (t : Fin 2048), IntOp.cmpi .sge (BitVec.ofNat 32 t.val) (BitVec.ofNat 32 j.val) = if j.val ≤ t.val then 1#1 else 0#1 := by
  decide +kernel

theorem hMoved_apply (a : IVec S8x2048 32) (j : Fin 4) (r : Fin 8) (t : Fin 2048) :
    hMoved a (BitVec.ofNat 32 j.val) (ix2 r t) = if h : j.val ≤ t.val then a (ix2 r ⟨t.val - j.val, by omega⟩) else 0#32 := by
  have hj := j.isLt
  have ht := t.isLt
  pointwise [hMoved]
  rw [sge_tap, select_ite]
  by_cases h : j.val ≤ t.val
  · rw [if_pos h, dif_pos h]
    congr 1
    rw [ix2_inj]
    refine ⟨rfl, Fin.ext ?_⟩
    simp only [BitVec.toNat_ofNat]
    omega
  · rw [if_neg h, dif_neg h]

variable {F : FTy → Type} [FloatOps F]

theorem hBase_byte (A4 : Vec F S128x2048 .i8) (w : ℕ) (hw : w < 4) (r : Fin 8) (t : Fin 2048) (i : ℕ) (hi : i < 4) :
    byte (hBase A4 w hw (ix2 r t)) i = tapAt A4 (32 * w + 4 * r.val + i) t.val := by
  unfold hBase
  rw [byte_bitcast _ _ r t i hi ⟨4 * r.val + i, by omega⟩ rfl, tapAt_eq A4]
  refine congrArg₂ (tapAt A4) ?_ ?_
  · show 32 * w + 1 * (4 * r.val + i) = _; omega
  · show 0 + 1 * t.val = _; omega

theorem hInter_byte (A4 : Vec F S128x2048 .i8) (w : ℕ) (hw : w < 4) (i : ℕ) (hi : i < 4) (r : Fin 8) (t : Fin 2048) (j : ℕ) (hj : j < 4) :
    byte (hInter (hBase A4 w hw) i (ix2 r t)) j = if j ≤ t.val then tapAt A4 (32 * w + 4 * r.val + i) (t.val - j) else 0#8 := by
  unfold hInter
  rw [interleave_byte i j hi hj]
  have key : ∀ j : Fin 4, byte (hMoved (hBase A4 w hw) (BitVec.ofNat 32 j.val) (ix2 r t)) i = if j.val ≤ t.val then tapAt A4 (32 * w + 4 * r.val + i) (t.val - j.val) else 0#8 := by
    intro j
    rw [hMoved_apply]
    by_cases h : j.val ≤ t.val
    · rw [dif_pos h, if_pos h, hBase_byte A4 w hw _ _ i hi]
    · rw [dif_neg h, if_neg h]; unfold byte; simp
  interval_cases j
  · rw [if_pos (Nat.zero_le _)]; exact hBase_byte A4 w hw r t i hi
  · exact key 1
  · exact key 2
  · exact key 3

theorem hPiece_val (A4 : Vec F S128x2048 .i8) (n : Fin 256) (x : S8x128.Idx) :
    (hPiece A4 n).2 x = shG A4 (((hPiece A4 n).1.emb x) 0).val (((hPiece A4 n).1.emb x) 1).val := by
  have hx0 : (x 0).val < 8 := (x 0).isLt
  have hx1 : (x 1).val < 128 := (x 1).isLt
  have hn := n.isLt
  obtain ⟨w, hw⟩ : ∃ w, w = n.val / 64 := ⟨_, rfl⟩
  obtain ⟨i, hi⟩ : ∃ i, i = n.val / 16 % 4 := ⟨_, rfl⟩
  obtain ⟨m, hm⟩ : ∃ m, m = n.val % 16 := ⟨_, rfl⟩
  have hw4 : w < 4 := by omega
  have hi4 : i < 4 := by omega
  have hm16 : m < 16 := by omega
  have e0 : (((hPiece A4 n).1.emb x) 0).val = (m + 1) * 128 + 32 * w + i + 4 * (x 0).val := by
    show (n.val % 16 + 1) * 128 + 32 * (n.val / 64) + n.val / 16 % 4 + 4 * (x 0).val = _
    rw [← hw, ← hi, ← hm]
  have e1 : (((hPiece A4 n).1.emb x) 1).val = (x 1).val := by
    show 0 + 1 * (x 1).val = _; omega
  rw [e0, e1]
  have e2 : (hPiece A4 n).2 x = shapeCast S8x128 (extractStridedSlice S8x128 ![0, 128 * (n.val % 16)] (hInter (hBase A4 (n.val / 64) (by omega)) (n.val / 16 % 4)) (slicesH _ (Nat.mod_lt _ (by decide)))) shapeCasts_S8x128_S8x128 x := rfl
  rw [e2, castSelf]
  have e3 : extractStridedSlice S8x128 ![0, 128 * (n.val % 16)] (hInter (hBase A4 (n.val / 64) (by omega)) (n.val / 16 % 4)) (slicesH _ (Nat.mod_lt _ (by decide))) x
      = hInter (hBase A4 w hw4) i (ix2 (⟨(x 0).val, hx0⟩ : Fin 8) (⟨128 * m + (x 1).val, by omega⟩ : Fin 2048)) := by
    subst hw hi hm
    refine congrArg (hInter (hBase A4 (n.val / 64) hw4) (n.val / 16 % 4)) ?_
    funext a
    match a with
    | 0 => exact Fin.ext (show 0 + (x 0).val = (x 0).val by omega)
    | 1 => exact Fin.ext (show 128 * (n.val % 16) + (x 1).val = _ by rfl)
  rw [e3]
  refine eq_wordOf fun j hj => ?_
  rw [hInter_byte A4 w hw4 i hi4 _ _ j hj]
  have d1 : ((m + 1) * 128 + 32 * w + i + 4 * (x 0).val) / 128 = m + 1 := by omega
  have d2 : ((m + 1) * 128 + 32 * w + i + 4 * (x 0).val) % 128 = 32 * w + i + 4 * (x 0).val := by omega
  rw [d1, d2]
  by_cases h : j ≤ 128 * m + (x 1).val
  · rw [if_pos h, if_pos (by omega)]
    refine congrArg₂ (tapAt A4) ?_ ?_
    · show 32 * w + 4 * (x 0).val + i = _; omega
    · show 128 * m + (x 1).val - j = _; omega
  · rw [if_neg h, if_neg (by omega)]

theorem mem_hPieces (A4 : Vec F S128x2048 .i8) (N : ℕ) (hN : N ≤ 256) (p : View.Piece (Elt F) S2176x128 .i32) :
    p ∈ hPieces A4 N ↔ (p = ⟨Rect.unit ![0, 0] S128x128.size inb_S2176x128_S128x128_0_0, shapeCast S128x128 (broadcast S128x128 0#32) shapeCasts_S128x128_S128x128⟩ ∨ ∃ n : Fin 256, n.val < N ∧ p = hPiece A4 n) := by
  induction N with
  | zero => simp [hPieces]
  | succ N ih =>
    have ih := ih (by omega)
    rw [hPieces, List.mem_cons, ih]
    have hv : (Fin.ofNat 256 N).val = N := Nat.mod_eq_of_lt (by omega)
    constructor
    · rintro (h | h | ⟨n, hn, h⟩)
      · exact .inr ⟨_, by rw [hv]; omega, h⟩
      · exact .inl h
      · exact .inr ⟨n, by omega, h⟩
    · rintro (h | ⟨n, hn, h⟩)
      · exact .inr (.inl h)
      · by_cases e : n.val = N
        · obtain rfl : n = Fin.ofNat 256 N := Fin.ext (e.trans hv.symm)
          exact .inl h
        · exact .inr (.inr ⟨n, by omega, h⟩)

theorem read14 (arg14 : Memref sig .tc .vmem S2176x128 .i32) (A4 : Vec F S128x2048 .i8) (f14 : BufTy.Contents (Elt F) arg14.view.ty) (y : S2176x128.Idx) :
    arg14.view.read (Elt F) (arg14.view.writes (Elt F) f14 (hPieces A4 256)) y = shG A4 (y 0).val (y 1).val := by
  have h0 : (y 0).val < 2176 := (y 0).isLt
  have h1 : (y 1).val < 128 := (y 1).isLt
  refine View.read_writes_apply_of_pieces arg14.view f14 (fun y => shG A4 (y 0).val (y 1).val) _ ?_ y ?_
  · intro p hp
    rw [mem_hPieces A4 256 (le_refl _)] at hp
    rcases hp with rfl | ⟨n, hn, rfl⟩
    · have main : ∀ x : S128x128.Idx, shapeCast S128x128 (broadcast S128x128 0#32) shapeCasts_S128x128_S128x128 x = shG A4 (((Rect.unit (s := S2176x128) ![0, 0] S128x128.size inb_S2176x128_S128x128_0_0).emb x) 0).val (((Rect.unit (s := S2176x128) ![0, 0] S128x128.size inb_S2176x128_S128x128_0_0).emb x) 1).val := fun x => by
        have hx0 : (x 0).val < 128 := (x 0).isLt
        have hx1 : (x 1).val < 128 := (x 1).isLt
        rw [castSelf]
        refine eq_wordOf fun j hj => ?_
        rw [if_neg]
        · show byte 0#32 j = _; unfold byte; simp
        · show ¬(128 + j ≤ 128 * ((0 + 1 * (x 0).val) / 128) + (0 + 1 * (x 1).val)); omega
      exact main
    · exact fun x => hPiece_val A4 n x
  · by_cases h : (y 0).val < 128
    · refine ⟨_, (mem_hPieces A4 256 (le_refl _) _).2 (.inl rfl), mem_rect2 _ y (y 0).val (y 1).val h h1 ?_ ?_⟩
      · show (y 0).val = 0 + 1 * (y 0).val; omega
      · show (y 1).val = 0 + 1 * (y 1).val; omega
    · obtain ⟨m, hm⟩ : ∃ m, m = (y 0).val / 128 - 1 := ⟨_, rfl⟩
      obtain ⟨c, hc⟩ : ∃ c, c = (y 0).val % 128 := ⟨_, rfl⟩
      obtain ⟨n, hn⟩ : ∃ n : Fin 256, n.val = 64 * (c / 32) + 16 * (c % 4) + m := ⟨⟨_, by omega⟩, rfl⟩
      refine ⟨_, (mem_hPieces A4 256 (le_refl _) _).2 (.inr ⟨n, n.isLt, rfl⟩), mem_rect2 _ y (c % 32 / 4) (y 1).val (show c % 32 / 4 < 8 by omega) h1 ?_ ?_⟩
      · show (y 0).val = (n.val % 16 + 1) * 128 + 32 * (n.val / 64) + n.val / 16 % 4 + 4 * (c % 32 / 4)
        have a1 : n.val % 16 = m := by omega
        have a2 : n.val / 64 = c / 32 := by omega
        have a3 : n.val / 16 % 4 = c % 4 := by omega
        rw [a1, a2, a3]; omega
      · show (y 1).val = 0 + 1 * (y 1).val; omega

end Cert.Proof.KernelIdeal
-- ==== Proof.Ideal.Products.lean ====
/-
  The four products of one channel as sums of products of the sequences' entries, given what the operand tiles hold.
-/
module

public import proofs.«01_k».proof.Proof.Ideal.Fold

@[expose] public section

set_option maxRecDepth 16384

noncomputable section

namespace Cert.Proof.KernelIdeal

open Cert.KernelIdeal Cert.KernelIdeal.Gen
open Idealize.ShloMosaic
open Finset (range)

/-- The token at which column `K` of the dy operand starts. -/
def tok (K : ℕ) : ℕ := 128 * (K / 32) + 32 * (K % 4)
/-- The batch of column `K`. -/
def bat (K : ℕ) : ℕ := K / 4 % 8

/-- A sequence moved by `m`, zero before its start. -/
def moved (f : ℕ → EReal) (p m : ℕ) : EReal := if m ≤ p then f (p - m) else 0

theorem stack8_apply (f : ℕ → FVec Ideal S32x256 .bf16) (r c : Fin 256) :
    stack8 f (ix2 r c) = f (r.val / 32) (ix2 ⟨r.val % 32, by omega⟩ c) := by
  refine concatenate_ofFn_apply (t := S256x256) (s₁ := S32x256) 0 (fun n : Fin 8 => f n.val) concatenates_S32x256_S32x256_S32x256_S32x256_S32x256_S32x256_S32x256_S32x256_S256x256_d0 rfl 32 rfl (ix2 r c) ⟨r.val / 32, by omega⟩ rfl _ rfl ?_
  intro b hb
  match b with
  | 0 => exact absurd rfl hb
  | 1 => rfl

theorem stack4_apply (f : ℕ → FVec Ideal S32x256 .bf16) (r : Fin 128) (c : Fin 256) :
    stack4 f (ix2 r c) = f (r.val / 32) (ix2 ⟨r.val % 32, by omega⟩ c) := by
  refine concatenate_ofFn_apply (t := S128x256) (s₁ := S32x256) 0 (fun n : Fin 4 => f n.val) concatenates_S32x256_S32x256_S32x256_S32x256_S128x256_d0 rfl 32 rfl (ix2 r c) ⟨r.val / 32, by omega⟩ rfl _ rfl ?_
  intro b hb
  match b with
  | 0 => exact absurd rfl hb
  | 1 => rfl

section
variable (D X : ℕ → ℕ → EReal) (H : ℕ → EReal)
variable (T : ℕ → FVec Ideal S32x128 .bf16) (hT : ∀ k, k < 17 → ∀ (r : Fin 32) (t : Fin 128), T k (ix2 r t) = D (r.val / 4) (128 * k + 32 * (r.val % 4) + t.val))
variable (Xt : ℕ → Fin 4 → FVec Ideal S32x128 .bf16)
variable (hX : ∀ o, o < 2 → ∀ (v : Fin 4) (r : Fin 32) (l : Fin 128), Xt o v (ix2 r l) = moved (X (l.val / 4 % 8)) (128 * (4 * v.val + l.val / 32) + 32 * (l.val % 4) + (8 * (r.val / 8) + (7 - r.val % 8))) (256 * o))
variable (W : Fin 17 → Vec Ideal S1x128 .i32) (hW : ∀ (n : Fin 16) (s : Fin 32) (t : Fin 128), hBlock W n (ix2 s t) = moved H (128 * n.val + t.val) s.val)

include hT in
theorem dyMat_apply (kt : ℕ) (hk : kt < 2) (c t : Fin 256) :
    dyMat T kt (ix2 c t) = D (bat (256 * kt + c.val)) (tok (256 * kt + c.val) + t.val) := by
  have hc := c.isLt
  have ht := t.isLt
  unfold dyMat bat tok
  rw [stack8_apply]
  pointwise [dyPair]
  by_cases h : t.val < 128
  · rw [dif_pos h, hT _ (by omega)]
    congr 1
    · simp only; omega
    · simp only; omega
  · rw [dif_neg h, hT _ (by omega)]
    congr 1
    · simp only; omega
    · simp only; omega

theorem zeroTile_apply (j : S32x128.Idx) : (zeroTile (F := Ideal)) j = 0 := by
  unfold zeroTile
  pointwise

include hX in
theorem xAt_apply (d v : ℕ) (hd : d < 8) (hv : v < 4) (r : Fin 32) (l : Fin 128) :
    xAt Xt (d % 2) v (d / 2) (ix2 r l) = moved (X (l.val / 4 % 8)) (128 * (4 * v + l.val / 32) + 32 * (l.val % 4) + (8 * (r.val / 8) + (7 - r.val % 8))) (256 * d) := by
  have hl := l.isLt
  have hr := r.isLt
  unfold xAt
  by_cases h : d / 2 ≤ v ∧ v - d / 2 < 4
  · rw [dif_pos h, hX _ (by omega)]
    unfold moved
    simp only
    by_cases h2 : 256 * d ≤ 128 * (4 * v + l.val / 32) + 32 * (l.val % 4) + (8 * (r.val / 8) + (7 - r.val % 8))
    · rw [if_pos h2, if_pos (by omega)]
      congr 1; omega
    · rw [if_neg h2, if_neg (by omega)]
  · rw [dif_neg h, zeroTile_apply]
    unfold moved
    rw [if_neg (by omega)]

include hX in
theorem xRows_apply (kt d : ℕ) (hk : kt < 2) (hd : d < 8) (r : Fin 32) (c : Fin 256) :
    xRows Xt kt d (ix2 r c) = moved (X (bat (256 * kt + c.val))) (tok (256 * kt + c.val) + (8 * (r.val / 8) + (7 - r.val % 8))) (256 * d) := by
  have hc := c.isLt
  unfold bat tok
  pointwise [xRows]
  by_cases h : c.val < 128
  · rw [dif_pos h, xAt_apply X Xt hX d _ hd (by omega)]
    congr 1
    · congr 1; simp only; omega
    · simp only; omega
  · rw [dif_neg h, xAt_apply X Xt hX d _ hd (by omega)]
    congr 1
    · congr 1; simp only; omega
    · simp only; omega

/-- One entry of the correlation: lag block `d`, token offset `A` within the block of 32, position `t` in the block. -/
def corrSum (d A t : ℕ) : EReal := ∑ K ∈ range 512, moved (X (bat K)) (tok K + A) (256 * d) * D (bat K) (tok K + t)

include hT hX in
theorem corr_eq (d a i t : ℕ) (hd : d < 8) (ha : a < 4) (hi : i < 8) (ht : t < 256) :
    corr (p0Of Xt (dyMat T 0)) (p1Of Xt (dyMat T 1)) (32 * d + 8 * a + i) t = corrSum D X d (8 * a + (7 - i)) t := by
  unfold corr corrSum
  rw [show 512 = 256 + 256 from rfl, Finset.sum_range_add, add_comm]
  refine congrArg₂ (· + ·) ?_ ?_
  · by_cases h : d < 4
    · rw [dif_pos (show 32 * d + 8 * a + i < 128 ∧ t < 256 by omega)]
      pointwise [p0Of]
      rw [Finset.sum_range]
      refine Finset.sum_congr rfl fun x _ => ?_
      rw [stack4_apply, xRows_apply X Xt hX 0 _ (by omega) (by simp only; omega), dyMat_apply D T hT 0 (by omega)]
      simp only [Nat.mul_zero, Nat.zero_add]
      congr 2 <;> omega
    · rw [dif_neg (by omega)]
      refine (Finset.sum_eq_zero fun K hK => ?_).symm
      have hK := Finset.mem_range.mp hK
      unfold moved tok
      rw [if_neg (by omega), zero_mul]
  · rw [dif_pos (show 32 * d + 8 * a + i < 256 ∧ t < 256 by omega)]
    pointwise [p1Of]
    rw [Finset.sum_range]
    refine Finset.sum_congr rfl fun x _ => ?_
    rw [stack8_apply, xRows_apply X Xt hX 1 _ (by omega) (by simp only; omega), dyMat_apply D T hT 1 (by omega)]
    simp only [Nat.mul_one]
    congr 2 <;> omega

/-- One entry of the Toeplitz product: lag block `d`, row `s`, column `K`. -/
def prodSum (d s K : ℕ) : EReal := ∑ t ∈ range 256, moved H (256 * d + t) s * D (bat K) (tok K + t)

include hW in
theorem hPair_apply (d : Fin 8) (s : Fin 32) (t : Fin 256) : hPair W d (ix2 s t) = moved H (256 * d.val + t.val) s.val := by
  have ht := t.isLt
  pointwise [hPair]
  by_cases h : t.val < 128
  · rw [dif_pos h, hW]
    congr 1; simp only; omega
  · rw [dif_neg h, hW]
    congr 1; simp only; omega

include hT hW in
theorem prod_eq (d s K : ℕ) (hd : d < 8) (hs : s < 32) (hK : K < 512) (hdK : K < 256 → d < 4) :
    prodAt (y0Of (fun d => hPair W (Fin.ofNat 8 d)) (dyMat T 0)) (y1Of (fun d => hPair W (Fin.ofNat 8 d)) (dyMat T 1)) d s K = prodSum D H d s K := by
  unfold prodAt prodSum
  by_cases h : K < 256
  · have := hdK h
    rw [if_pos h, dif_pos (by omega), Finset.sum_range]
    pointwise [y0Of]
    refine Finset.sum_congr rfl fun x _ => ?_
    rw [stack4_apply, hPair_apply H W hW, dyMat_apply D T hT 0 (by omega)]
    simp only [Nat.mul_zero, Nat.zero_add, Fin.ofNat]
    congr 2 <;> omega
  · rw [if_neg h, dif_pos (by omega), Finset.sum_range]
    pointwise [y1Of]
    refine Finset.sum_congr rfl fun x _ => ?_
    rw [stack8_apply, hPair_apply H W hW, dyMat_apply D T hT 1 (by omega)]
    simp only [Nat.mul_one, Fin.ofNat]
    rw [show 256 + (K - 256) = K by omega]
    congr 2 <;> omega

end

end Cert.Proof.KernelIdeal
-- ==== Proof.Ideal.Tiles.lean ====
/-
  The tiles of a channel in terms of the codes: what the channel's dy, x and filter tiles hold when the buffers hold the
  packed words.
-/
module

public import proofs.«01_k».proof.Proof.Ideal.TapsVal
public import proofs.«01_k».proof.Proof.Ideal.Products

@[expose] public section

set_option maxRecDepth 8192

noncomputable section

namespace Cert.Proof.KernelIdeal

open Cert.KernelIdeal Cert.KernelIdeal.Gen
open Idealize.ShloMosaic

/-- The number an e4m3 code stands for. -/
def e4 (b : BitVec 8) : EReal := Ideal.ofBits .fp8e4m3 b
/-- The number an e5m2 code stands for. -/
def e5 (b : BitVec 8) : EReal := Ideal.ofBits .fp8e5m2 b

theorem e4_zero : e4 0#8 = 0 := Ideal.ofBits_zero .fp8e4m3

theorem byte_zero (j : ℕ) : byte 0#32 j = 0#8 := by unfold byte; simp

theorem e5tile_apply (w : IVec S8x128 32) (s : Vec Ideal S1x32x128 .bf16) (r : Fin 32) (t : Fin 128) :
    (mulf (extf .bf16 (bitcastToFloat .fp8e5m2 (bitcast S32x128 8 w bitcasts_S8x128_w32_S32x128_w8)) bitsLt_fp8e5m2_bf16) (shapeCast S32x128 s shapeCasts_S1x32x128_S32x128) : FVec Ideal S32x128 .bf16) (ix2 r t)
      = e5 (byte (w (ix2 ⟨r.val / 4, by omega⟩ t)) (r.val % 4)) * s (ix3 0 r t) := by
  pointwise
  rw [bitcast_word w bitcasts_S8x128_w32_S32x128_w8 r t (show r.val / 4 < 8 by omega)]
  rfl

theorem xTile_apply (w : IVec S8x128 32) (s : Vec Ideal S1x32x128 .bf16) (r : Fin 32) (t : Fin 128) :
    xTile w s (ix2 r t) = e4 (byte (w (ix2 ⟨r.val / 4, by omega⟩ t)) (r.val % 4)) * s (ix3 0 r t) := by
  pointwise [xTile]
  rw [bitcast_word w bitcasts_S8x128_w32_S32x128_w8 r t (show r.val / 4 < 8 by omega)]
  rfl

theorem xMoved_apply (W : Fin 4 → Vec Ideal S8x128 .i32) (v : Fin 4) (q : Fin 8) (l : Fin 128) :
    xMoved W v (ix2 q l) = if h : 64 ≤ l.val then W v (ix2 q ⟨l.val - 64, by omega⟩) else
      if h' : 0 < v.val then W ⟨v.val - 1, by omega⟩ (ix2 q ⟨l.val + 64, by omega⟩) else 0#32 := by
  have hl := l.isLt
  have hs := slt_lane 64 l
  rw [show BitVec.ofNat 32 (64 : Fin 129).val = 64#32 from rfl, show (64 : Fin 129).val = 64 from rfl] at hs
  unfold xMoved
  pointwise
  rw [hs, select_ite]
  by_cases h : 64 ≤ l.val
  · rw [if_neg (by omega), dif_pos h]
    congr 1
    rw [ix2_inj]
    exact ⟨rfl, Fin.ext (show (l.val + 128 - 64) % 128 = l.val - 64 by omega)⟩
  · rw [if_pos (by omega), dif_neg h]
    by_cases h' : 0 < v.val
    · rw [dif_pos h', dif_pos h']
      pointwise
      congr 1
      rw [ix2_inj]
      exact ⟨rfl, Fin.ext (show (l.val + 128 - 64) % 128 = l.val + 64 by omega)⟩
    · rw [dif_neg h', dif_neg h']
      pointwise

theorem hBlock_apply (W : Fin 17 → Vec Ideal S1x128 .i32) (n : Fin 16) (s : Fin 32) (t : Fin 128) :
    hBlock W n (ix2 s t) = e4 (byte (if h : 4 * (s.val / 4) ≤ t.val then W n.succ (ix2 0 ⟨t.val - 4 * (s.val / 4), by omega⟩)
      else W n.castSucc (ix2 0 ⟨t.val + 128 - 4 * (s.val / 4), by omega⟩)) (s.val % 4)) := by
  have hs := s.isLt
  have ht := t.isLt
  unfold hBlock
  pointwise
  rw [bitcast_word _ bitcasts_S8x128_w32_S32x128_w8 s t (show s.val / 4 < 8 by omega)]
  have hg := sge_skew ⟨s.val / 4, by omega⟩ t
  pointwise [rolledRow]
  rw [hg, select_ite]
  unfold e4
  by_cases h : 4 * (s.val / 4) ≤ t.val
  · rw [if_pos h, dif_pos h]
    refine congrArg (fun j => Ideal.ofBits .fp8e4m3 (byte (W n.succ j) (s.val % 4))) ?_
    rw [ix2_inj]
    exact ⟨rfl, Fin.ext (show (t.val + 128 - (4 * (s.val / 4)) % 128) % 128 = t.val - 4 * (s.val / 4) by omega)⟩
  · rw [if_neg h, dif_neg h]
    refine congrArg (fun j => Ideal.ofBits .fp8e4m3 (byte (W n.castSucc j) (s.val % 4))) ?_
    rw [ix2_inj]
    exact ⟨rfl, Fin.ext (show (t.val + 128 - (4 * (s.val / 4)) % 128) % 128 = t.val + 128 - 4 * (s.val / 4) by omega)⟩

section
variable (A5 : Vec Ideal S16x32x128 .bf16) (A6 A7 : Vec Ideal S4x32x128 .bf16) (A11 : Vec Ideal S16512x128 .i32) (A13 : Vec Ideal S4128x128 .i32) (A14 : Vec Ideal S2176x128 .i32) (k : Fin k0_t4_loop.trips)
variable (A2 A3 : S8x2048x128.Idx → BitVec 8) (A4 : S128x2048.Idx → BitVec 8) (S SX : ℕ → ℕ → EReal)

theorem dyWords_apply (h11 : ∀ y : S16512x128.Idx, (y 0).val % 129 < 128 → A11 y = sdG A3 (y 0).val (y 1).val) (n : Fin 16) (q : Fin 8) (l : Fin 128) :
    dyWords A11 k n (ix2 q l) = wordOf fun j => codeAt A3 q.val (128 * n.val + 32 * j + l.val) k.val := by
  have hk : k.val < 128 := lt_of_lt_of_eq k.isLt trips4
  unfold dyWords
  have f0 : (((⟨k0_off10 k (BitVec.ofNat 32 (1032 * n.val)), S8x128.size, ![129, 1], inb10 k n⟩ : LoadRect S16512x128).idx (ix2 q l)) 0).val = 129 * (8 * n.val + q.val) + k.val := by
    show k0_off10 k (BitVec.ofNat 32 (1032 * n.val)) 0 + 129 * q.val = _
    rw [off10_eq]; show 1032 * n.val + k.val + 129 * q.val = _; omega
  have f1 : (((⟨k0_off10 k (BitVec.ofNat 32 (1032 * n.val)), S8x128.size, ![129, 1], inb10 k n⟩ : LoadRect S16512x128).idx (ix2 q l)) 1).val = l.val := by
    show k0_off10 k (BitVec.ofNat 32 (1032 * n.val)) 1 + 1 * l.val = _
    rw [off10_eq]; show 0 + 1 * l.val = _; omega
  have hq := q.isLt
  rw [h11 _ (by rw [f0]; omega), f0, f1]
  unfold sdG
  rw [show (129 * (8 * n.val + q.val) + k.val) / 129 = 8 * n.val + q.val by omega, show (129 * (8 * n.val + q.val) + k.val) % 129 = k.val by omega,
    show (8 * n.val + q.val) % 8 = q.val by omega, show (8 * n.val + q.val) / 8 = n.val by omega]

theorem dyScale_apply (n : Fin 16) (r : Fin 32) (t : Fin 128) : dyScale A5 n (ix3 0 r t) = A5 (ix3 n r t) := by
  refine congrArg A5 ?_
  funext a
  match a with
  | 0 => exact Fin.ext (show n.val + 1 * 0 = n.val by omega)
  | 1 => exact Fin.ext (show 0 + 1 * r.val = r.val by omega)
  | 2 => exact Fin.ext (show 0 + 1 * t.val = t.val by omega)

theorem xScale_apply (v : Fin 4) (r : Fin 32) (t : Fin 128) : xScale A6 v (ix3 0 r t) = A6 (ix3 v r t) := by
  refine congrArg A6 ?_
  funext a
  match a with
  | 0 => exact Fin.ext (show v.val + 1 * 0 = v.val by omega)
  | 1 => exact Fin.ext (show 0 + 1 * r.val = r.val by omega)
  | 2 => exact Fin.ext (show 0 + 1 * t.val = t.val by omega)

theorem xWords_apply (h13 : ∀ y : S4128x128.Idx, (y 0).val % 129 < 128 → A13 y = sxG A2 (y 0).val (y 1).val) (v : Fin 4) (q : Fin 8) (l : Fin 128) :
    xWords A13 k v (ix2 q l) = wordOf fun j => codeAt A2 (l.val / 4 % 8) (128 * (4 * v.val + l.val / 32) + 32 * (l.val % 4) + 4 * (if q.val % 2 = 0 then q.val + 1 else q.val - 1) + (3 - j)) k.val := by
  have hk : k.val < 128 := lt_of_lt_of_eq k.isLt trips4
  unfold xWords
  have f0 : (((⟨k0_off11 k (BitVec.ofNat 32 (1032 * v.val)), S8x128.size, ![129, 1], inb11 k v⟩ : LoadRect S4128x128).idx (ix2 q l)) 0).val = 129 * (8 * v.val + q.val) + k.val := by
    show k0_off11 k (BitVec.ofNat 32 (1032 * v.val)) 0 + 129 * q.val = _
    rw [off11_eq]; show 1032 * v.val + k.val + 129 * q.val = _; omega
  have f1 : (((⟨k0_off11 k (BitVec.ofNat 32 (1032 * v.val)), S8x128.size, ![129, 1], inb11 k v⟩ : LoadRect S4128x128).idx (ix2 q l)) 1).val = l.val := by
    show k0_off11 k (BitVec.ofNat 32 (1032 * v.val)) 1 + 1 * l.val = _
    rw [off11_eq]; show 0 + 1 * l.val = _; omega
  have hq := q.isLt
  rw [h13 _ (by rw [f0]; omega), f0, f1]
  unfold sxG
  rw [show (129 * (8 * v.val + q.val) + k.val) / 129 = 8 * v.val + q.val by omega, show (129 * (8 * v.val + q.val) + k.val) % 129 = k.val by omega,
    show (8 * v.val + q.val) % 8 = q.val by omega, show (8 * v.val + q.val) / 8 = v.val by omega, show (8 * v.val + q.val) % 2 = q.val % 2 by omega]

theorem hWords_apply (h14 : ∀ y : S2176x128.Idx, A14 y = shG A4 (y 0).val (y 1).val) (n : Fin 17) (l : Fin 128) :
    hWords A14 k n (ix2 0 l) = wordOf fun j => if 128 + j ≤ 128 * n.val + l.val then tapAt A4 k.val (128 * n.val + l.val - (128 + j)) else 0#8 := by
  have hk : k.val < 128 := lt_of_lt_of_eq k.isLt trips4
  unfold hWords
  have f0 : (((Rect.unit (s := S2176x128) (k0_off9 k (BitVec.ofNat 32 (128 * n.val))) S1x128.size (inb9 k n)).toLoadRect.idx (ix2 0 l)) 0).val = 128 * n.val + k.val := by
    show k0_off9 k (BitVec.ofNat 32 (128 * n.val)) 0 + 1 * 0 = _
    rw [off9_eq]; show 128 * n.val + k.val + 1 * 0 = _; omega
  have f1 : (((Rect.unit (s := S2176x128) (k0_off9 k (BitVec.ofNat 32 (128 * n.val))) S1x128.size (inb9 k n)).toLoadRect.idx (ix2 0 l)) 1).val = l.val := by
    show k0_off9 k (BitVec.ofNat 32 (128 * n.val)) 1 + 1 * l.val = _
    rw [off9_eq]; show 0 + 1 * l.val = _; omega
  rw [h14, f0, f1]
  unfold shG
  rw [show (128 * n.val + k.val) / 128 = n.val by omega, show (128 * n.val + k.val) % 128 = k.val by omega]

theorem dyT_apply (h5 : ∀ (n : Fin 16) (r : Fin 32) (t : Fin 128), A5 (ix3 n r t) = S (r.val / 4) (128 * n.val + 32 * (r.val % 4) + t.val)) (hS : ∀ b p, 2048 ≤ p → S b p = 0)
    (h11 : ∀ y : S16512x128.Idx, (y 0).val % 129 < 128 → A11 y = sdG A3 (y 0).val (y 1).val) (n : ℕ) (hn : n < 17) (r : Fin 32) (t : Fin 128) :
    dyT A5 A11 k n (ix2 r t) = e5 (codeAt A3 (r.val / 4) (128 * n + 32 * (r.val % 4) + t.val) k.val) * S (r.val / 4) (128 * n + 32 * (r.val % 4) + t.val) := by
  unfold dyT dyTile
  have hr := r.isLt
  by_cases h : n < 16
  · rw [dif_pos h]
    have hq : r.val / 4 < 8 := by omega
    rw [e5tile_apply, dyWords_apply A11 k A3 h11 ⟨n, h⟩ ⟨r.val / 4, hq⟩ t, byte_wordOf _ _ (Nat.mod_lt _ (by decide))]
    refine congrArg (_ * ·) ?_
    exact (dyScale_apply A5 ⟨n, h⟩ r t).trans (h5 ⟨n, h⟩ r t)
  · rw [dif_neg h, hS _ _ (by omega), mul_zero]
    pointwise

theorem xT_apply (X : ℕ → ℕ → EReal) (hXdef : ∀ b p, X b p = e4 (codeAt A2 b p k.val) * SX b p)
    (h6 : ∀ (v : Fin 4) (r : Fin 32) (l : Fin 128), A6 (ix3 v r l) = SX (l.val / 4 % 8) (128 * (4 * v.val + l.val / 32) + 32 * (l.val % 4) + (8 * (r.val / 8) + (7 - r.val % 8))))
    (h7 : ∀ (v : Fin 4) (r : Fin 32) (l : Fin 128), A7 (ix3 v r l) = moved (SX (l.val / 4 % 8)) (128 * (4 * v.val + l.val / 32) + 32 * (l.val % 4) + (8 * (r.val / 8) + (7 - r.val % 8))) 256)
    (h13 : ∀ y : S4128x128.Idx, (y 0).val % 129 < 128 → A13 y = sxG A2 (y 0).val (y 1).val)
    (o : ℕ) (ho : o < 2) (v : Fin 4) (r : Fin 32) (l : Fin 128) :
    xT A6 A7 A13 k o v (ix2 r l) = moved (X (l.val / 4 % 8)) (128 * (4 * v.val + l.val / 32) + 32 * (l.val % 4) + (8 * (r.val / 8) + (7 - r.val % 8))) (256 * o) := by
  have hr := r.isLt
  have hl := l.isLt
  have hv := v.isLt
  have hq : r.val / 4 < 8 := by omega
  have hsw : 4 * (if r.val / 4 % 2 = 0 then r.val / 4 + 1 else r.val / 4 - 1) + (3 - r.val % 4) = 8 * (r.val / 8) + (7 - r.val % 8) := by
    split <;> omega
  have word : ∀ (v : Fin 4) (l : Fin 128), byte (xWords A13 k v (ix2 ⟨r.val / 4, hq⟩ l)) (r.val % 4)
      = codeAt A2 (l.val / 4 % 8) (128 * (4 * v.val + l.val / 32) + 32 * (l.val % 4) + (8 * (r.val / 8) + (7 - r.val % 8))) k.val := by
    intro v l
    rw [xWords_apply A13 k A2 h13, byte_wordOf _ _ (Nat.mod_lt _ (by decide)), Nat.add_assoc (128 * _ + _), hsw]
  unfold xT
  by_cases h : o = 0
  · subst h
    rw [if_pos rfl, xTile_apply, word, xScale_apply, h6]
    unfold moved
    rw [if_pos (Nat.zero_le _)]
    exact (hXdef _ _).symm
  · obtain rfl : o = 1 := by omega
    rw [if_neg h, xTile_apply, xMoved_apply, xScale_apply, h7]
    obtain ⟨ρ, hρ⟩ : ∃ ρ, ρ = 8 * (r.val / 8) + (7 - r.val % 8) := ⟨_, rfl⟩
    have hρ' : ρ < 32 := by omega
    rw [← hρ] at word ⊢
    unfold moved
    by_cases h1 : 64 ≤ l.val
    · rw [dif_pos h1, word, if_pos (by omega), if_pos (by omega), hXdef]
      refine congrArg (e4 · * _) (congrArg₂ (fun b p => codeAt A2 b p k.val) ?_ ?_)
      · show (l.val - 64) / 4 % 8 = _; omega
      · show 128 * (4 * v.val + (l.val - 64) / 32) + 32 * ((l.val - 64) % 4) + ρ = _; omega
    · rw [dif_neg h1]
      by_cases h2 : 0 < v.val
      · rw [dif_pos h2, word, if_pos (by omega), if_pos (by omega), hXdef]
        refine congrArg (e4 · * _) (congrArg₂ (fun b p => codeAt A2 b p k.val) ?_ ?_)
        · show (l.val + 64) / 4 % 8 = _; omega
        · show 128 * (4 * (v.val - 1) + (l.val + 64) / 32) + 32 * ((l.val + 64) % 4) + ρ = _; omega
      · rw [dif_neg h2, if_neg (by omega), if_neg (by omega), mul_zero]

theorem hBlock_moved (h14 : ∀ y : S2176x128.Idx, A14 y = shG A4 (y 0).val (y 1).val) (n : Fin 16) (s : Fin 32) (t : Fin 128) :
    hBlock (hWords A14 k) n (ix2 s t) = moved (fun u => e4 (tapAt A4 k.val u)) (128 * n.val + t.val) s.val := by
  have hs := s.isLt
  have ht := t.isLt
  rw [hBlock_apply]
  have key : ∀ w : BitVec 32, (w = wordOf fun j => if 128 + j ≤ 128 * (n.val + 1) + t.val - 4 * (s.val / 4) then tapAt A4 k.val (128 * (n.val + 1) + t.val - 4 * (s.val / 4) - (128 + j)) else 0#8) →
      e4 (byte w (s.val % 4)) = moved (fun u => e4 (tapAt A4 k.val u)) (128 * n.val + t.val) s.val := by
    intro w hw
    rw [hw, byte_wordOf _ _ (Nat.mod_lt _ (by decide))]
    unfold moved
    by_cases h : s.val ≤ 128 * n.val + t.val
    · rw [if_pos h, if_pos (by omega)]
      congr 2; omega
    · rw [if_neg h, if_neg (by omega), e4_zero]
  by_cases h : 4 * (s.val / 4) ≤ t.val
  · rw [dif_pos h]
    refine key _ ((hWords_apply A14 k A4 h14 n.succ _).trans ?_)
    rw [show 128 * n.succ.val + (t.val - 4 * (s.val / 4)) = 128 * (n.val + 1) + t.val - 4 * (s.val / 4) by rw [Fin.val_succ]; omega]
  · rw [dif_neg h]
    refine key _ ((hWords_apply A14 k A4 h14 n.castSucc _).trans ?_)
    rw [show 128 * n.castSucc.val + (t.val + 128 - 4 * (s.val / 4)) = 128 * (n.val + 1) + t.val - 4 * (s.val / 4) by rw [Fin.val_castSucc]; omega]

end

end Cert.Proof.KernelIdeal
-- ==== Proof.Ideal.Sums.lean ====
/-
  The block sums put back together: a row of dx is one causal sum over tokens, a row of dh one sum over batches and
  tokens. Nothing is used but rearranging sums and that zero times anything is zero.
-/
module

public import proofs.«01_k».proof.Proof.Ideal.Products

@[expose] public section

noncomputable section

namespace Cert.Proof.KernelIdeal

open Cert.KernelIdeal Cert.KernelIdeal.Gen
open Idealize.ShloMosaic
open Finset (range)

section Reindex
variable {M : Type} [AddCommMonoid M]

theorem sum_blocks (f : ℕ → M) (a b : ℕ) : ∑ v ∈ range (a * b), f v = ∑ i ∈ range a, ∑ j ∈ range b, f (b * i + j) := by
  induction a with
  | zero => simp
  | succ n ih => rw [Nat.succ_mul, Finset.sum_range_add, ih, Finset.sum_range_succ, Nat.mul_comm n b]

theorem sum_shift (f : ℕ → M) (N s : ℕ) (hf : ∀ j, N ≤ j + s → f j = 0) :
    ∑ m ∈ range N, (if s ≤ m then f (m - s) else 0) = ∑ j ∈ range N, f j := by
  by_cases h : s ≤ N
  · obtain ⟨n, rfl⟩ := Nat.exists_eq_add_of_le h
    rw [Finset.sum_range_add, Finset.sum_eq_zero (s := range s), zero_add, Nat.add_comm s n, Finset.sum_range_add, Finset.sum_eq_zero (s := range s), add_zero]
    · refine Finset.sum_congr rfl fun x _ => ?_
      rw [if_pos (by omega)]
      congr 1; omega
    · intro x _
      exact hf _ (by omega)
    · intro x hx
      have := Finset.mem_range.mp hx
      rw [if_neg (by omega)]
  · rw [Finset.sum_eq_zero, Finset.sum_eq_zero]
    · intro x _
      exact hf _ (by omega)
    · intro x hx
      have := Finset.mem_range.mp hx
      rw [if_neg (by omega)]

theorem sum_later (f : ℕ → M) (N m : ℕ) (h0 : ∀ j, j < m → f j = 0) (h1 : ∀ j, N ≤ j → f j = 0) :
    ∑ j ∈ range N, f (j + m) = ∑ j ∈ range N, f j := by
  have e : ∑ j ∈ range (N + m), f j = ∑ j ∈ range N, f j := by
    rw [Finset.sum_range_add, Finset.sum_eq_zero (s := range m), add_zero]
    intro x _
    exact h1 _ (by omega)
  rw [← e, Nat.add_comm N m, Finset.sum_range_add, Finset.sum_eq_zero (s := range m), zero_add]
  · refine Finset.sum_congr rfl fun x _ => ?_
    rw [Nat.add_comm]
  · intro x hx
    exact h0 _ (Finset.mem_range.mp hx)

theorem sum_residues (f : ℕ → M) (L : ℕ) : ∑ A ∈ range 32, f ((L + A) % 32) = ∑ r ∈ range 32, f r := by
  induction L with
  | zero =>
    refine Finset.sum_congr rfl fun x hx => ?_
    have := Finset.mem_range.mp hx
    congr 1; omega
  | succ n ih =>
    have a := Finset.sum_range_succ (fun A => f ((n + 1 + A) % 32)) 31
    have b := Finset.sum_range_succ' (fun A => f ((n + A) % 32)) 31
    rw [← ih]
    refine a.trans (Eq.trans ?_ b.symm)
    refine congrArg₂ (· + ·) (Finset.sum_congr rfl fun x _ => ?_) ?_
    · rw [show n + 1 + x = n + (x + 1) by omega]
    · show f ((n + 1 + 31) % 32) = f ((n + 0) % 32)
      rw [show (n + 1 + 31) % 32 = (n + 0) % 32 by omega]

end Reindex

variable (D X : ℕ → ℕ → EReal) (H : ℕ → EReal) (hD : ∀ b p, 2048 ≤ p → D b p = 0)

include hD in
/-- The causal sum of a dx entry. -/
theorem dx_sum (K s : ℕ) (hK : K < 512) (hs : s < 32) :
    ∑ d ∈ range 8, (if K + 64 * d < 512 then prodSum D H d s (K + 64 * d) else 0)
      = ∑ v ∈ range 2048, D (bat K) v * moved H v (tok K + s) := by
  have e1 : ∀ d ∈ range 8, (if K + 64 * d < 512 then prodSum D H d s (K + 64 * d) else 0)
      = ∑ t ∈ range 256, moved H (256 * d + t) s * D (bat K) (tok K + (256 * d + t)) := by
    intro d _
    have hb : bat (K + 64 * d) = bat K := by unfold bat; omega
    have ht : tok (K + 64 * d) = tok K + 256 * d := by unfold tok; omega
    by_cases h : K + 64 * d < 512
    · rw [if_pos h]
      unfold prodSum
      rw [hb, ht]
      refine Finset.sum_congr rfl fun t _ => ?_
      rw [Nat.add_assoc]
    · rw [if_neg h]
      refine (Finset.sum_eq_zero fun t _ => ?_).symm
      rw [hD, mul_zero]
      rw [← Nat.add_assoc, ← ht]
      unfold tok; omega
  rw [Finset.sum_congr rfl e1]
  rw [← sum_blocks (fun m => moved H m s * D (bat K) (tok K + m)) 8 256]
  have e2 := sum_shift (fun j => H j * D (bat K) (tok K + s + j)) 2048 s fun j hj => by
    rw [hD _ _ (by omega), mul_zero]
  have e3 := sum_shift (fun j => H j * D (bat K) (tok K + s + j)) 2048 (tok K + s) fun j hj => by
    rw [hD _ _ (by omega), mul_zero]
  have e4 := e2.trans e3.symm
  refine (Finset.sum_congr rfl fun m _ => ?_).trans (e4.trans (Finset.sum_congr rfl fun m _ => ?_))
  · unfold moved
    by_cases h : s ≤ m
    · rw [if_pos h, if_pos h, show tok K + s + (m - s) = tok K + m by omega]
    · rw [if_neg h, if_neg h, zero_mul]
  · unfold moved
    by_cases h : tok K + s ≤ m
    · rw [if_pos h, if_pos h, show tok K + s + (m - (tok K + s)) = m by omega, mul_comm]
    · rw [if_neg h, if_neg h, mul_zero]

/-- The columns, batch by batch and token by token. -/
theorem sum_columns (f : ℕ → ℕ → EReal) : ∑ K ∈ range 512, f (bat K) (tok K) = ∑ b ∈ range 8, ∑ j ∈ range 64, f b (32 * j) := by
  rw [sum_blocks (fun K => f (bat K) (tok K)) 16 32]
  have e : ∀ i ∈ range 16, ∑ r ∈ range 32, f (bat (32 * i + r)) (tok (32 * i + r)) = ∑ b ∈ range 8, ∑ o ∈ range 4, f b (32 * (4 * i + o)) := by
    intro i _
    rw [sum_blocks (fun r => f (bat (32 * i + r)) (tok (32 * i + r))) 8 4]
    refine Finset.sum_congr rfl fun b hb => Finset.sum_congr rfl fun o ho => ?_
    have := Finset.mem_range.mp hb
    have := Finset.mem_range.mp ho
    congr 1
    · unfold bat; omega
    · unfold tok; omega
  rw [Finset.sum_congr rfl e, Finset.sum_comm]
  refine Finset.sum_congr rfl fun b _ => ?_
  rw [sum_blocks (fun j => f b (32 * j)) 16 4]

include hD in
/-- The sum of a dh entry over batches and tokens. -/
theorem dh_sum (L : ℕ) :
    ∑ i ∈ range 8, ∑ e ∈ range 4, (if L + (7 - i) + 8 * e < 2048 then corrSum D X ((L + (7 - i) + 8 * e) / 256) (8 * e + (7 - i)) ((L + (7 - i) + 8 * e) % 256) else 0)
      = ∑ b ∈ range 8, ∑ v ∈ range 2048, D b v * moved (X b) v L := by
  have e0 : ∀ e ∈ range 4, ∑ i ∈ range 8, (if L + (7 - i) + 8 * e < 2048 then corrSum D X ((L + (7 - i) + 8 * e) / 256) (8 * e + (7 - i)) ((L + (7 - i) + 8 * e) % 256) else 0)
      = ∑ a ∈ range 8, (fun A => if L + A < 2048 then corrSum D X ((L + A) / 256) A ((L + A) % 256) else 0) (8 * e + a) := by
    intro e _
    rw [← Finset.sum_range_reflect]
    refine Finset.sum_congr rfl fun a ha => ?_
    have := Finset.mem_range.mp ha
    simp only
    rw [show L + (7 - (8 - 1 - a)) + 8 * e = L + (8 * e + a) by omega, show 8 * e + (7 - (8 - 1 - a)) = 8 * e + a by omega]
  rw [Finset.sum_comm, Finset.sum_congr rfl e0]
  rw [← sum_blocks (fun A => if L + A < 2048 then corrSum D X ((L + A) / 256) A ((L + A) % 256) else 0) 4 8]
  have e1 : ∀ A ∈ range 32, (if L + A < 2048 then corrSum D X ((L + A) / 256) A ((L + A) % 256) else 0)
      = (fun r => ∑ b ∈ range 8, ∑ j ∈ range 64, D b (32 * j + r) * moved (X b) (32 * j + r) L) ((L + A) % 32) := by
    intro A hA
    have hA := Finset.mem_range.mp hA
    by_cases h : L + A < 2048
    · rw [if_pos h]
      unfold corrSum
      rw [sum_columns (fun b p => moved (X b) (p + A) (256 * ((L + A) / 256)) * D b (p + (L + A) % 256))]
      refine Finset.sum_congr rfl fun b _ => ?_
      rw [← sum_later (fun j => D b (32 * j + (L + A) % 32) * moved (X b) (32 * j + (L + A) % 32) L) 64 ((L + A) % 256 / 32)]
      · refine Finset.sum_congr rfl fun j _ => ?_
        rw [mul_comm, show 32 * (j + (L + A) % 256 / 32) + (L + A) % 32 = 32 * j + (L + A) % 256 by omega]
        congr 1
        unfold moved
        by_cases h2 : L ≤ 32 * j + (L + A) % 256
        · rw [if_pos (by omega), if_pos h2]
          congr 1; omega
        · rw [if_neg (by omega), if_neg h2]
      · intro j hj
        unfold moved
        rw [if_neg (by omega), mul_zero]
      · intro j hj
        rw [hD _ _ (by omega), zero_mul]
    · rw [if_neg h]
      refine (Finset.sum_eq_zero fun b _ => Finset.sum_eq_zero fun j hj => ?_).symm
      unfold moved
      by_cases h2 : 2048 ≤ 32 * j + (L + A) % 32
      · rw [hD _ _ h2, zero_mul]
      · rw [if_neg (by omega), mul_zero]
  rw [show 4 * 8 = 32 from rfl, Finset.sum_congr rfl e1]
  rw [sum_residues (fun r => ∑ b ∈ range 8, ∑ j ∈ range 64, D b (32 * j + r) * moved (X b) (32 * j + r) L) L]
  rw [Finset.sum_comm]
  refine Finset.sum_congr rfl fun b _ => ?_
  rw [Finset.sum_comm]
  rw [sum_blocks (fun v => D b v * moved (X b) v L) 64 32]

end Cert.Proof.KernelIdeal
-- ==== Proof.Ideal.ChanEq.lean ====
/-
  The pieces a trip of the channel loop stores are those of the channel's function.
-/
module

public import proofs.«01_k».proof.Proof.Ideal.Trips
public import proofs.«01_k».proof.Proof.Ideal.Chan

@[expose] public section

set_option maxRecDepth 65536
set_option maxHeartbeats 4000000

noncomputable section

namespace Cert.Proof.KernelIdeal

open Cert.KernelIdeal Cert.KernelIdeal.Gen
open Idealize.ShloMosaic

variable {F : FTy → Type} [FloatOps F]
variable (𝒱 : Variants) (c : Dev nD) (bd : Option 𝒱.V) (i : grid0.Coords) (arg1 : Memref sig .tc .smem S768 .f32) (harg1 : arg1.IsWhole) (arg2 : Memref sig .tc .vmem S8x2048x128 .i8) (harg2 : arg2.IsWhole) (arg3 : Memref sig .tc .vmem S8x2048x128 .i8) (harg3 : arg3.IsWhole) (arg4 : Memref sig .tc .vmem S128x2048 .i8) (harg4 : arg4.IsWhole) (arg5 : Memref sig .tc .vmem S16x32x128 .bf16) (harg5 : arg5.IsWhole) (arg6 : Memref sig .tc .vmem S4x32x128 .bf16) (harg6 : arg6.IsWhole) (arg7 : Memref sig .tc .vmem S4x32x128 .bf16) (harg7 : arg7.IsWhole) (arg8 : Memref sig .tc .vmem S8x2048x128 .bf16) (harg8 : arg8.IsWhole) (arg9 : Memref sig .tc .vmem S128x2048 .f32) (harg9 : arg9.IsWhole) (arg10 : Memref sig .tc .vmem S128x128 .i32) (harg10 : arg10.IsWhole) (arg11 : Memref sig .tc .vmem S16512x128 .i32) (harg11 : arg11.IsWhole) (arg12 : Memref sig .tc .vmem S4104x128 .i32) (harg12 : arg12.IsWhole) (arg13 : Memref sig .tc .vmem S4128x128 .i32) (harg13 : arg13.IsWhole) (arg14 : Memref sig .tc .vmem S2176x128 .i32) (harg14 : arg14.IsWhole) (arg15 : Memref sig .tc .vmem S16512x128 .f32) (harg15 : arg15.IsWhole) (arg16 : Memref sig .tc .vmem S2048x128 .f32) (harg16 : arg16.IsWhole) (arg17 : Memref sig .tc .vmem S2176x128 .f32) (harg17 : arg17.IsWhole)

theorem dy0_eq (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (k : Fin k0_t4_loop.trips) : trip4.sl.r_36 arg5 arg11 X5 X11 k = dyMat (dyT (arg5.view.read (Elt F) X5) (arg11.view.read (Elt F) X11) k) 0 := rfl
theorem dy1_eq (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (k : Fin k0_t4_loop.trips) : trip4.sl.r_37 arg5 arg11 X5 X11 k = dyMat (dyT (arg5.view.read (Elt F) X5) (arg11.view.read (Elt F) X11) k) 1 := rfl
theorem x49_eq (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (k : Fin k0_t4_loop.trips) : trip4.sl.r_49 arg6 arg13 X6 X13 k = xT (arg6.view.read (Elt F) X6) (arg7.view.read (Elt F) X7) (arg13.view.read (Elt F) X13) k 0 0 := rfl
theorem x53_eq (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (k : Fin k0_t4_loop.trips) : trip4.sl.r_53 arg7 arg13 X7 X13 k = xT (arg6.view.read (Elt F) X6) (arg7.view.read (Elt F) X7) (arg13.view.read (Elt F) X13) k 1 0 := rfl
theorem h11_eq (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (k : Fin k0_t4_loop.trips) : trip4.sl.r_11 arg14 X14 k = hT (arg14.view.read (Elt F) X14) k 0 := rfl
theorem h18_eq (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (k : Fin k0_t4_loop.trips) : trip4.sl.r_18 arg14 X14 k = hT (arg14.view.read (Elt F) X14) k 7 := rfl
theorem p0_eq (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (k : Fin k0_t4_loop.trips) : trip4.sl.r_55 arg5 arg6 arg7 arg11 arg13 X5 X6 X7 X11 X13 k = p0T (arg5.view.read (Elt F) X5) (arg6.view.read (Elt F) X6) (arg7.view.read (Elt F) X7) (arg11.view.read (Elt F) X11) (arg13.view.read (Elt F) X13) k := rfl
theorem p1_eq (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (k : Fin k0_t4_loop.trips) : trip4.sl.r_56 arg5 arg6 arg7 arg11 arg13 X5 X6 X7 X11 X13 k = p1T (arg5.view.read (Elt F) X5) (arg6.view.read (Elt F) X6) (arg7.view.read (Elt F) X7) (arg11.view.read (Elt F) X11) (arg13.view.read (Elt F) X13) k := rfl
theorem y0_eq (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (k : Fin k0_t4_loop.trips) : trip4.sl.r_57 arg5 arg11 arg14 X5 X11 X14 k = y0T (arg5.view.read (Elt F) X5) (arg11.view.read (Elt F) X11) (arg14.view.read (Elt F) X14) k := rfl
theorem y1_eq (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (k : Fin k0_t4_loop.trips) : trip4.sl.r_58 arg5 arg11 arg14 X5 X11 X14 k = y1T (arg5.view.read (Elt F) X5) (arg11.view.read (Elt F) X11) (arg14.view.read (Elt F) X14) k := rfl

theorem pieces15_eq (arg0 : BitVec 32) (v1035 : IVec S8x2048 32) (v1264 : IVec S8x128 32) (X1 : BufTy.Contents (Elt F) arg1.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (k : Fin k0_t4_loop.trips) (f15 : BufTy.Contents (Elt F) arg15.view.ty) (f16 : BufTy.Contents (Elt F) arg16.view.ty) :
    (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 k f15 f16).1 = [7, 5, 3, 1, 6, 4, 2, 0].map (dxPiece (arg5.view.read (Elt F) X5) (arg11.view.read (Elt F) X11) (arg14.view.read (Elt F) X14) k (trip4.sl.r i arg1 X1 k)) := by
  unfold trip4
  rfl
theorem pieces16_eq (arg0 : BitVec 32) (v1035 : IVec S8x2048 32) (v1264 : IVec S8x128 32) (X1 : BufTy.Contents (Elt F) arg1.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X14 : BufTy.Contents (Elt F) arg14.view.ty) (k : Fin k0_t4_loop.trips) (f15 : BufTy.Contents (Elt F) arg15.view.ty) (f16 : BufTy.Contents (Elt F) arg16.view.ty) :
    (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 k f15 f16).2.1 = [15, 14, 13, 12, 11, 10, 9, 8, 7, 6, 5, 4, 3, 2, 1, 0].map (dhPiece (arg5.view.read (Elt F) X5) (arg6.view.read (Elt F) X6) (arg7.view.read (Elt F) X7) (arg11.view.read (Elt F) X11) (arg13.view.read (Elt F) X13) k) := by
  unfold trip4
  rfl

end Cert.Proof.KernelIdeal
-- ==== Proof.Ideal.Channel.lean ====
/-
  The channel loop: what the dx rows and the dh rows hold when it is done. Row `129 n + c` of the first has the dx entries of
  channel `c` at the tokens of one place in every block of thirty-two; row `128 n + c` of the second has block `n` of channel `c`'s dh.
-/
module

public import proofs.«01_k».proof.Proof.Ideal.Tiles
public import proofs.«01_k».proof.Proof.Ideal.Sums
public import proofs.«01_k».proof.Proof.Ideal.ChanEq

@[expose] public section

set_option maxRecDepth 8192

noncomputable section

namespace Cert.Proof.KernelIdeal

open Cert.KernelIdeal Cert.KernelIdeal.Gen
open Idealize.ShloMosaic
open Finset (range)

/-- The scaled dy codes of channel `c`. -/
def dyVal (A3 : S8x2048x128.Idx → BitVec 8) (S : ℕ → ℕ → EReal) (c b p : ℕ) : EReal := e5 (codeAt A3 b p c) * S b p
/-- The scaled x codes of channel `c`. -/
def xVal (A2 : S8x2048x128.Idx → BitVec 8) (SX : ℕ → ℕ → EReal) (c b p : ℕ) : EReal := e4 (codeAt A2 b p c) * SX b p
/-- The filter codes of channel `c`. -/
def hVal (A4 : S128x2048.Idx → BitVec 8) (c u : ℕ) : EReal := e4 (tapAt A4 c u)

/-- The dx entry of channel `c`. -/
def dxVal (A3 : S8x2048x128.Idx → BitVec 8) (A4 : S128x2048.Idx → BitVec 8) (S : ℕ → ℕ → EReal) (hs : ℕ → EReal) (c b u : ℕ) : EReal :=
  (∑ v ∈ range 2048, dyVal A3 S c b v * moved (hVal A4 c) v u) * hs c
/-- The dh entry of channel `c`. -/
def dhVal (A2 A3 : S8x2048x128.Idx → BitVec 8) (S SX : ℕ → ℕ → EReal) (c l : ℕ) : EReal :=
  ∑ b ∈ range 8, ∑ v ∈ range 2048, dyVal A3 S c b v * moved (xVal A2 SX c b) v l

/-- The dx rows: row `R`, lane `l`. -/
def soG (A3 : S8x2048x128.Idx → BitVec 8) (A4 : S128x2048.Idx → BitVec 8) (S : ℕ → ℕ → EReal) (hs : ℕ → EReal) (R l : ℕ) : EReal :=
  dxVal A3 A4 S hs (R % 129) (bat (128 * (R / 129 / 32) + l)) (tok (128 * (R / 129 / 32) + l) + R / 129 % 32)
/-- The dh rows: row `R`, lane `l`. -/
def shdG (A2 A3 : S8x2048x128.Idx → BitVec 8) (S SX : ℕ → ℕ → EReal) (R l : ℕ) : EReal := dhVal A2 A3 S SX (R % 128) (128 * (R / 128) + l)

section
variable (A5 : Vec Ideal S16x32x128 .bf16) (A6 A7 : Vec Ideal S4x32x128 .bf16) (A11 : Vec Ideal S16512x128 .i32) (A13 : Vec Ideal S4128x128 .i32) (A14 : Vec Ideal S2176x128 .i32) (k : Fin k0_t4_loop.trips)
variable (A2 A3 : S8x2048x128.Idx → BitVec 8) (A4 : S128x2048.Idx → BitVec 8) (S SX : ℕ → ℕ → EReal)
variable (h5 : ∀ (n : Fin 16) (r : Fin 32) (t : Fin 128), A5 (ix3 n r t) = S (r.val / 4) (128 * n.val + 32 * (r.val % 4) + t.val)) (hS : ∀ b p, 2048 ≤ p → S b p = 0)
variable (h6 : ∀ (v : Fin 4) (r : Fin 32) (l : Fin 128), A6 (ix3 v r l) = SX (l.val / 4 % 8) (128 * (4 * v.val + l.val / 32) + 32 * (l.val % 4) + (8 * (r.val / 8) + (7 - r.val % 8))))
variable (h7 : ∀ (v : Fin 4) (r : Fin 32) (l : Fin 128), A7 (ix3 v r l) = moved (SX (l.val / 4 % 8)) (128 * (4 * v.val + l.val / 32) + 32 * (l.val % 4) + (8 * (r.val / 8) + (7 - r.val % 8))) 256)
variable (h11 : ∀ y : S16512x128.Idx, (y 0).val % 129 < 128 → A11 y = sdG A3 (y 0).val (y 1).val)
variable (h13 : ∀ y : S4128x128.Idx, (y 0).val % 129 < 128 → A13 y = sxG A2 (y 0).val (y 1).val)
variable (h14 : ∀ y : S2176x128.Idx, A14 y = shG A4 (y 0).val (y 1).val)

include hS in
theorem dyVal_zero (c b p : ℕ) (hp : 2048 ≤ p) : dyVal A3 S c b p = 0 := by
  unfold dyVal; rw [hS b p hp, mul_zero]

include h5 hS h11 h14 in
theorem dxPiece_val (hs : ℕ → EReal) (n : Fin 8) (x : S16x128.Idx) :
    (dxPiece A5 A11 A14 k (hs k.val : Ideal .f32) n).2 x
      = soG A3 A4 S hs (((dxPiece A5 A11 A14 k (hs k.val : Ideal .f32) n).1.emb x) 0).val (((dxPiece A5 A11 A14 k (hs k.val : Ideal .f32) n).1.emb x) 1).val := by
  have hk : k.val < 128 := lt_of_lt_of_eq k.isLt trips4
  have hn := n.isLt
  have hx0 : (x 0).val < 16 := (x 0).isLt
  have hx1 : (x 1).val < 128 := (x 1).isLt
  have e0 : (((dxPiece A5 A11 A14 k (hs k.val : Ideal .f32) n).1.emb x) 0).val = 129 * (16 * n.val + (x 0).val) + k.val := by
    show k0_off13 k (BitVec.ofNat 32 (2064 * n.val)) 0 + 129 * (x 0).val = _
    rw [off13_eq]; show 2064 * n.val + k.val + 129 * (x 0).val = _; omega
  have e1 : (((dxPiece A5 A11 A14 k (hs k.val : Ideal .f32) n).1.emb x) 1).val = (x 1).val := by
    show k0_off13 k (BitVec.ofNat 32 (2064 * n.val)) 1 + 1 * (x 1).val = _
    rw [off13_eq]; show 0 + 1 * (x 1).val = _; omega
  rw [e0, e1]
  unfold soG
  rw [show (129 * (16 * n.val + (x 0).val) + k.val) % 129 = k.val by omega, show (129 * (16 * n.val + (x 0).val) + k.val) / 129 = 16 * n.val + (x 0).val by omega,
    show (16 * n.val + (x 0).val) / 32 = n.val / 2 by omega, show (16 * n.val + (x 0).val) % 32 = 16 * (n.val % 2) + (x 0).val by omega]
  have e2 : (dxPiece A5 A11 A14 k (hs k.val : Ideal .f32) n).2 x = dxRows (hs k.val) (y0T A5 A11 A14 k) (y1T A5 A11 A14 k) (n.val / 2) (n.val % 2) (ix2 (⟨(x 0).val, hx0⟩ : Fin 16) (⟨(x 1).val, hx1⟩ : Fin 128)) := by
    rw [show (ix2 (⟨(x 0).val, hx0⟩ : Fin 16) (⟨(x 1).val, hx1⟩ : Fin 128) : S16x128.Idx) = x from (ValueIdx.eq_ix2 x).symm]
    rfl
  rw [e2, dxRows_apply (hs k.val) _ _ (n.val / 2) (n.val % 2) (by omega) (by omega)]
  unfold dxVal
  refine congrArg (· * _) ?_
  rw [← dx_sum (dyVal A3 S k.val) (hVal A4 k.val) (dyVal_zero A3 S hS k.val) (128 * (n.val / 2) + (x 1).val) (16 * (n.val % 2) + (x 0).val) (by omega) (by omega)]
  refine Finset.sum_congr rfl fun d hd => ?_
  have hd := Finset.mem_range.mp hd
  show (if 128 * (n.val / 2) + (x 1).val + 64 * d < 512 then _ else _) = (if 128 * (n.val / 2) + (x 1).val + 64 * d < 512 then _ else _)
  by_cases h : 128 * (n.val / 2) + (x 1).val + 64 * d < 512
  · rw [if_pos h, if_pos h]
    exact prod_eq (dyVal A3 S k.val) (hVal A4 k.val) (dyT A5 A11 k) (fun n hn r t => dyT_apply A5 A11 k A3 S h5 hS h11 n hn r t) (hWords A14 k) (fun n s t => hBlock_moved A14 k A4 h14 n s t) d _ _ hd (by omega) h (by omega)
  · rw [if_neg h, if_neg h]

include h5 hS h6 h7 h11 h13 in
theorem dhPiece_val (n : Fin 16) (x : S1x128.Idx) :
    (dhPiece A5 A6 A7 A11 A13 k n).2 x
      = shdG A2 A3 S SX (((dhPiece A5 A6 A7 A11 A13 k n).1.emb x) 0).val (((dhPiece A5 A6 A7 A11 A13 k n).1.emb x) 1).val := by
  have hk : k.val < 128 := lt_of_lt_of_eq k.isLt trips4
  have hn := n.isLt
  have hx0 : (x 0).val < 1 := (x 0).isLt
  have hx1 : (x 1).val < 128 := (x 1).isLt
  have e0 : (((dhPiece A5 A6 A7 A11 A13 k n).1.emb x) 0).val = 128 * n.val + k.val := by
    show k0_off12 k (BitVec.ofNat 32 (128 * n.val)) 0 + 1 * (x 0).val = _
    rw [off12_eq]; show 128 * n.val + k.val + 1 * (x 0).val = _; omega
  have e1 : (((dhPiece A5 A6 A7 A11 A13 k n).1.emb x) 1).val = (x 1).val := by
    show k0_off12 k (BitVec.ofNat 32 (128 * n.val)) 1 + 1 * (x 1).val = _
    rw [off12_eq]; show 0 + 1 * (x 1).val = _; omega
  rw [e0, e1]
  unfold shdG
  rw [show (128 * n.val + k.val) % 128 = k.val by omega, show (128 * n.val + k.val) / 128 = n.val by omega]
  have e2 : (dhPiece A5 A6 A7 A11 A13 k n).2 x = dhRow (p0T A5 A6 A7 A11 A13 k) (p1T A5 A6 A7 A11 A13 k) n.val (ix2 (0 : Fin 1) (⟨(x 1).val, hx1⟩ : Fin 128)) := by
    rw [show (ix2 (0 : Fin 1) (⟨(x 1).val, hx1⟩ : Fin 128) : S1x128.Idx) = x from by
      rw [show (0 : Fin 1) = x 0 from Fin.ext (by show 0 = (x 0).val; omega)]; exact (ValueIdx.eq_ix2 x).symm]
    rfl
  rw [e2, dhRow_apply _ _ n.val hn]
  unfold dhVal
  rw [← dh_sum (dyVal A3 S k.val) (xVal A2 SX k.val) (dyVal_zero A3 S hS k.val) (128 * n.val + (x 1).val)]
  refine Finset.sum_congr rfl fun i hi => Finset.sum_congr rfl fun e he => ?_
  have hi := Finset.mem_range.mp hi
  have he := Finset.mem_range.mp he
  unfold corrAt
  show (if 128 * n.val + (x 1).val + (7 - i) + 8 * e < 2048 then _ else _) = (if 128 * n.val + (x 1).val + (7 - i) + 8 * e < 2048 then _ else _)
  by_cases h : 128 * n.val + (x 1).val + (7 - i) + 8 * e < 2048
  · rw [if_pos h, if_pos h]
    exact corr_eq (dyVal A3 S k.val) (xVal A2 SX k.val) (dyT A5 A11 k) (fun n hn r t => dyT_apply A5 A11 k A3 S h5 hS h11 n hn r t) (xT A6 A7 A13 k)
      (fun o ho v r l => xT_apply A6 A7 A13 k A2 SX (xVal A2 SX k.val) (fun _ _ => rfl) h6 h7 h13 o ho v r l) _ e i _ (show (128 * n.val + (x 1).val + (7 - i) + 8 * e) / 256 < 8 by omega) he hi (Nat.mod_lt _ (by decide))
  · rw [if_neg h, if_neg h]

end

variable (𝒱 : Variants) (c : Dev nD) (bd : Option 𝒱.V) (i : grid0.Coords) (arg1 : Memref sig .tc .smem S768 .f32) (harg1 : arg1.IsWhole) (arg2 : Memref sig .tc .vmem S8x2048x128 .i8) (harg2 : arg2.IsWhole) (arg3 : Memref sig .tc .vmem S8x2048x128 .i8) (harg3 : arg3.IsWhole) (arg4 : Memref sig .tc .vmem S128x2048 .i8) (harg4 : arg4.IsWhole) (arg5 : Memref sig .tc .vmem S16x32x128 .bf16) (harg5 : arg5.IsWhole) (arg6 : Memref sig .tc .vmem S4x32x128 .bf16) (harg6 : arg6.IsWhole) (arg7 : Memref sig .tc .vmem S4x32x128 .bf16) (harg7 : arg7.IsWhole) (arg8 : Memref sig .tc .vmem S8x2048x128 .bf16) (harg8 : arg8.IsWhole) (arg9 : Memref sig .tc .vmem S128x2048 .f32) (harg9 : arg9.IsWhole) (arg10 : Memref sig .tc .vmem S128x128 .i32) (harg10 : arg10.IsWhole) (arg11 : Memref sig .tc .vmem S16512x128 .i32) (harg11 : arg11.IsWhole) (arg12 : Memref sig .tc .vmem S4104x128 .i32) (harg12 : arg12.IsWhole) (arg13 : Memref sig .tc .vmem S4128x128 .i32) (harg13 : arg13.IsWhole) (arg14 : Memref sig .tc .vmem S2176x128 .i32) (harg14 : arg14.IsWhole) (arg15 : Memref sig .tc .vmem S16512x128 .f32) (harg15 : arg15.IsWhole) (arg16 : Memref sig .tc .vmem S2048x128 .f32) (harg16 : arg16.IsWhole) (arg17 : Memref sig .tc .vmem S2176x128 .f32) (harg17 : arg17.IsWhole)

section
variable (A2 A3 : S8x2048x128.Idx → BitVec 8) (A4 : S128x2048.Idx → BitVec 8) (S SX : ℕ → ℕ → EReal)
variable (arg0 : BitVec 32) (v1035 : IVec S8x2048 32) (v1264 : IVec S8x128 32) (X1 : BufTy.Contents (Elt Ideal) arg1.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X13 : BufTy.Contents (Elt Ideal) arg13.view.ty) (X14 : BufTy.Contents (Elt Ideal) arg14.view.ty) (G15 : BufTy.Contents (Elt Ideal) arg15.view.ty) (G16 : BufTy.Contents (Elt Ideal) arg16.view.ty)
variable (h5 : ∀ (n : Fin 16) (r : Fin 32) (t : Fin 128), arg5.view.read (Elt Ideal) X5 (ix3 n r t) = S (r.val / 4) (128 * n.val + 32 * (r.val % 4) + t.val)) (hS : ∀ b p, 2048 ≤ p → S b p = 0)
variable (h6 : ∀ (v : Fin 4) (r : Fin 32) (l : Fin 128), arg6.view.read (Elt Ideal) X6 (ix3 v r l) = SX (l.val / 4 % 8) (128 * (4 * v.val + l.val / 32) + 32 * (l.val % 4) + (8 * (r.val / 8) + (7 - r.val % 8))))
variable (h7 : ∀ (v : Fin 4) (r : Fin 32) (l : Fin 128), arg7.view.read (Elt Ideal) X7 (ix3 v r l) = moved (SX (l.val / 4 % 8)) (128 * (4 * v.val + l.val / 32) + 32 * (l.val % 4) + (8 * (r.val / 8) + (7 - r.val % 8))) 256)
variable (h11 : ∀ y : S16512x128.Idx, (y 0).val % 129 < 128 → arg11.view.read (Elt Ideal) X11 y = sdG A3 (y 0).val (y 1).val)
variable (h13 : ∀ y : S4128x128.Idx, (y 0).val % 129 < 128 → arg13.view.read (Elt Ideal) X13 y = sxG A2 (y 0).val (y 1).val)
variable (h14 : ∀ y : S2176x128.Idx, arg14.view.read (Elt Ideal) X14 y = shG A4 (y 0).val (y 1).val)

theorem mem8 : ∀ n : Fin 8, n ∈ ([7, 5, 3, 1, 6, 4, 2, 0] : List (Fin 8)) := by decide

include h5 hS h11 h14 in
theorem read15 (hs : ℕ → EReal) (h1 : ∀ k : Fin k0_t4_loop.trips, trip4.sl.r i arg1 X1 k = (hs k.val : Ideal .f32)) (y : S16512x128.Idx) (hy : (y 0).val % 129 < 128) :
    arg15.view.read (Elt Ideal) (st4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k0_t4_loop.trips).1 y = soG A3 A4 S hs (y 0).val (y 1).val := by
  have h0 : (y 0).val < 16512 := (y 0).isLt
  have h1' : (y 1).val < 128 := (y 1).isLt
  refine read_steps arg15.view k0_t4_loop.trips (fun m => (st4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 m).1)
    (fun k => (trip4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 k (st4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k.val).1 (st4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k.val).2).1)
    (fun k => by rw [st4_succ]) (fun y => soG A3 A4 S hs (y 0).val (y 1).val) ?_ _ (le_refl _) y ?_
  · intro k p hp
    rw [pieces15_eq] at hp
    obtain ⟨n, -, rfl⟩ := List.mem_map.mp hp
    rw [h1 k]
    exact dxPiece_val _ _ _ k A3 A4 S h5 hS h11 h14 hs n
  · obtain ⟨K, hK⟩ : ∃ K : Fin k0_t4_loop.trips, K.val = (y 0).val % 129 := ⟨⟨_, by rw [trips4]; omega⟩, rfl⟩
    obtain ⟨n, hn⟩ : ∃ n : Fin 8, n.val = (y 0).val / 129 / 16 := ⟨⟨_, by omega⟩, rfl⟩
    refine ⟨K, K.isLt, dxPiece (arg5.view.read (Elt Ideal) X5) (arg11.view.read (Elt Ideal) X11) (arg14.view.read (Elt Ideal) X14) K (trip4.sl.r i arg1 X1 K) n, ?_, ?_⟩
    · rw [pieces15_eq]; exact List.mem_map.mpr ⟨n, mem8 n, rfl⟩
    · refine mem_rect2 _ y ((y 0).val / 129 % 16) (y 1).val (show (y 0).val / 129 % 16 < 16 by omega) h1' ?_ ?_
      · show (y 0).val = k0_off13 K (BitVec.ofNat 32 (2064 * n.val)) 0 + 129 * ((y 0).val / 129 % 16)
        rw [off13_eq]; show (y 0).val = 2064 * n.val + K.val + 129 * ((y 0).val / 129 % 16); omega
      · show (y 1).val = k0_off13 K (BitVec.ofNat 32 (2064 * n.val)) 1 + 1 * (y 1).val
        rw [off13_eq]; show (y 1).val = 0 + 1 * (y 1).val; omega

include h5 hS h6 h7 h11 h13 in
theorem read16 (y : S2048x128.Idx) :
    arg16.view.read (Elt Ideal) (st4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k0_t4_loop.trips).2 y = shdG A2 A3 S SX (y 0).val (y 1).val := by
  have h0 : (y 0).val < 2048 := (y 0).isLt
  have h1' : (y 1).val < 128 := (y 1).isLt
  refine read_steps arg16.view k0_t4_loop.trips (fun m => (st4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 m).2)
    (fun k => (trip4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 k (st4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k.val).1 (st4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v1035 v1264 X1 X5 X6 X7 X11 X13 X14 G15 G16 k.val).2).2.1)
    (fun k => by rw [st4_succ]) (fun y => shdG A2 A3 S SX (y 0).val (y 1).val) ?_ _ (le_refl _) y ?_
  · intro k p hp
    rw [pieces16_eq] at hp
    obtain ⟨n, -, rfl⟩ := List.mem_map.mp hp
    exact dhPiece_val _ _ _ _ _ k A2 A3 S SX h5 hS h6 h7 h11 h13 n
  · obtain ⟨K, hK⟩ : ∃ K : Fin k0_t4_loop.trips, K.val = (y 0).val % 128 := ⟨⟨_, by rw [trips4]; omega⟩, rfl⟩
    obtain ⟨n, hn⟩ : ∃ n : Fin 16, n.val = (y 0).val / 128 := ⟨⟨_, by omega⟩, rfl⟩
    refine ⟨K, K.isLt, dhPiece (arg5.view.read (Elt Ideal) X5) (arg6.view.read (Elt Ideal) X6) (arg7.view.read (Elt Ideal) X7) (arg11.view.read (Elt Ideal) X11) (arg13.view.read (Elt Ideal) X13) K n, ?_, ?_⟩
    · rw [pieces16_eq]; exact List.mem_map.mpr ⟨n, mem16 n, rfl⟩
    · refine mem_rect2 _ y 0 (y 1).val (show 0 < 1 by omega) h1' ?_ ?_
      · show (y 0).val = k0_off12 K (BitVec.ofNat 32 (128 * n.val)) 0 + 1 * 0
        rw [off12_eq]; show (y 0).val = 128 * n.val + K.val + 1 * 0; omega
      · show (y 1).val = k0_off12 K (BitVec.ofNat 32 (128 * n.val)) 1 + 1 * (y 1).val
        rw [off12_eq]; show (y 1).val = 0 + 1 * (y 1).val; omega

end

end Cert.Proof.KernelIdeal
-- ==== Proof.Ideal.WriteBack.lean ====
/-
  The last loop: every trip turns sixteen of the dx rows, so that channels lie on the lanes, and writes them to the result.
-/
module

public import proofs.«01_k».proof.Proof.Ideal.Channel

@[expose] public section

set_option maxRecDepth 8192
set_option maxHeartbeats 40000000

noncomputable section

namespace Cert.Proof.KernelIdeal

open Cert.KernelIdeal Cert.KernelIdeal.Gen
open Idealize.ShloMosaic

/-- The offset of the block of batch `b`, token block `kk` and place `o` in it. -/
def dxOff (k : Fin k0_t5_loop.trips) (b kk o : ℕ) : Fin 3 → ℕ :=
  match b with
  | 0 => k0_off15 k (BitVec.ofNat 32 (128 * kk)) (BitVec.ofNat 32 (32 * o))
  | 1 => k0_off16 k (BitVec.ofNat 32 (128 * kk)) (BitVec.ofNat 32 (32 * o))
  | 2 => k0_off17 k (BitVec.ofNat 32 (128 * kk)) (BitVec.ofNat 32 (32 * o))
  | 3 => k0_off18 k (BitVec.ofNat 32 (128 * kk)) (BitVec.ofNat 32 (32 * o))
  | 4 => k0_off19 k (BitVec.ofNat 32 (128 * kk)) (BitVec.ofNat 32 (32 * o))
  | 5 => k0_off20 k (BitVec.ofNat 32 (128 * kk)) (BitVec.ofNat 32 (32 * o))
  | 6 => k0_off21 k (BitVec.ofNat 32 (128 * kk)) (BitVec.ofNat 32 (32 * o))
  | _ => k0_off22 k (BitVec.ofNat 32 (128 * kk)) (BitVec.ofNat 32 (32 * o))

theorem dxOff_fin : ∀ (k : Fin k0_t5_loop.trips) (b : Fin 8) (kk o : Fin 4), dxOff k b.val kk.val o.val = ![b.val, 512 * (k.val / 2) + 128 * kk.val + 32 * o.val + 16 * (k.val % 2), 0] := by decide +kernel

theorem dxOff_eq (k : Fin k0_t5_loop.trips) (b kk o : ℕ) (hb : b < 8) (hkk : kk < 4) (ho : o < 4) :
    dxOff k b kk o = ![b, 512 * (k.val / 2) + 128 * kk + 32 * o + 16 * (k.val % 2), 0] := dxOff_fin k ⟨b, hb⟩ ⟨kk, hkk⟩ ⟨o, ho⟩

theorem inbDx (k : Fin k0_t5_loop.trips) (n : Fin 128) : ∀ a, dxOff k (n.val / 4 % 8) (n.val / 32) (n.val % 4) a + S1x16x128.size a ≤ S8x2048x128.size a := by
  have hk : k.val < 8 := lt_of_lt_of_eq k.isLt trips5
  have hn := n.isLt
  rw [dxOff_eq k _ _ _ (by omega) (by omega) (by omega)]
  intro a; match a with
  | 0 => show n.val / 4 % 8 + 1 ≤ 8; omega
  | 1 => show 512 * (k.val / 2) + 128 * (n.val / 32) + 32 * (n.val % 4) + 16 * (k.val % 2) + 16 ≤ 2048; omega
  | 2 => show 0 + 128 ≤ 128; omega

theorem inbUt (n : Fin 128) : ∀ a, (![17 * n.val, 0] : Fin 2 → ℕ) a + S16x128.size a ≤ S2176x128.size a := by
  intro a; match a with
  | 0 => show 17 * n.val + 16 ≤ 2176; omega
  | 1 => show 0 + 128 ≤ 128; omega

theorem inbTurn (n : Fin 256) : ∀ a, S8x128.size a = 0 ∨ (![136 * (n.val % 16) + n.val / 16, 0] : Fin 2 → ℕ) a + (![17, 1] : Fin 2 → ℕ) a * (S8x128.size a - 1) < S2176x128.size a := by
  intro a; match a with
  | 0 => exact .inr (show 136 * (n.val % 16) + n.val / 16 + 17 * (8 - 1) < 2176 by omega)
  | 1 => exact .inr (show 0 + 1 * (128 - 1) < 128 by omega)

theorem slicesTurn (m : ℕ) (h : m < 16) : S128x128.Slices ![8 * m, 0] S8x128 := by
  refine ⟨rfl, fun a => ?_⟩
  match a with
  | 0 => show 8 * m + 8 ≤ 128; omega
  | 1 => show 0 + 128 ≤ 128; omega

theorem inb14 (k : Fin k0_t5_loop.trips) (n : Fin 16) : ∀ a, k0_off14 k (BitVec.ofNat 32 n.val) a + S128x128.size a ≤ S16512x128.size a := by
  have hk : k.val < 8 := lt_of_lt_of_eq k.isLt trips5
  rw [off14_eq]
  intro a; match a with
  | 0 => show 2064 * k.val + 129 * n.val + 128 ≤ 16512; omega
  | 1 => show 0 + 128 ≤ 128; omega

variable {F : FTy → Type} [FloatOps F]

/-- Piece `n` of the turned rows. -/
def utPiece (A15 : Vec F S16512x128 .f32) (k : Fin k0_t5_loop.trips) (n : Fin 256) : View.Piece (Elt F) S2176x128 .f32 :=
  ⟨⟨⟨![136 * (n.val % 16) + n.val / 16, 0], S8x128.size, ![17, 1], inbTurn n⟩, spos_17_1⟩,
    shapeCast S8x128 (extractStridedSlice S8x128 ![8 * (n.val % 16), 0] (transpose S128x128 [1, 0] (fun x => A15 ((Rect.unit (s := S16512x128) (k0_off14 k (BitVec.ofNat 32 (n.val / 16))) S128x128.size (inb14 k ⟨n.val / 16, by omega⟩)).toLoadRect.idx x) : Vec F S128x128 .f32) transposes_S128x128_p1_0_S128x128) (slicesTurn _ (Nat.mod_lt _ (by decide)))) shapeCasts_S8x128_S8x128⟩

/-- The first `n` of them, the last one first. -/
def utPieces (A15 : Vec F S16512x128 .f32) (k : Fin k0_t5_loop.trips) : ℕ → List (View.Piece (Elt F) S2176x128 .f32)
  | 0 => []
  | n + 1 => utPiece A15 k (Fin.ofNat 256 n) :: utPieces A15 k n

/-- Piece `n` of the result, from the turned rows `C`. -/
def outPiece (C : ℕ → Vec F S2176x128 .f32) (k : Fin k0_t5_loop.trips) (n : Fin 128) : View.Piece (Elt F) S8x2048x128 .bf16 :=
  ⟨Rect.unit (dxOff k (n.val / 4 % 8) (n.val / 32) (n.val % 4)) S1x16x128.size (inbDx k n),
    shapeCast S1x16x128 (truncf .bf16 (fun x => C n.val ((Rect.unit (s := S2176x128) ![17 * n.val, 0] S16x128.size (inbUt n)).toLoadRect.idx x) : Vec F S16x128 .f32) bitsLt_bf16_f32) shapeCasts_S16x128_S1x16x128⟩

/-- The first `n` of them, the last one first. -/
def outPieces (C : ℕ → Vec F S2176x128 .f32) (k : Fin k0_t5_loop.trips) : ℕ → List (View.Piece (Elt F) S8x2048x128 .bf16)
  | 0 => []
  | n + 1 => outPiece C k (Fin.ofNat 128 n) :: outPieces C k n

variable (𝒱 : Variants) (c : Dev nD) (bd : Option 𝒱.V) (i : grid0.Coords) (arg1 : Memref sig .tc .smem S768 .f32) (harg1 : arg1.IsWhole) (arg2 : Memref sig .tc .vmem S8x2048x128 .i8) (harg2 : arg2.IsWhole) (arg3 : Memref sig .tc .vmem S8x2048x128 .i8) (harg3 : arg3.IsWhole) (arg4 : Memref sig .tc .vmem S128x2048 .i8) (harg4 : arg4.IsWhole) (arg5 : Memref sig .tc .vmem S16x32x128 .bf16) (harg5 : arg5.IsWhole) (arg6 : Memref sig .tc .vmem S4x32x128 .bf16) (harg6 : arg6.IsWhole) (arg7 : Memref sig .tc .vmem S4x32x128 .bf16) (harg7 : arg7.IsWhole) (arg8 : Memref sig .tc .vmem S8x2048x128 .bf16) (harg8 : arg8.IsWhole) (arg9 : Memref sig .tc .vmem S128x2048 .f32) (harg9 : arg9.IsWhole) (arg10 : Memref sig .tc .vmem S128x128 .i32) (harg10 : arg10.IsWhole) (arg11 : Memref sig .tc .vmem S16512x128 .i32) (harg11 : arg11.IsWhole) (arg12 : Memref sig .tc .vmem S4104x128 .i32) (harg12 : arg12.IsWhole) (arg13 : Memref sig .tc .vmem S4128x128 .i32) (harg13 : arg13.IsWhole) (arg14 : Memref sig .tc .vmem S2176x128 .i32) (harg14 : arg14.IsWhole) (arg15 : Memref sig .tc .vmem S16512x128 .f32) (harg15 : arg15.IsWhole) (arg16 : Memref sig .tc .vmem S2048x128 .f32) (harg16 : arg16.IsWhole) (arg17 : Memref sig .tc .vmem S2176x128 .f32) (harg17 : arg17.IsWhole)

theorem turn_eq (X15 : BufTy.Contents (Elt F) arg15.view.ty) (k : Fin k0_t5_loop.trips) :
    trip5.sl.H17_256 arg15 X15 k = utPieces (arg15.view.read (Elt F) X15) k 256 := rfl

theorem out_eq (X15 : BufTy.Contents (Elt F) arg15.view.ty) (k : Fin k0_t5_loop.trips) (f17 : BufTy.Contents (Elt F) arg17.view.ty) (f8 : BufTy.Contents (Elt F) arg8.view.ty) :
    (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X15 k f17 f8).2.1 =
      outPieces (fun n => arg17.view.read (Elt F) (arg17.view.writes (Elt F) (match n % 8 with | 0 => arg17.view.junk | _ => f17) (trip5.sl.H17_256 arg15 X15 k))) k 128 := by
  unfold trip5
  rfl

end Cert.Proof.KernelIdeal
-- ==== Proof.Ideal.WriteBackVal.lean ====
/-
  What the dx block holds when the last loop is done.
-/
module

public import proofs.«01_k».proof.Proof.Ideal.WriteBack

@[expose] public section

set_option maxRecDepth 8192

noncomputable section

namespace Cert.Proof.KernelIdeal

open Cert.KernelIdeal Cert.KernelIdeal.Gen
open Idealize.ShloMosaic

/-- A rectangle of a stack of matrices holds the position that is a step away in each axis. -/
theorem mem_rect3 {n m p : ℕ} (r : Rect ⟨3, ![n, m, p]⟩) (y : (⟨3, ![n, m, p]⟩ : Shape).Idx) (a b c : ℕ) (ha : a < r.size 0) (hb : b < r.size 1) (hc : c < r.size 2)
    (h0 : (y 0).val = r.off 0 + r.stride 0 * a) (h1 : (y 1).val = r.off 1 + r.stride 1 * b) (h2 : (y 2).val = r.off 2 + r.stride 2 * c) : y ∈ r.set := by
  rw [LoadRect.mem_set]
  intro d
  match d with
  | 0 => exact ⟨a, ha, h0⟩
  | 1 => exact ⟨b, hb, h1⟩
  | 2 => exact ⟨c, hc, h2⟩

/-- The element of the dx rows at natural coordinates. -/
def soAt {α : Type} [Zero α] (A15 : S16512x128.Idx → α) (R l : ℕ) : α :=
  if h : R < 16512 ∧ l < 128 then A15 (ix2 ⟨R, h.1⟩ ⟨l, h.2⟩) else 0

theorem soAt_eq {α : Type} [Zero α] (A15 : S16512x128.Idx → α) (j : S16512x128.Idx) : A15 j = soAt A15 (j 0).val (j 1).val := by
  unfold soAt
  rw [dif_pos ⟨(j 0).isLt, (j 1).isLt⟩]
  exact congrArg A15 (ValueIdx.eq_ix2 j)

theorem utPiece_val (A15 : Vec Ideal S16512x128 .f32) (k : Fin k0_t5_loop.trips) (n : Fin 256) (x : S8x128.Idx) :
    (utPiece A15 k n).2 x = soAt (α := EReal) A15 (129 * (16 * k.val + (((utPiece A15 k n).1.emb x) 0).val % 17) + (((utPiece A15 k n).1.emb x) 1).val) ((((utPiece A15 k n).1.emb x) 0).val / 17) := by
  have hk : k.val < 8 := lt_of_lt_of_eq k.isLt trips5
  have hx0 : (x 0).val < 8 := (x 0).isLt
  have hx1 : (x 1).val < 128 := (x 1).isLt
  have hn := n.isLt
  obtain ⟨w, hw⟩ : ∃ w, w = n.val / 16 := ⟨_, rfl⟩
  obtain ⟨m, hm⟩ : ∃ m, m = n.val % 16 := ⟨_, rfl⟩
  have hw16 : w < 16 := by omega
  have hm16 : m < 16 := by omega
  have e0 : (((utPiece A15 k n).1.emb x) 0).val = 17 * (8 * m + (x 0).val) + w := by
    show 136 * (n.val % 16) + n.val / 16 + 17 * (x 0).val = _
    rw [← hw, ← hm]; omega
  have e1 : (((utPiece A15 k n).1.emb x) 1).val = (x 1).val := by
    show 0 + 1 * (x 1).val = _; omega
  rw [e0, e1, show (17 * (8 * m + (x 0).val) + w) % 17 = w by omega, show (17 * (8 * m + (x 0).val) + w) / 17 = 8 * m + (x 0).val by omega]
  have e2 : (utPiece A15 k n).2 x = shapeCast S8x128 (extractStridedSlice S8x128 ![8 * (n.val % 16), 0] (transpose S128x128 [1, 0] (fun x => A15 ((Rect.unit (s := S16512x128) (k0_off14 k (BitVec.ofNat 32 (n.val / 16))) S128x128.size (inb14 k ⟨n.val / 16, by omega⟩)).toLoadRect.idx x) : Vec Ideal S128x128 .f32) transposes_S128x128_p1_0_S128x128) (slicesTurn _ (Nat.mod_lt _ (by decide)))) shapeCasts_S8x128_S8x128 x := rfl
  rw [e2, castSelf]
  have e3 : ∀ (B : Vec Ideal S128x128 .f32) (hsl), extractStridedSlice S8x128 ![8 * (n.val % 16), 0] (transpose S128x128 [1, 0] B transposes_S128x128_p1_0_S128x128) hsl x
      = B (ix2 (⟨(x 1).val, hx1⟩ : Fin 128) (⟨8 * m + (x 0).val, by omega⟩ : Fin 128)) := by
    intro B hsl
    subst hm
    obtain ⟨x0, x1, rfl⟩ : ∃ (x0 : Fin 8) (x1 : Fin 128), x = ix2 x0 x1 := ⟨x 0, x 1, ValueIdx.eq_ix2 x⟩
    pointwise
  rw [e3, soAt_eq A15]
  have e := off14_eq k ⟨n.val / 16, by omega⟩
  have f0 : (((Rect.unit (s := S16512x128) (k0_off14 k (BitVec.ofNat 32 (n.val / 16))) S128x128.size (inb14 k ⟨n.val / 16, by omega⟩)).toLoadRect.idx (ix2 (⟨(x 1).val, hx1⟩ : Fin 128) (⟨8 * m + (x 0).val, by omega⟩ : Fin 128))) 0).val = 129 * (16 * k.val + w) + (x 1).val := by
    show k0_off14 k (BitVec.ofNat 32 (n.val / 16)) 0 + 1 * (x 1).val = _
    rw [e]; show 2064 * k.val + 129 * (n.val / 16) + 1 * (x 1).val = _
    rw [← hw]; omega
  have f1 : (((Rect.unit (s := S16512x128) (k0_off14 k (BitVec.ofNat 32 (n.val / 16))) S128x128.size (inb14 k ⟨n.val / 16, by omega⟩)).toLoadRect.idx (ix2 (⟨(x 1).val, hx1⟩ : Fin 128) (⟨8 * m + (x 0).val, by omega⟩ : Fin 128))) 1).val = 8 * m + (x 0).val := by
    show k0_off14 k (BitVec.ofNat 32 (n.val / 16)) 1 + 1 * (8 * m + (x 0).val) = _
    rw [e]; show 0 + 1 * (8 * m + (x 0).val) = _; omega
  rw [f0, f1]

theorem mem_utPieces (A15 : Vec Ideal S16512x128 .f32) (k : Fin k0_t5_loop.trips) (N : ℕ) (hN : N ≤ 256) (p : View.Piece (Elt Ideal) S2176x128 .f32) :
    p ∈ utPieces A15 k N ↔ ∃ n : Fin 256, n.val < N ∧ p = utPiece A15 k n := by
  induction N with
  | zero => simp [utPieces]
  | succ N ih =>
    have ih := ih (by omega)
    rw [utPieces, List.mem_cons, ih]
    have hv : (Fin.ofNat 256 N).val = N := Nat.mod_eq_of_lt (by omega)
    constructor
    · rintro (h | ⟨n, hn, h⟩)
      · exact ⟨_, by rw [hv]; omega, h⟩
      · exact ⟨n, by omega, h⟩
    · rintro ⟨n, hn, h⟩
      by_cases e : n.val = N
      · obtain rfl : n = Fin.ofNat 256 N := Fin.ext (e.trans hv.symm)
        exact .inl h
      · exact .inr ⟨n, by omega, h⟩

theorem read17 (arg17 : Memref sig .tc .vmem S2176x128 .f32) (A15 : Vec Ideal S16512x128 .f32) (k : Fin k0_t5_loop.trips) (f17 : BufTy.Contents (Elt Ideal) arg17.view.ty) (y : S2176x128.Idx) (hy : (y 0).val % 17 < 16) :
    arg17.view.read (Elt Ideal) (arg17.view.writes (Elt Ideal) f17 (utPieces A15 k 256)) y = soAt (α := EReal) A15 (129 * (16 * k.val + (y 0).val % 17) + (y 1).val) ((y 0).val / 17) := by
  have h0 : (y 0).val < 2176 := (y 0).isLt
  have h1 : (y 1).val < 128 := (y 1).isLt
  refine View.read_writes_apply_of_pieces arg17.view f17 (fun y => soAt (α := EReal) A15 (129 * (16 * k.val + (y 0).val % 17) + (y 1).val) ((y 0).val / 17)) _ ?_ y ?_
  · intro p hp
    obtain ⟨n, hn, rfl⟩ := (mem_utPieces A15 k 256 (le_refl _) _).1 hp
    exact fun x => utPiece_val A15 k n x
  · obtain ⟨l, hl⟩ : ∃ l, l = (y 0).val / 17 := ⟨_, rfl⟩
    obtain ⟨w, hw⟩ : ∃ w, w = (y 0).val % 17 := ⟨_, rfl⟩
    obtain ⟨n, hn⟩ : ∃ n : Fin 256, n.val = 16 * w + l / 8 := ⟨⟨_, by omega⟩, rfl⟩
    refine ⟨_, (mem_utPieces A15 k 256 (le_refl _) _).2 ⟨n, n.isLt, rfl⟩, mem_rect2 _ y (l % 8) (y 1).val (show l % 8 < 8 by omega) h1 ?_ ?_⟩
    · show (y 0).val = 136 * (n.val % 16) + n.val / 16 + 17 * (l % 8)
      rw [show n.val % 16 = l / 8 by omega, show n.val / 16 = w by omega]; omega
    · show (y 1).val = 0 + 1 * (y 1).val; omega

/-- The block of dx, at its natural coordinates. -/
def dxG (A3 : S8x2048x128.Idx → BitVec 8) (A4 : S128x2048.Idx → BitVec 8) (S : ℕ → ℕ → EReal) (hs : ℕ → EReal) (y : S8x2048x128.Idx) : EReal :=
  dxVal A3 A4 S hs (y 2).val (y 0).val (y 1).val

theorem outPiece_val (A3 : S8x2048x128.Idx → BitVec 8) (A4 : S128x2048.Idx → BitVec 8) (S : ℕ → ℕ → EReal) (hs : ℕ → EReal) (A15 : Vec Ideal S16512x128 .f32)
    (h15 : ∀ y : S16512x128.Idx, (y 0).val % 129 < 128 → A15 y = soG A3 A4 S hs (y 0).val (y 1).val)
    (C : ℕ → Vec Ideal S2176x128 .f32) (k : Fin k0_t5_loop.trips)
    (hC : ∀ n (y : S2176x128.Idx), (y 0).val % 17 < 16 → C n y = soAt (α := EReal) A15 (129 * (16 * k.val + (y 0).val % 17) + (y 1).val) ((y 0).val / 17)) (n : Fin 128) (x : S1x16x128.Idx) :
    (outPiece C k n).2 x = dxG A3 A4 S hs ((outPiece C k n).1.emb x) := by
  have hk : k.val < 8 := lt_of_lt_of_eq k.isLt trips5
  have hx0 : (x 0).val < 1 := (x 0).isLt
  have hx1 : (x 1).val < 16 := (x 1).isLt
  have hx2 : (x 2).val < 128 := (x 2).isLt
  have hn := n.isLt
  have eo := dxOff_eq k (n.val / 4 % 8) (n.val / 32) (n.val % 4) (by omega) (by omega) (by omega)
  have e0 : (((outPiece C k n).1.emb x) 0).val = n.val / 4 % 8 := by
    show dxOff k (n.val / 4 % 8) (n.val / 32) (n.val % 4) 0 + 1 * (x 0).val = _
    rw [eo]; show n.val / 4 % 8 + 1 * (x 0).val = _; omega
  have e1 : (((outPiece C k n).1.emb x) 1).val = 512 * (k.val / 2) + 128 * (n.val / 32) + 32 * (n.val % 4) + 16 * (k.val % 2) + (x 1).val := by
    show dxOff k (n.val / 4 % 8) (n.val / 32) (n.val % 4) 1 + 1 * (x 1).val = _
    rw [eo]; show 512 * (k.val / 2) + 128 * (n.val / 32) + 32 * (n.val % 4) + 16 * (k.val % 2) + 1 * (x 1).val = _; omega
  have e2 : (((outPiece C k n).1.emb x) 2).val = (x 2).val := by
    show dxOff k (n.val / 4 % 8) (n.val / 32) (n.val % 4) 2 + 1 * (x 2).val = _
    rw [eo]; show 0 + 1 * (x 2).val = _; omega
  unfold dxG
  rw [e0, e1, e2]
  have v1 : (outPiece C k n).2 x = C n.val ((Rect.unit (s := S2176x128) ![17 * n.val, 0] S16x128.size (inbUt n)).toLoadRect.idx (ix2 (⟨(x 1).val, hx1⟩ : Fin 16) (⟨(x 2).val, hx2⟩ : Fin 128))) := by
    have a : (outPiece C k n).2 x = shapeCast S1x16x128 (truncf (F := Ideal) .bf16 (fun x => C n.val ((Rect.unit (s := S2176x128) ![17 * n.val, 0] S16x128.size (inbUt n)).toLoadRect.idx x) : Vec Ideal S16x128 .f32) bitsLt_bf16_f32) shapeCasts_S16x128_S1x16x128 x := rfl
    have a' : ∀ (B : Vec Ideal S16x128 .f32), shapeCast S1x16x128 (truncf (F := Ideal) .bf16 B bitsLt_bf16_f32) shapeCasts_S16x128_S1x16x128 x
        = B (ix2 (⟨(x 1).val, hx1⟩ : Fin 16) (⟨(x 2).val, hx2⟩ : Fin 128)) := by
      intro B
      obtain ⟨x0, x1, x2, rfl⟩ : ∃ (x0 : Fin 1) (x1 : Fin 16) (x2 : Fin 128), x = ix3 x0 x1 x2 := ⟨x 0, x 1, x 2, ValueIdx.eq_ix3 x⟩
      pointwise
    rw [a, a']
  have f0 : (((Rect.unit (s := S2176x128) ![17 * n.val, 0] S16x128.size (inbUt n)).toLoadRect.idx (ix2 (⟨(x 1).val, hx1⟩ : Fin 16) (⟨(x 2).val, hx2⟩ : Fin 128))) 0).val = 17 * n.val + (x 1).val := by
    show 17 * n.val + 1 * (x 1).val = _; omega
  have f1 : (((Rect.unit (s := S2176x128) ![17 * n.val, 0] S16x128.size (inbUt n)).toLoadRect.idx (ix2 (⟨(x 1).val, hx1⟩ : Fin 16) (⟨(x 2).val, hx2⟩ : Fin 128))) 1).val = (x 2).val := by
    show 0 + 1 * (x 2).val = _; omega
  rw [v1, hC _ _ (by rw [f0]; omega), f0, f1]
  unfold soAt
  rw [show (17 * n.val + (x 1).val) % 17 = (x 1).val by omega, show (17 * n.val + (x 1).val) / 17 = n.val by omega]
  rw [dif_pos (by omega), h15 _ (show (129 * (16 * k.val + (x 1).val) + (x 2).val) % 129 < 128 by omega)]
  show soG A3 A4 S hs (129 * (16 * k.val + (x 1).val) + (x 2).val) n.val = _
  unfold soG bat tok
  rw [show (129 * (16 * k.val + (x 1).val) + (x 2).val) % 129 = (x 2).val by omega, show (129 * (16 * k.val + (x 1).val) + (x 2).val) / 129 = 16 * k.val + (x 1).val by omega]
  refine congrArg₂ (dxVal A3 A4 S hs (x 2).val) ?_ ?_ <;> omega

theorem mem_outPieces (C : ℕ → Vec Ideal S2176x128 .f32) (k : Fin k0_t5_loop.trips) (N : ℕ) (hN : N ≤ 128) (p : View.Piece (Elt Ideal) S8x2048x128 .bf16) :
    p ∈ outPieces C k N ↔ ∃ n : Fin 128, n.val < N ∧ p = outPiece C k n := by
  induction N with
  | zero => simp [outPieces]
  | succ N ih =>
    have ih := ih (by omega)
    rw [outPieces, List.mem_cons, ih]
    have hv : (Fin.ofNat 128 N).val = N := Nat.mod_eq_of_lt (by omega)
    constructor
    · rintro (h | ⟨n, hn, h⟩)
      · exact ⟨_, by rw [hv]; omega, h⟩
      · exact ⟨n, by omega, h⟩
    · rintro ⟨n, hn, h⟩
      by_cases e : n.val = N
      · obtain rfl : n = Fin.ofNat 128 N := Fin.ext (e.trans hv.symm)
        exact .inl h
      · exact .inr ⟨n, by omega, h⟩

variable (𝒱 : Variants) (c : Dev nD) (bd : Option 𝒱.V) (i : grid0.Coords) (arg1 : Memref sig .tc .smem S768 .f32) (harg1 : arg1.IsWhole) (arg2 : Memref sig .tc .vmem S8x2048x128 .i8) (harg2 : arg2.IsWhole) (arg3 : Memref sig .tc .vmem S8x2048x128 .i8) (harg3 : arg3.IsWhole) (arg4 : Memref sig .tc .vmem S128x2048 .i8) (harg4 : arg4.IsWhole) (arg5 : Memref sig .tc .vmem S16x32x128 .bf16) (harg5 : arg5.IsWhole) (arg6 : Memref sig .tc .vmem S4x32x128 .bf16) (harg6 : arg6.IsWhole) (arg7 : Memref sig .tc .vmem S4x32x128 .bf16) (harg7 : arg7.IsWhole) (arg8 : Memref sig .tc .vmem S8x2048x128 .bf16) (harg8 : arg8.IsWhole) (arg9 : Memref sig .tc .vmem S128x2048 .f32) (harg9 : arg9.IsWhole) (arg10 : Memref sig .tc .vmem S128x128 .i32) (harg10 : arg10.IsWhole) (arg11 : Memref sig .tc .vmem S16512x128 .i32) (harg11 : arg11.IsWhole) (arg12 : Memref sig .tc .vmem S4104x128 .i32) (harg12 : arg12.IsWhole) (arg13 : Memref sig .tc .vmem S4128x128 .i32) (harg13 : arg13.IsWhole) (arg14 : Memref sig .tc .vmem S2176x128 .i32) (harg14 : arg14.IsWhole) (arg15 : Memref sig .tc .vmem S16512x128 .f32) (harg15 : arg15.IsWhole) (arg16 : Memref sig .tc .vmem S2048x128 .f32) (harg16 : arg16.IsWhole) (arg17 : Memref sig .tc .vmem S2176x128 .f32) (harg17 : arg17.IsWhole)

theorem read8 (A3 : S8x2048x128.Idx → BitVec 8) (A4 : S128x2048.Idx → BitVec 8) (S : ℕ → ℕ → EReal) (hs : ℕ → EReal) (X15 : BufTy.Contents (Elt Ideal) arg15.view.ty)
    (h15 : ∀ y : S16512x128.Idx, (y 0).val % 129 < 128 → arg15.view.read (Elt Ideal) X15 y = soG A3 A4 S hs (y 0).val (y 1).val)
    (G17 : BufTy.Contents (Elt Ideal) arg17.view.ty) (G8 : BufTy.Contents (Elt Ideal) arg8.view.ty) (y : S8x2048x128.Idx) :
    arg8.view.read (Elt Ideal) (st5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X15 G17 G8 k0_t5_loop.trips).2 y = dxG A3 A4 S hs y := by
  have h0 : (y 0).val < 8 := (y 0).isLt
  have h1 : (y 1).val < 2048 := (y 1).isLt
  have h2 : (y 2).val < 128 := (y 2).isLt
  refine read_steps arg8.view k0_t5_loop.trips (fun m => (st5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X15 G17 G8 m).2)
    (fun k => (trip5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X15 k (st5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X15 G17 G8 k.val).1 (st5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X15 G17 G8 k.val).2).2.1)
    (fun k => by rw [st5_succ]) (dxG A3 A4 S hs) ?_ _ (le_refl _) y ?_
  · intro k p hp
    rw [out_eq] at hp
    obtain ⟨n, -, rfl⟩ := (mem_outPieces _ k 128 (le_refl _) _).1 hp
    refine fun x => outPiece_val A3 A4 S hs (arg15.view.read (Elt Ideal) X15) h15 _ k ?_ n x
    intro m z hz
    rw [turn_eq]
    exact read17 arg17 _ k _ z hz
  · obtain ⟨K, hK⟩ : ∃ K : Fin k0_t5_loop.trips, K.val = 2 * ((y 1).val / 512) + (y 1).val % 32 / 16 := ⟨⟨_, by rw [trips5]; omega⟩, rfl⟩
    obtain ⟨n, hn⟩ : ∃ n : Fin 128, n.val = 32 * ((y 1).val % 512 / 128) + 4 * (y 0).val + (y 1).val % 128 / 32 := ⟨⟨_, by omega⟩, rfl⟩
    refine ⟨K, K.isLt, outPiece (fun n => arg17.view.read (Elt Ideal) (arg17.view.writes (Elt Ideal) (match n % 8 with | 0 => arg17.view.junk | _ => (st5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X15 G17 G8 K.val).1) (trip5.sl.H17_256 arg15 X15 K))) K n, ?_, ?_⟩
    · rw [out_eq]; exact (mem_outPieces _ K 128 (le_refl _) _).2 ⟨n, n.isLt, rfl⟩
    · have eo := dxOff_eq K (n.val / 4 % 8) (n.val / 32) (n.val % 4) (by omega) (by omega) (by omega)
      refine mem_rect3 _ y 0 ((y 1).val % 16) (y 2).val (show 0 < 1 by omega) (show (y 1).val % 16 < 16 by omega) h2 ?_ ?_ ?_
      · show (y 0).val = dxOff K (n.val / 4 % 8) (n.val / 32) (n.val % 4) 0 + 1 * 0
        rw [eo]; show (y 0).val = n.val / 4 % 8 + 1 * 0; omega
      · show (y 1).val = dxOff K (n.val / 4 % 8) (n.val / 32) (n.val % 4) 1 + 1 * ((y 1).val % 16)
        rw [eo]; show (y 1).val = 512 * (K.val / 2) + 128 * (n.val / 32) + 32 * (n.val % 4) + 16 * (K.val % 2) + 1 * ((y 1).val % 16)
        rw [show n.val / 32 = (y 1).val % 512 / 128 by omega, show n.val % 4 = (y 1).val % 128 / 32 by omega, show K.val / 2 = (y 1).val / 512 by omega, show K.val % 2 = (y 1).val % 32 / 16 by omega]
        omega
      · show (y 2).val = dxOff K (n.val / 4 % 8) (n.val / 32) (n.val % 4) 2 + 1 * (y 2).val
        rw [eo]; show (y 2).val = 0 + 1 * (y 2).val; omega

end Cert.Proof.KernelIdeal
-- ==== Proof.Ideal.BodyVal.lean ====
/-
  The two result blocks the body leaves, as sums over the staged blocks' entries.
-/
module

public import proofs.«01_k».proof.Proof.Ideal.Run
public import proofs.«01_k».proof.Proof.Ideal.Fill
public import proofs.«01_k».proof.Proof.Ideal.TapsVal
public import proofs.«01_k».proof.Proof.Ideal.Channel
public import proofs.«01_k».proof.Proof.Ideal.WriteBackVal

@[expose] public section

set_option maxRecDepth 8192
set_option maxHeartbeats 4000000

noncomputable section

namespace Cert.Proof.KernelIdeal

open Cert.KernelIdeal Cert.KernelIdeal.Gen
open Idealize.ShloMosaic Idealize.ShloMosaic.TcCoe

variable (𝒱 : Variants) (c : Dev nD) (bd : Option 𝒱.V) (i : grid0.Coords) (arg1 : Memref sig .tc .smem S768 .f32) (harg1 : arg1.IsWhole) (arg2 : Memref sig .tc .vmem S8x2048x128 .i8) (harg2 : arg2.IsWhole) (arg3 : Memref sig .tc .vmem S8x2048x128 .i8) (harg3 : arg3.IsWhole) (arg4 : Memref sig .tc .vmem S128x2048 .i8) (harg4 : arg4.IsWhole) (arg5 : Memref sig .tc .vmem S16x32x128 .bf16) (harg5 : arg5.IsWhole) (arg6 : Memref sig .tc .vmem S4x32x128 .bf16) (harg6 : arg6.IsWhole) (arg7 : Memref sig .tc .vmem S4x32x128 .bf16) (harg7 : arg7.IsWhole) (arg8 : Memref sig .tc .vmem S8x2048x128 .bf16) (harg8 : arg8.IsWhole) (arg9 : Memref sig .tc .vmem S128x2048 .f32) (harg9 : arg9.IsWhole) (arg10 : Memref sig .tc .vmem S128x128 .i32) (harg10 : arg10.IsWhole) (arg11 : Memref sig .tc .vmem S16512x128 .i32) (harg11 : arg11.IsWhole) (arg12 : Memref sig .tc .vmem S4104x128 .i32) (harg12 : arg12.IsWhole) (arg13 : Memref sig .tc .vmem S4128x128 .i32) (harg13 : arg13.IsWhole) (arg14 : Memref sig .tc .vmem S2176x128 .i32) (harg14 : arg14.IsWhole) (arg15 : Memref sig .tc .vmem S16512x128 .f32) (harg15 : arg15.IsWhole) (arg16 : Memref sig .tc .vmem S2048x128 .f32) (harg16 : arg16.IsWhole) (arg17 : Memref sig .tc .vmem S2176x128 .f32) (harg17 : arg17.IsWhole)

/-- The scale a trip multiplies by. -/
theorem scale_eq (X1 : BufTy.Contents (Elt Ideal) arg1.view.ty) (k : Fin k0_t4_loop.trips) (j : S768.Idx) (hj : (j 0).val = 128 * (i 0).val + k.val) :
    trip4.sl.r (F := Ideal) i arg1 X1 k = arg1.view.read (Elt Ideal) X1 j := by
  have e := off8_eq i k
  unfold trip4.sl.r
  refine congrArg (arg1.view.read (Elt Ideal) X1) ?_
  funext a; apply Fin.ext
  match a with
  | ⟨0, _⟩ =>
    refine Eq.trans ?_ hj.symm
    show k0_off8 i k 0 + 1 * 0 = _
    rw [e]
    rfl

/-- The filter gradient's block. -/
def dhG (A2 A3 : S8x2048x128.Idx → BitVec 8) (S SX : ℕ → ℕ → EReal) (y : S128x2048.Idx) : EReal := dhVal A2 A3 S SX (y 0).val (y 1).val

section
variable (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty)
variable (S SX : ℕ → ℕ → EReal) (hs : ℕ → EReal) (h1 : ∀ k : Fin k0_t4_loop.trips, trip4.sl.r (F := Ideal) i arg1 X1 k = (hs k.val : Ideal .f32))
variable (h5 : ∀ (n : Fin 16) (r : Fin 32) (t : Fin 128), arg5.view.read (Elt Ideal) X5 (ix3 n r t) = S (r.val / 4) (128 * n.val + 32 * (r.val % 4) + t.val)) (hS : ∀ b p, 2048 ≤ p → S b p = 0)
variable (h6 : ∀ (v : Fin 4) (r : Fin 32) (l : Fin 128), arg6.view.read (Elt Ideal) X6 (ix3 v r l) = SX (l.val / 4 % 8) (128 * (4 * v.val + l.val / 32) + 32 * (l.val % 4) + (8 * (r.val / 8) + (7 - r.val % 8))))
variable (h7 : ∀ (v : Fin 4) (r : Fin 32) (l : Fin 128), arg7.view.read (Elt Ideal) X7 (ix3 v r l) = moved (SX (l.val / 4 % 8)) (128 * (4 * v.val + l.val / 32) + 32 * (l.val % 4) + (8 * (r.val / 8) + (7 - r.val % 8))) 256)

include h1 h5 hS in
theorem body8 : arg8.view.read (Elt Ideal) (kernelRun (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 f8 f9 f10 f11 f12 f13 f14 f15 f16 f17).1 = dxG (arg3.view.read (Elt Ideal) X3) (arg4.view.read (Elt Ideal) X4) S hs := by
  funext y
  rw [run8]
  refine read8 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ S hs _ (fun y hy => ?_) f17 f8 y
  unfold sums
  exact read15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ S _ _ _ X1 X5 X6 X7 _ _ _ f15 f16 h5 hS (fun y hy => read11 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 f10 f11 y hy)
    (fun y => by rw [taps_def]; exact read14 arg14 _ f14 y) hs h1 y hy

theorem mem_dh : ∀ n : Fin 16, n ∈ ([15, 14, 13, 12, 11, 10, 9, 8, 7, 6, 5, 4, 3, 2, 1, 0] : List (Fin 16)) := by decide

include h5 hS h6 h7 in
theorem body9 : arg9.view.read (Elt Ideal) (kernelRun (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 f8 f9 f10 f11 f12 f13 f14 f15 f16 f17).2.1 = dhG (arg2.view.read (Elt Ideal) X2) (arg3.view.read (Elt Ideal) X3) S SX := by
  funext y
  rw [run9]
  have h0 : (y 0).val < 128 := (y 0).isLt
  have h1 : (y 1).val < 2048 := (y 1).isLt
  have h16 : ∀ y : S2048x128.Idx, arg16.view.read (Elt Ideal) (sums (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 f10 f11 f12 f13 f14 f15 f16).2 y = shdG (arg2.view.read (Elt Ideal) X2) (arg3.view.read (Elt Ideal) X3) S SX (y 0).val (y 1).val := by
    intro y
    unfold sums
    exact read16 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ S SX _ _ _ X1 X5 X6 X7 _ _ _ f15 f16 h5 hS h6 h7 (fun y hy => read11 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 f10 f11 y hy)
      (fun y hy => read13 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ (fun y hy => read12 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 f12 y hy) f13 y hy) y
  generalize arg16.view.read (Elt Ideal) (sums (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 f10 f11 f12 f13 f14 f15 f16).2 = A16 at h16 ⊢
  refine View.read_writes_apply_of_pieces (Val := Elt Ideal) arg9.view _ (dhG (arg2.view.read (Elt Ideal) X2) (arg3.view.read (Elt Ideal) X3) S SX) _ ?_ y ?_
  · intro p hp
    obtain ⟨n, -, rfl⟩ := List.mem_map.mp hp
    intro x
    have hx0 : (x 0).val < 128 := (x 0).isLt
    have hx1 : (x 1).val < 128 := (x 1).isLt
    have e0 : (((dhOut A16 n).1.emb x) 0).val = (x 0).val := by show 0 + 1 * (x 0).val = _; omega
    have e1 : (((dhOut A16 n).1.emb x) 1).val = 128 * n.val + (x 1).val := by show 128 * n.val + 1 * (x 1).val = _; omega
    unfold dhG
    rw [e0, e1]
    refine (h16 _).trans ?_
    show shdG _ _ S SX (128 * n.val + 1 * (x 0).val) (0 + 1 * (x 1).val) = _
    unfold shdG
    rw [show (128 * n.val + 1 * (x 0).val) % 128 = (x 0).val by omega, show (128 * n.val + 1 * (x 0).val) / 128 = n.val by omega, Nat.zero_add, Nat.one_mul]
  · obtain ⟨n, hn⟩ : ∃ n : Fin 16, n.val = (y 1).val / 128 := ⟨⟨_, by omega⟩, rfl⟩
    refine ⟨_, List.mem_map.mpr ⟨n, mem_dh n, rfl⟩, mem_rect2 _ y (y 0).val ((y 1).val % 128) h0 (show (y 1).val % 128 < 128 by omega) ?_ ?_⟩
    · show (y 0).val = 0 + 1 * (y 0).val; omega
    · show (y 1).val = 128 * n.val + 1 * ((y 1).val % 128); omega

end

end Cert.Proof.KernelIdeal
-- ==== Proof.Ref.Spec.lean ====
/-
  The two results as plain sums over the arguments' entries.
-/
module

public import Idealize.ShloMosaic.PureOps.Ideal.Laws
public import Idealize.ShloMosaic.Lib.Pointwise

@[expose] public section

noncomputable section

namespace Cert.Proof.Spec

open Idealize.ShloMosaic
open scoped BigOperators

variable (x : (⟨3, ![8, 2048, 768]⟩ : Shape).Idx → BitVec 8) (xs : (⟨2, ![8, 2048]⟩ : Shape).Idx → EReal)
  (dy : (⟨3, ![8, 2048, 768]⟩ : Shape).Idx → BitVec 8) (ds : (⟨2, ![8, 2048]⟩ : Shape).Idx → EReal)
  (h : (⟨2, ![768, 2048]⟩ : Shape).Idx → BitVec 8) (hs : (⟨1, ![768]⟩ : Shape).Idx → EReal) (sl : (⟨1, ![8]⟩ : Shape).Idx → BitVec 32)

/-- The dequantised output gradient, zero past the sequence's end. -/
def dyR (c : Fin 768) (b : Fin 8) (v : Fin 2048) : EReal :=
  Scalar.select (IntOp.cmpi .slt (BitVec.ofNat 32 v.val) (sl (ix1 b))) (Ideal.ofBits .fp8e5m2 (dy (ix3 b v c)) * ds (ix2 b v)) 0

/-- The filter at lag `v - u`, zero for a negative lag. -/
def hR (c : Fin 768) (u v : Fin 2048) : EReal :=
  if u.val ≤ v.val then Ideal.ofBits .fp8e4m3 (h (ix2 c ⟨v.val - u.val, by omega⟩)) else 0

/-- The dequantised input `l` tokens before `v`, zero before the start. -/
def xR (c : Fin 768) (b : Fin 8) (l v : Fin 2048) : EReal :=
  if l.val ≤ v.val then Ideal.ofBits .fp8e4m3 (x (ix3 b ⟨v.val - l.val, by omega⟩ c)) * xs (ix2 b ⟨v.val - l.val, by omega⟩) else 0

/-- The input gradient. -/
def dxR (j : (⟨3, ![8, 2048, 768]⟩ : Shape).Idx) : EReal :=
  (∑ v : Fin 2048, dyR dy ds sl (j 2) (j 0) v * hR h (j 2) (j 1) v) * hs (ix1 (j 2))

/-- The filter gradient. -/
def dhR (j : (⟨2, ![768, 2048]⟩ : Shape).Idx) : EReal :=
  ∑ b : Fin 8, ∑ v : Fin 2048, dyR dy ds sl (j 0) b v * xR x xs (j 0) b (j 1) v

end Cert.Proof.Spec
-- ==== Proof.Ideal.Equation.lean ====
/-
  The block results of one grid point are the blocks of the two sums over the arguments' entries.
-/
module

public import proofs.«01_k».proof.Proof.Ideal.BodyVal
public import proofs.«01_k».proof.Proof.Ref.Spec

@[expose] public section

noncomputable section

namespace Cert.Proof.KernelIdeal

open Cert.KernelIdeal Cert.KernelIdeal.Gen
open Idealize.ShloMosaic
open scoped BigOperators
open Finset

variable (x dy : S8x2048x768.Idx → BitVec 8) (xs ds : S8x2048.Idx → EReal) (h : S768x2048.Idx → BitVec 8) (hs : S768.Idx → EReal) (sl : S8.Idx → BitVec 32)

/-- The channel that lane `k` of block `t` holds. -/
def chan (t : ℕ) (ht : t < 6) (k : Fin 128) : Fin 768 := ⟨128 * t + k.val, by omega⟩

/-- The gradient's scales, zero past the sequence's end and outside the array. -/
def dsN (b p : ℕ) : EReal :=
  if h : b < 8 ∧ p < 2048 then Scalar.select (IntOp.cmpi .slt (BitVec.ofNat 32 p) (sl (ix1 ⟨b, h.1⟩))) (ds (ix2 ⟨b, h.1⟩ ⟨p, h.2⟩)) 0 else 0
/-- The input's scales, zero outside the array. -/
def xsN (b p : ℕ) : EReal := if h : b < 8 ∧ p < 2048 then xs (ix2 ⟨b, h.1⟩ ⟨p, h.2⟩) else 0
/-- The filter's scales, zero outside the array. -/
def hsN (k : ℕ) : EReal := if h : k < 768 then hs (ix1 ⟨k, h⟩) else 0

theorem dsN_out (b p : ℕ) (hp : 2048 ≤ p) : dsN ds sl b p = 0 := dif_neg fun h => absurd h.2 (by omega)

theorem select_mul (w : BitVec 1) (a b : EReal) : a * Scalar.select w b 0 = Scalar.select w (a * b) 0 := by
  unfold Scalar.select
  split
  · rfl
  · exact mul_zero a

variable (t : ℕ) (ht : t < 6) (A2 A3 : S8x2048x128.Idx → BitVec 8) (A4 : S128x2048.Idx → BitVec 8)
variable (h2 : ∀ (b : Fin 8) (p : Fin 2048) (k : Fin 128), A2 (ix3 b p k) = x (ix3 b p (chan t ht k)))
variable (h3 : ∀ (b : Fin 8) (p : Fin 2048) (k : Fin 128), A3 (ix3 b p k) = dy (ix3 b p (chan t ht k)))
variable (h4 : ∀ (k : Fin 128) (u : Fin 2048), A4 (ix2 k u) = h (ix2 (chan t ht k) u))

include h3 in
theorem dyVal_eq (k : Fin 128) (b : Fin 8) (v : Fin 2048) :
    dyVal A3 (dsN ds sl) k.val b.val v.val = Spec.dyR dy ds sl (chan t ht k) b v := by
  unfold dyVal codeAt dsN Spec.dyR e5
  rw [dif_pos ⟨b.isLt, v.isLt, k.isLt⟩, dif_pos ⟨b.isLt, v.isLt⟩, select_mul, h3]

include h4 in
theorem hVal_eq (k : Fin 128) (u v : Fin 2048) :
    moved (hVal A4 k.val) v.val u.val = Spec.hR h (chan t ht k) u v := by
  have hv := v.isLt
  unfold moved hVal tapAt Spec.hR e4
  by_cases hc : u.val ≤ v.val
  · rw [if_pos hc, if_pos hc, dif_pos ⟨k.isLt, by omega⟩, h4]
  · rw [if_neg hc, if_neg hc]

include h2 in
theorem xVal_eq (k : Fin 128) (b : Fin 8) (l v : Fin 2048) :
    moved (xVal A2 (xsN xs) k.val b.val) v.val l.val = Spec.xR x xs (chan t ht k) b l v := by
  have hv := v.isLt
  unfold moved xVal codeAt xsN Spec.xR e4
  by_cases hc : l.val ≤ v.val
  · rw [if_pos hc, if_pos hc, dif_pos ⟨b.isLt, by omega, k.isLt⟩, dif_pos ⟨b.isLt, by omega⟩, h2]
  · rw [if_neg hc, if_neg hc]

include h3 h4 in
theorem dx_eq (b : Fin 8) (u : Fin 2048) (k : Fin 128) :
    dxG A3 A4 (dsN ds sl) (fun k => hsN hs (128 * t + k)) (ix3 b u k) = Spec.dxR dy ds h hs sl (ix3 b u (chan t ht k)) := by
  show (∑ v ∈ range 2048, dyVal A3 (dsN ds sl) k.val b.val v * moved (hVal A4 k.val) v u.val) * hsN hs (128 * t + k.val)
    = (∑ v : Fin 2048, Spec.dyR dy ds sl (chan t ht k) b v * Spec.hR h (chan t ht k) u v) * hs (ix1 (chan t ht k))
  have e : hsN hs (128 * t + k.val) = hs (ix1 (chan t ht k)) := dif_pos (by omega)
  rw [e, Finset.sum_range]
  congr 1
  exact Finset.sum_congr rfl fun v _ => by rw [dyVal_eq dy ds sl t ht A3 h3, hVal_eq h t ht A4 h4]

include h2 h3 in
theorem dh_eq (k : Fin 128) (l : Fin 2048) :
    dhG A2 A3 (dsN ds sl) (xsN xs) (ix2 k l) = Spec.dhR x xs dy ds sl (ix2 (chan t ht k) l) := by
  show (∑ b ∈ range 8, ∑ v ∈ range 2048, dyVal A3 (dsN ds sl) k.val b v * moved (xVal A2 (xsN xs) k.val b) v l.val)
    = ∑ b : Fin 8, ∑ v : Fin 2048, Spec.dyR dy ds sl (chan t ht k) b v * Spec.xR x xs (chan t ht k) b l v
  rw [Finset.sum_range]
  refine Finset.sum_congr rfl fun b _ => ?_
  rw [Finset.sum_range]
  exact Finset.sum_congr rfl fun v _ => by rw [dyVal_eq dy ds sl t ht A3 h3, xVal_eq x xs t ht A2 h2]

end Cert.Proof.KernelIdeal
-- ==== Proof.Ideal.Prelude.lean ====
/-
  The scales as the host operations lay them out before the launch.
-/
module

public import proofs.«01_k».proof.Proof.Ideal.Equation
public import proofs.«01_k».proof.Proof.Gen.KernelIdeal.Frame
public import Idealize.ShloMosaic.Lib.StableHlo.ReadAt

@[expose] public section

set_option maxRecDepth 8192

noncomputable section

namespace Cert.Proof.KernelIdeal

open Cert.KernelIdeal Cert.KernelIdeal.Gen
open Idealize.ShloMosaic Idealize.ShloMosaic.TcCoe

/-- A row of scales laid out for the blocks of 32 tokens, each group of eight turned round. -/
theorem layout_rev (x : S8x2048.Idx → EReal) (v : Fin 4) (r : Fin 32) (l : Fin 128) :
    (transpose S4x32x128 [1, 0, 2] (fun i => shapeCast S32x4x128 (transpose S32x16x8x4 [3, 1, 0, 2] (fun i => shapeCast S8x16x4x32 (Host.reverse [4] (fun i => shapeCast S8x16x4x4x8 x shapeCasts_S8x2048_S8x16x4x4x8 i)) shapeCasts_S8x16x4x4x8_S8x16x4x32 i) transposes_S8x16x4x32_S32x16x8x4_3_1_0_2) shapeCasts_S32x16x8x4_S32x4x128 i) transposes_S32x4x128_S4x32x128_1_0_2 (ix3 v r l) : EReal)
      = x (ix2 (⟨l.val / 4 % 8, by omega⟩ : Fin 8) (⟨128 * (4 * v.val + l.val / 32) + 32 * (l.val % 4) + (8 * (r.val / 8) + (7 - r.val % 8)), by omega⟩ : Fin 2048)) := by
  have hv := v.isLt
  have hr := r.isLt
  have hl := l.isLt
  pointwise
  simp only [show ¬ (0 : Fin 5) ∈ [4] by decide, show ¬ (1 : Fin 5) ∈ [4] by decide, show ¬ (2 : Fin 5) ∈ [4] by decide, show ¬ (3 : Fin 5) ∈ [4] by decide, show (4 : Fin 5) ∈ [4] by decide, if_true, if_false]
  refine congrArg (fun p => x (ix2 _ p)) (Fin.ext ?_)
  show (v.val * 4 + l.val / 32) * 128 + l.val % 4 * 32 + r.val / 8 * 8 + (8 - (r.val % 8 + 1)) = _
  show _ = 128 * (4 * v.val + l.val / 32) + 32 * (l.val % 4) + (8 * (r.val / 8) + (7 - r.val % 8))
  omega

/-- Four rows of scales, one for each 32 tokens' shift, laid out for the blocks of 128 tokens. -/
theorem layout_fwd (f : ℕ → ℕ → EReal) (y0 y1 y2 y3 : S8x1x2048.Idx → EReal)
    (h0 : ∀ (b : Fin 8) (z : Fin 1) (p : Fin 2048), y0 (ix3 b z p) = f b.val (0 + p.val)) (h1 : ∀ (b : Fin 8) (z : Fin 1) (p : Fin 2048), y1 (ix3 b z p) = f b.val (32 + p.val))
    (h2 : ∀ (b : Fin 8) (z : Fin 1) (p : Fin 2048), y2 (ix3 b z p) = f b.val (64 + p.val)) (h3 : ∀ (b : Fin 8) (z : Fin 1) (p : Fin 2048), y3 (ix3 b z p) = f b.val (96 + p.val))
    (n : Fin 16) (r : Fin 32) (t : Fin 128) :
    (fun i => shapeCast S16x32x128 (transpose S16x8x4x128 [2, 0, 1, 3] (fun i => shapeCast S8x4x16x128 (concatenate S8x4x2048 1 [⟨S8x1x2048, y0⟩, ⟨S8x1x2048, y1⟩, ⟨S8x1x2048, y2⟩, ⟨S8x1x2048, y3⟩] concatenates_S8x1x2048_S8x1x2048_S8x1x2048_S8x1x2048_S8x4x2048_d1) shapeCasts_S8x4x2048_S8x4x16x128 i) transposes_S8x4x16x128_S16x8x4x128_2_0_1_3) shapeCasts_S16x8x4x128_S16x32x128 i : S16x32x128.Idx → EReal) (ix3 n r t)
      = f (r.val / 4) (128 * n.val + 32 * (r.val % 4) + t.val) := by
  have hn := n.isLt
  have hr := r.isLt
  have ht := t.isLt
  pointwise
  have k : ∀ a a', a = a' → f (r.val / 4) a = f (r.val / 4) a' := fun _ _ e => by rw [e]
  split
  · refine (h0 _ _ _).trans (k _ _ ?_)
    show 0 + (n.val * 128 + t.val) = 128 * n.val + 32 * (r.val % 4) + t.val
    omega
  split
  · refine (h1 _ _ _).trans (k _ _ ?_)
    show 32 + (n.val * 128 + t.val) = 128 * n.val + 32 * (r.val % 4) + t.val
    omega
  split
  · refine (h2 _ _ _).trans (k _ _ ?_)
    show 64 + (n.val * 128 + t.val) = 128 * n.val + 32 * (r.val % 4) + t.val
    omega
  · refine (h3 _ _ _).trans (k _ _ ?_)
    show 96 + (n.val * 128 + t.val) = 128 * n.val + 32 * (r.val % 4) + t.val
    omega

variable (m : (ℓ : Loc nD τ sig) → Buf (Elt Ideal) ℓ) (c : Dev nD)
variable (xs ds : S8x2048.Idx → EReal) (sl : S8.Idx → BitVec 32)

theorem zero_word : (FloatOps.sitofp (F := Ideal) FTy.bf16 (0#32 : BitVec 32) : EReal) = 0 := by
  show (((0#32 : BitVec 32).toInt : ℝ) : EReal) = 0
  simp

/-- The input's scales moved 256 tokens on. -/
theorem pad_at (b : Fin 8) (p : Fin 2048) :
    (extractStridedSlice S8x2048 ![0, 0] (pad S8x2304 ![0, 256] ![0, 0] ![0, 0] (truncf (F := Ideal) (φ := .f32) FTy.bf16 xs bitsLt_bf16_f32) (sitofp (F := Ideal) FTy.bf16 (constantI S_ 32 0#32)) pads_S8x2048_S8x2304_000_25600 h_S_) slices_S8x2304_S8x2048_0_0 (ix2 b p) : EReal)
      = moved (xsN xs b.val) p.val 256 := by
  have hp := p.isLt
  pointwise
  unfold moved xsN
  by_cases hc : 256 ≤ p.val
  · rw [if_pos hc, dif_pos ⟨hc, by omega⟩, dif_pos ⟨b.isLt, by omega⟩]
  · rw [if_neg hc, dif_neg fun h => hc h.1]
    exact zero_word

/-- The gradient's scales, zero past the sequence's end and past the array. -/
theorem mask_at (b : Fin 8) (q : Fin 2176) :
    (pad S8x2176 ![0, 0] ![0, 128] ![0, 0]
          (truncf (F := Ideal) (φ := .f32) FTy.bf16
            (select
              (cmpi CmpIPredicate.slt
                (broadcastInDim S8x2048 ![0, 1] bcast_S1x2048_S8x2048_0_1
                  (broadcastInDim S1x2048 ![1] bcast_S2048_S1x2048_1 (iotaInDim S2048 32 0)))
                (broadcastInDim S8x2048 ![0, 1] bcast_S8x1_S8x2048_0_1 (broadcastInDim S8x1 ![0] bcast_S8_S8x1_0 sl)))
              ds (broadcastInDim S8x2048 ![] bcast_S_S8x2048 (id (constant (F := Ideal) S_ FTy.f32 0#32))))
            bitsLt_bf16_f32)
          (sitofp (F := Ideal) FTy.bf16 (constantI S_ 32 0#32)) pads_S8x2048_S8x2176_000_01280 h_S_ (ix2 b q) : EReal) = dsN ds sl b.val q.val := by
  have hq := q.isLt
  pointwise
  unfold dsN
  by_cases hc : q.val < 2048
  · rw [dif_pos hc, dif_pos ⟨b.isLt, hc⟩]
    show Scalar.select _ _ (Ideal.ofBits .f32 0#32) = _
    rw [Ideal.ofBits_zero]
  · rw [dif_neg hc, dif_neg fun h => hc h.2]
    exact zero_word

theorem row0 (f : ℕ → ℕ → EReal) (y : S8x2176.Idx → EReal) (hy : ∀ (b : Fin 8) (q : Fin 2176), y (ix2 b q) = f b.val q.val) (b : Fin 8) (p : Fin 2048) :
    (broadcastInDim S8x1x2048 ![0, 2] bcast_S8x2048_S8x1x2048_0_2 (extractStridedSlice S8x2048 ![0, 0] y slices_S8x2176_S8x2048_0_0) (ix3 b 0 p) : EReal) = f b.val (0 + p.val) := by
  have hp := p.isLt
  pointwise
  exact hy b ⟨p.val, by omega⟩

theorem row1 (f : ℕ → ℕ → EReal) (y : S8x2176.Idx → EReal) (hy : ∀ (b : Fin 8) (q : Fin 2176), y (ix2 b q) = f b.val q.val) (b : Fin 8) (p : Fin 2048) :
    (broadcastInDim S8x1x2048 ![0, 2] bcast_S8x2048_S8x1x2048_0_2 (extractStridedSlice S8x2048 ![0, 32] y slices_S8x2176_S8x2048_0_32) (ix3 b 0 p) : EReal) = f b.val (32 + p.val) := by
  have hp := p.isLt
  pointwise
  exact hy b ⟨32 + p.val, by omega⟩

theorem row2 (f : ℕ → ℕ → EReal) (y : S8x2176.Idx → EReal) (hy : ∀ (b : Fin 8) (q : Fin 2176), y (ix2 b q) = f b.val q.val) (b : Fin 8) (p : Fin 2048) :
    (broadcastInDim S8x1x2048 ![0, 2] bcast_S8x2048_S8x1x2048_0_2 (extractStridedSlice S8x2048 ![0, 64] y slices_S8x2176_S8x2048_0_64) (ix3 b 0 p) : EReal) = f b.val (64 + p.val) := by
  have hp := p.isLt
  pointwise
  exact hy b ⟨64 + p.val, by omega⟩

theorem row3 (f : ℕ → ℕ → EReal) (y : S8x2176.Idx → EReal) (hy : ∀ (b : Fin 8) (q : Fin 2176), y (ix2 b q) = f b.val q.val) (b : Fin 8) (p : Fin 2048) :
    (broadcastInDim S8x1x2048 ![0, 2] bcast_S8x2048_S8x1x2048_0_2 (extractStridedSlice S8x2048 ![0, 96] y slices_S8x2176_S8x2048_0_96) (ix3 b 0 p) : EReal) = f b.val (96 + p.val) := by
  have hp := p.isLt
  pointwise
  exact hy b ⟨96 + p.val, by omega⟩

/-- The input's scales, as staged. -/
theorem v27_at (hxs : m (c, Proc.tc.devRef main_arg1) = xs) (v : Fin 4) (r : Fin 32) (l : Fin 128) :
    (V m c main_v27 : S4x32x128.Idx → EReal) (ix3 v r l) = xsN xs (l.val / 4 % 8) (128 * (4 * v.val + l.val / 32) + 32 * (l.val % 4) + (8 * (r.val / 8) + (7 - r.val % 8))) := by
  unfold V
  after_reads_simp
  rw [hxs]
  refine (layout_rev xs v r l).trans ?_
  unfold xsN
  rw [dif_pos (show l.val / 4 % 8 < 8 ∧ 128 * (4 * v.val + l.val / 32) + 32 * (l.val % 4) + (8 * (r.val / 8) + (7 - r.val % 8)) < 2048 from ⟨by omega, by omega⟩)]

/-- The input's scales 256 tokens earlier, as staged. -/
theorem v35_at (hxs : m (c, Proc.tc.devRef main_arg1) = xs) (v : Fin 4) (r : Fin 32) (l : Fin 128) :
    (V m c main_v35 : S4x32x128.Idx → EReal) (ix3 v r l) = moved (xsN xs (l.val / 4 % 8)) (128 * (4 * v.val + l.val / 32) + 32 * (l.val % 4) + (8 * (r.val / 8) + (7 - r.val % 8))) 256 := by
  unfold V
  after_reads_simp
  simp -implicitDefEqProofs only [StableHlo.TRef.toBuf, StableHlo.TRef.ofBuf, cast_cast, cast_eq]
  rw [hxs]
  refine (layout_rev _ v r l).trans ?_
  exact pad_at xs (⟨l.val / 4 % 8, by omega⟩ : Fin 8) (⟨128 * (4 * v.val + l.val / 32) + 32 * (l.val % 4) + (8 * (r.val / 8) + (7 - r.val % 8)), by omega⟩ : Fin 2048)

/-- The gradient's scales, as staged. -/
theorem v20_at (hds : m (c, Proc.tc.devRef main_arg3) = ds) (hsl : m (c, Proc.tc.devRef main_arg6) = sl) (n : Fin 16) (r : Fin 32) (t : Fin 128) :
    (V m c main_v20 : S16x32x128.Idx → EReal) (ix3 n r t) = dsN ds sl (r.val / 4) (128 * n.val + 32 * (r.val % 4) + t.val) := by
  unfold V
  after_reads_simp
  refine layout_fwd (dsN ds sl) _ _ _ _ ?_ ?_ ?_ ?_ n r t <;> intro b z p <;> obtain rfl : z = 0 := Subsingleton.elim _ _
  · show (StableHlo.upto [hostOps0, hostOps0_1, hostOps0_2, hostOps0_3, hostOps0_4, hostOps0_5, hostOps0_6].flatten (fun b => m (c, b)) 22 (Proc.tc.devRef main_v13) : S8x1x2048.Idx → EReal) (ix3 b 0 p) = _
    after_reads_simp
    simp -implicitDefEqProofs only [StableHlo.TRef.toBuf, StableHlo.TRef.ofBuf, cast_cast, cast_eq, hds, hsl]
    exact row0 _ _ (mask_at ds sl) b p
  · show (StableHlo.upto [hostOps0, hostOps0_1, hostOps0_2, hostOps0_3, hostOps0_4, hostOps0_5, hostOps0_6].flatten (fun b => m (c, b)) 22 (Proc.tc.devRef main_v14) : S8x1x2048.Idx → EReal) (ix3 b 0 p) = _
    after_reads_simp
    simp -implicitDefEqProofs only [StableHlo.TRef.toBuf, StableHlo.TRef.ofBuf, cast_cast, cast_eq, hds, hsl]
    exact row1 _ _ (mask_at ds sl) b p
  · show (StableHlo.upto [hostOps0, hostOps0_1, hostOps0_2, hostOps0_3, hostOps0_4, hostOps0_5, hostOps0_6].flatten (fun b => m (c, b)) 22 (Proc.tc.devRef main_v15) : S8x1x2048.Idx → EReal) (ix3 b 0 p) = _
    after_reads_simp
    simp -implicitDefEqProofs only [StableHlo.TRef.toBuf, StableHlo.TRef.ofBuf, cast_cast, cast_eq, hds, hsl]
    exact row2 _ _ (mask_at ds sl) b p
  · show (StableHlo.upto [hostOps0, hostOps0_1, hostOps0_2, hostOps0_3, hostOps0_4, hostOps0_5, hostOps0_6].flatten (fun b => m (c, b)) 22 (Proc.tc.devRef main_v16) : S8x1x2048.Idx → EReal) (ix3 b 0 p) = _
    after_reads_simp
    simp -implicitDefEqProofs only [StableHlo.TRef.toBuf, StableHlo.TRef.ofBuf, cast_cast, cast_eq, hds, hsl]
    exact row3 _ _ (mask_at ds sl) b p

end Cert.Proof.KernelIdeal
-- ==== Proof.Ideal.Result.lean ====
/-
  The launch, with what the two results hold: at every grid point the staged blocks are read as entries of the
  arguments, so the two arrays end at the two sums.
-/
module

public import proofs.«01_k».proof.Proof.Ideal.Frame
public import proofs.«01_k».proof.Proof.Ideal.Prelude
public import Idealize.ShloMosaic.Lib.Pipeline.ValueKit

@[expose] public section

set_option maxRecDepth 8192
set_option maxHeartbeats 1000000

noncomputable section

namespace Cert.Proof.KernelResult

open Cert.Proof.KernelIdeal hiding frame
open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- The arguments, as arrays of codes and of extended reals. -/
def ax (c : Dev nD) : S8x2048x768.Idx → BitVec 8 := m ((c : Thread nD τ).loc main_arg0)
def axs (c : Dev nD) : S8x2048.Idx → EReal := m ((c : Thread nD τ).loc main_arg1)
def ady (c : Dev nD) : S8x2048x768.Idx → BitVec 8 := m ((c : Thread nD τ).loc main_arg2)
def ads (c : Dev nD) : S8x2048.Idx → EReal := m ((c : Thread nD τ).loc main_arg3)
def ah (c : Dev nD) : S768x2048.Idx → BitVec 8 := m ((c : Thread nD τ).loc main_arg4)
def ahs (c : Dev nD) : S768.Idx → EReal := m ((c : Thread nD τ).loc main_arg5)
def asl (c : Dev nD) : S8.Idx → BitVec 32 := m ((c : Thread nD τ).loc main_arg6)

/-- The blocks a point leaves in the two results. -/
def dxB (c : Dev nD) (t : Fin cfg0.N) : Vec Ideal S8x2048x128 .bf16 :=
  dxG (iblk m c 2 t) (iblk m c 3 t) (dsN (ads m c) (asl m c)) (fun k => hsN (ahs m c) (128 * t.val + k))
def dhB (c : Dev nD) (t : Fin cfg0.N) : Vec Ideal S128x2048 .f32 :=
  dhG (iblk m c 1 t) (iblk m c 2 t) (dsN (ads m c) (asl m c)) (xsN (axs m c))

theorem coords_val (t : Fin cfg0.N) : (grid0.coords t 0).val = t.val := by
  revert t; decide +kernel

theorem idx_eq : ∀ t : Fin cfg0.N, (cfg0.win 0).index t = ![0] ∧ (cfg0.win 1).index t = ![0, 0, t.val] ∧ (cfg0.win 2).index t = ![0, 0, t.val] ∧ (cfg0.win 3).index t = ![t.val, 0]
    ∧ (cfg0.win 4).index t = ![0, 0, 0] ∧ (cfg0.win 5).index t = ![0, 0, 0] ∧ (cfg0.win 6).index t = ![0, 0, 0] ∧ (cfg0.win 7).index t = ![0, 0, t.val] ∧ (cfg0.win 8).index t = ![t.val, 0] := by
  decide +kernel

theorem lt6 (t : Fin cfg0.N) : t.val < 6 := t.isLt

theorem iblk0_at (c : Dev nD) (t : Fin cfg0.N) (k : Fin 768) : (iblk m c 0 t : S768.Idx → EReal) (ix1 k) = ahs m c (ix1 k) := by
  have e := idx_eq t
  unfold iblk
  rw [View.read_apply, show V m c (Pipeline.arrRef spec0 0) = _ from V_main_arg5 m c]
  blk_ext [e.1]
theorem iblk1_at (c : Dev nD) (t : Fin cfg0.N) (b : Fin 8) (p : Fin 2048) (k : Fin 128) :
    (iblk m c 1 t : S8x2048x128.Idx → BitVec 8) (ix3 b p k) = ax m c (ix3 b p (chan t.val (lt6 t) k)) := by
  have e := idx_eq t
  unfold iblk
  rw [View.read_apply, show V m c (Pipeline.arrRef spec0 1) = _ from V_main_arg0 m c]
  unfold chan
  blk_ext [e.2.1]
theorem iblk2_at (c : Dev nD) (t : Fin cfg0.N) (b : Fin 8) (p : Fin 2048) (k : Fin 128) :
    (iblk m c 2 t : S8x2048x128.Idx → BitVec 8) (ix3 b p k) = ady m c (ix3 b p (chan t.val (lt6 t) k)) := by
  have e := idx_eq t
  unfold iblk
  rw [View.read_apply, show V m c (Pipeline.arrRef spec0 2) = _ from V_main_arg2 m c]
  unfold chan
  blk_ext [e.2.2.1]
theorem iblk3_at (c : Dev nD) (t : Fin cfg0.N) (k : Fin 128) (u : Fin 2048) :
    (iblk m c 3 t : S128x2048.Idx → BitVec 8) (ix2 k u) = ah m c (ix2 (chan t.val (lt6 t) k) u) := by
  have e := idx_eq t
  unfold iblk
  rw [View.read_apply, show V m c (Pipeline.arrRef spec0 3) = _ from V_main_arg4 m c]
  unfold chan
  blk_ext [e.2.2.2.1]
theorem iblk4_at (c : Dev nD) (t : Fin cfg0.N) (n : Fin 16) (r : Fin 32) (l : Fin 128) :
    (iblk m c 4 t : S16x32x128.Idx → EReal) (ix3 n r l) = dsN (ads m c) (asl m c) (r.val / 4) (128 * n.val + 32 * (r.val % 4) + l.val) := by
  have e := idx_eq t
  refine Eq.trans ?_ (v20_at m c (ads m c) (asl m c) rfl rfl n r l)
  unfold iblk
  rw [View.read_apply]
  show V m c main_v20 _ = _
  blk_ext [e.2.2.2.2.1]
theorem iblk5_at (c : Dev nD) (t : Fin cfg0.N) (v : Fin 4) (r : Fin 32) (l : Fin 128) :
    (iblk m c 5 t : S4x32x128.Idx → EReal) (ix3 v r l) = xsN (axs m c) (l.val / 4 % 8) (128 * (4 * v.val + l.val / 32) + 32 * (l.val % 4) + (8 * (r.val / 8) + (7 - r.val % 8))) := by
  have e := idx_eq t
  refine Eq.trans ?_ (v27_at m c (axs m c) rfl v r l)
  unfold iblk
  rw [View.read_apply]
  show V m c main_v27 _ = _
  blk_ext [e.2.2.2.2.2.1]
theorem iblk6_at (c : Dev nD) (t : Fin cfg0.N) (v : Fin 4) (r : Fin 32) (l : Fin 128) :
    (iblk m c 6 t : S4x32x128.Idx → EReal) (ix3 v r l) = moved (xsN (axs m c) (l.val / 4 % 8)) (128 * (4 * v.val + l.val / 32) + 32 * (l.val % 4) + (8 * (r.val / 8) + (7 - r.val % 8))) 256 := by
  have e := idx_eq t
  refine Eq.trans ?_ (v35_at m c (axs m c) rfl v r l)
  unfold iblk
  rw [View.read_apply]
  show V m c main_v35 _ = _
  blk_ext [e.2.2.2.2.2.2.1]

/-- The proof data: each input's buffer at its block, each result's at the sums' block, nothing owed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dxB m c t
    | ⟨8, _⟩ => dhB m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dxB m c t := by dsimp only [dats]
theorem after0_8 (c : Dev nD) (t : Fin cfg0.N) : (dats m 0 c).after 8 t = dhB m c t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d))
    ∗ (∃ d, owns (c : Thread nD τ) (st0_7 t) fullShare ((dats m 0 c).before 7 t d)) ∗ (∃ d, owns (c : Thread nD τ) (st0_8 t) fullShare ((dats m 0 c).before 8 t d)))
/-- What a run over staged contents leaves in the two results. -/
theorem body_val (c : Dev nD) (t : Fin cfg0.N) (𝒱 : Variants) (bd : Option 𝒱.V) (arg1 : Memref sig .tc .smem S768 .f32) (harg1 : arg1.IsWhole) (arg2 : Memref sig .tc .vmem S8x2048x128 .i8) (harg2 : arg2.IsWhole) (arg3 : Memref sig .tc .vmem S8x2048x128 .i8) (harg3 : arg3.IsWhole) (arg4 : Memref sig .tc .vmem S128x2048 .i8) (harg4 : arg4.IsWhole) (arg5 : Memref sig .tc .vmem S16x32x128 .bf16) (harg5 : arg5.IsWhole) (arg6 : Memref sig .tc .vmem S4x32x128 .bf16) (harg6 : arg6.IsWhole) (arg7 : Memref sig .tc .vmem S4x32x128 .bf16) (harg7 : arg7.IsWhole) (arg8 : Memref sig .tc .vmem S8x2048x128 .bf16) (harg8 : arg8.IsWhole) (arg9 : Memref sig .tc .vmem S128x2048 .f32) (harg9 : arg9.IsWhole) (arg10 : Memref sig .tc .vmem S128x128 .i32) (harg10 : arg10.IsWhole) (arg11 : Memref sig .tc .vmem S16512x128 .i32) (harg11 : arg11.IsWhole) (arg12 : Memref sig .tc .vmem S4104x128 .i32) (harg12 : arg12.IsWhole) (arg13 : Memref sig .tc .vmem S4128x128 .i32) (harg13 : arg13.IsWhole) (arg14 : Memref sig .tc .vmem S2176x128 .i32) (harg14 : arg14.IsWhole) (arg15 : Memref sig .tc .vmem S16512x128 .f32) (harg15 : arg15.IsWhole) (arg16 : Memref sig .tc .vmem S2048x128 .f32) (harg16 : arg16.IsWhole) (arg17 : Memref sig .tc .vmem S2176x128 .f32) (harg17 : arg17.IsWhole)
    (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty)
    (e1 : arg1.view.read (Elt Ideal) X1 = iblk m c 0 t) (e2 : arg2.view.read (Elt Ideal) X2 = iblk m c 1 t) (e3 : arg3.view.read (Elt Ideal) X3 = iblk m c 2 t) (e4 : arg4.view.read (Elt Ideal) X4 = iblk m c 3 t) (e5 : arg5.view.read (Elt Ideal) X5 = iblk m c 4 t) (e6 : arg6.view.read (Elt Ideal) X6 = iblk m c 5 t) (e7 : arg7.view.read (Elt Ideal) X7 = iblk m c 6 t) :
    arg8.view.read (Elt Ideal) (kernelRun (F := Ideal) 𝒱 c bd (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 f8 f9 f10 f11 f12 f13 f14 f15 f16 f17).1 = dxB m c t
      ∧ arg9.view.read (Elt Ideal) (kernelRun (F := Ideal) 𝒱 c bd (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 f8 f9 f10 f11 f12 f13 f14 f15 f16 f17).2.1 = dhB m c t := by
  have hk : ∀ k : Fin k0_t4_loop.trips, k.val < 128 := fun k => k.isLt
  have h1 : ∀ k : Fin k0_t4_loop.trips, trip4.sl.r (F := Ideal) (grid0.coords t) arg1 X1 k = (hsN (ahs m c) (128 * t.val + k.val) : Ideal .f32) := by
    intro k
    have h6 := lt6 t
    have h7 := hk k
    refine (scale_eq (grid0.coords t) arg1 X1 k (ix1 (⟨128 * t.val + k.val, by omega⟩ : Fin 768)) ?_).trans ?_
    · rw [coords_val]; rfl
    · rw [e1]
      refine (iblk0_at m c t _).trans ?_
      unfold hsN
      rw [dif_pos (show 128 * t.val + k.val < 768 by omega)]
  have h5 : ∀ (n : Fin 16) (r : Fin 32) (l : Fin 128), arg5.view.read (Elt Ideal) X5 (ix3 n r l) = dsN (ads m c) (asl m c) (r.val / 4) (128 * n.val + 32 * (r.val % 4) + l.val) := by
    intro n r l; rw [e5]; exact iblk4_at m c t n r l
  have hS := fun b p => dsN_out (ads m c) (asl m c) b p
  constructor
  · refine (body8 𝒱 c bd (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 f8 f9 f10 f11 f12 f13 f14 f15 f16 f17 (dsN (ads m c) (asl m c)) (fun k => hsN (ahs m c) (128 * t.val + k)) h1 h5 hS).trans ?_
    rw [e3, e4]; rfl
  · refine (body9 𝒱 c bd (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 f8 f9 f10 f11 f12 f13 f14 f15 f16 f17 (dsN (ads m c) (asl m c)) (xsN (axs m c)) h5 hS ?_ ?_).trans ?_
    · intro v r l; rw [e6]; exact iblk5_at m c t v r l
    · intro v r l; rw [e7]; exact iblk6_at m c t v r l
    · rw [e2, e3]; rfl

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t)
    ∗ owns (c : Thread nD τ) (st0_7 t) fullShare ((dats m 0 c).after 7 t) ∗ owns (c : Thread nD τ) (st0_8 t) fullShare ((dats m 0 c).after 8 t))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8]
  unfold Pipeline.ΦA
  rw [scratch_eq]
  iintro ⟨⟨⟨H10, H11, H12, H13, H14, H15, H16, H17⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel Variants.none c none (grid0.coords t) _ _ _ _ _ _ _ _ _ _ _ _ _ _ _ _ _ _ _ _ _ _ _ _ _ _ _ _ _ _ _ _ _ _  (fun d => d = dxB m c t) (fun d => d = dhB m c t) (iblk m c 0 t) (iblk m c 1 t) (iblk m c 2 t) (iblk m c 3 t) (iblk m c 4 t) (iblk m c 5 t) (iblk m c 6 t) (fun X1 X2 X3 X4 X5 X6 X7 f8 f9 f10 f11 f12 f13 f14 f15 f16 f17 e1 e2 e3 e4 e5 e6 e7 => body_val m c t Variants.none none _ _ _ _ _ _ _ _ _ _ _ _ _ _ _ _ _ _ _ _ _ _ _ _ _ _ _ _ _ _ _ _ _ _ X1 X2 X3 X4 X5 X6 X7 f8 f9 f10 f11 f12 f13 f14 f15 f16 f17 e1 e2 e3 e4 e5 e6 e7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, ⟨%e7, %hq7, H7⟩, ⟨%e8, %hq8, H8⟩, H10, H11, H12, H13, H14, H15, H16, H17⟩
  isplitl [Hg H10 H11 H12 H13 H14 H15 H16 H17]
  · isplitr [Hg]
    · isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · rw [hq7]; iexact H7
  rw [hq8]; iexact H8

theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The input gradient's array. -/
theorem arr7 (c : Dev nD) : (dats m 0 c).arrAt 7 cfg0.N = Spec.dxR (ady m c) (ads m c) (ah m c) (ahs m c) (asl m c) := by
  refine (dats m 0 c).arrAt_eq_of_covers 7 _ (by decide +kernel) fun t hf y => ?_
  have e := idx_eq t
  blk_simp
  rw [after0_7]
  obtain ⟨b, u, k, rfl⟩ : ∃ (b : Fin 8) (u : Fin 2048) (k : Fin 128), y = ix3 b u k := ⟨y 0, y 1, y 2, ValueIdx.eq_ix3 y⟩
  refine (dx_eq (ady m c) (ads m c) (ah m c) (ahs m c) (asl m c) t.val (lt6 t) _ _ (iblk2_at m c t) (iblk3_at m c t) b u k).trans ?_
  unfold chan
  blk_ext [e.2.2.2.2.2.2.2.1]

/-- The filter gradient's array. -/
theorem arr8 (c : Dev nD) : (dats m 0 c).arrAt 8 cfg0.N = Spec.dhR (ax m c) (axs m c) (ady m c) (ads m c) (asl m c) := by
  refine (dats m 0 c).arrAt_eq_of_covers 8 _ (by decide +kernel) fun t hf y => ?_
  have e := idx_eq t
  blk_simp
  rw [after0_8]
  obtain ⟨k, u, rfl⟩ : ∃ (k : Fin 128) (u : Fin 2048), y = ix2 k u := ⟨y 0, y 1, ValueIdx.eq_ix2 y⟩
  refine (dh_eq (ax m c) (ady m c) (axs m c) (ads m c) (asl m c) t.val (lt6 t) _ _ (iblk1_at m c t) (iblk2_at m c t) k u).trans ?_
  unfold chan
  blk_ext [e.2.2.2.2.2.2.2.2]

/-- Every execution ends with the two sums in the results and the arguments unchanged. -/
theorem kernel_run :
    θ_run defs (onTc (τ := τ) (main (F := Ideal))) ⟨m, fun _ => 0, ρ⟩ (fun r => ∀ c : Dev nD,
      r.2.mem ((c.tc : Thread nD τ).loc main_v36_0) = Spec.dxR (ady m c) (ads m c) (ah m c) (ahs m c) (asl m c)
      ∧ r.2.mem ((c.tc : Thread nD τ).loc main_v36_1) = Spec.dhR (ax m c) (axs m c) (ady m c) (ads m c) (asl m c)
      ∧ (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))) := by
  have h1 : θ_run defs (onTc (τ := τ) (main (F := Ideal))) ⟨m, fun _ => 0, ρ⟩ (fun r => ∀ c : Dev nD,
      r.2.mem ((c.tc : Thread nD τ).loc main_v36_0) = Spec.dxR (ady m c) (ads m c) (ah m c) (ahs m c) (asl m c)
      ∧ r.2.mem ((c.tc : Thread nD τ).loc main_v36_1) = Spec.dhR (ax m c) (axs m c) (ady m c) (ads m c) (asl m c)) :=
    (θ_run defs _ _).mono (fun r h c => ⟨((h c).1 7).trans (arr7 m c), ((h c).1 8).trans (arr8 m c)⟩) (run_main m ρ)
  refine (θ_run defs _ _).mono (fun r h c => ?_) (θ_run_and h1 (Cert.Proof.KernelIdeal.frame m ρ))
  exact ⟨(h.1 c).1, (h.1 c).2, h.2.1 c⟩

end Cert.Proof.KernelResult
-- ==== Proof.Ref.Lag2.lean ====
/-
  The filter laid out by lag, at an index.
-/
module

public import proofs.«01_k».proof.Proof.Ref.Spec
public import proofs.«01_k».proof.Proof.Gen.ReferenceIdeal.Frame
public import Idealize.ShloMosaic.Lib.StableHlo.ReadAt
public import Idealize.ShloMosaic.Lib.TwoAxisContraction

@[expose] public section

set_option maxRecDepth 8192

noncomputable section

namespace Cert.Proof.ReferenceIdeal

open Cert.ReferenceIdeal Cert.ReferenceIdeal.Gen
open Idealize.ShloMosaic Idealize.ShloMosaic.TcCoe
open scoped BigOperators

/-- Reading past the padding's start. -/
theorem lagIf (f : Fin 2048 → EReal) (z : EReal) (hz : z = 0) (u v q : ℕ) (hu : u < 2048) (hv : v < 2048) (e : q = 2047 + v - u) :
    (if h : 2047 ≤ q ∧ q - 2047 < 2048 then f ⟨q - 2047, h.2⟩ else z) = if u ≤ v then f ⟨v - u, by omega⟩ else 0 := by
  have c1 : u ≤ v → q - 2047 = v - u := by omega
  have c2 : u ≤ v → 2047 ≤ q ∧ q - 2047 < 2048 := by omega
  have c3 : ¬ u ≤ v → ¬ (2047 ≤ q ∧ q - 2047 < 2048) := by omega
  clear e
  by_cases h : u ≤ v
  · have h1 := c1 h
    generalize hr : q - 2047 = r at *
    subst h1
    rw [dif_pos (c2 h), if_pos h]
  · rw [dif_neg (c3 h), if_neg h]; exact hz

/-- A filter laid out by lag. -/
theorem lag2 (x : S768x2048.Idx → EReal) (z : S_.Idx → EReal) (hz0 : z (Shape.Idx.first h_S_) = 0) (c : Fin 768) (u v : Fin 2048) :
    (extractStridedSlice S768x2048x2048 ![0, 0, 2047] (fun i => shapeCast S768x2048x4095 (extractStridedSlice S768x8386560 ![0, 0] (fun i => shapeCast S768x8388608 (broadcastInDim S768x2048x4096 ![0, 1, 2] bcast_S768x1x4096_S768x2048x4096_0_1_2 (broadcastInDim S768x1x4096 ![0, 2] bcast_S768x4096_S768x1x4096_0_2 (pad S768x4096 ![0, 2047] ![0, 1] ![0, 0] x z pads_S768x2048_S768x4096_000_204710 h_S_))) shapeCasts_S768x2048x4096_S768x8388608 i) slices_S768x8388608_S768x8386560_0_0) shapeCasts_S768x8386560_S768x2048x4095 i) slices_S768x2048x4095_S768x2048x2048_0_0_2047 (ix3 c u v) : EReal)
      = if u.val ≤ v.val then x (ix2 c ⟨v.val - u.val, by omega⟩) else (0 : EReal) := by
  have hu := u.isLt
  have hv := v.isLt
  pointwise
  exact lagIf (fun r => x (ix2 c r)) _ hz0 u.val v.val _ hu hv (by omega)

end Cert.Proof.ReferenceIdeal
-- ==== Proof.Ref.Lag3.lean ====
/-
  The input laid out by lag, at an index.
-/
module

public import proofs.«01_k».proof.Proof.Ref.Spec
public import proofs.«01_k».proof.Proof.Gen.ReferenceIdeal.Frame
public import Idealize.ShloMosaic.Lib.StableHlo.ReadAt
public import proofs.«01_k».proof.Proof.Ref.Lag2
public import Idealize.ShloMosaic.Lib.TwoAxisContraction

@[expose] public section

set_option maxRecDepth 8192

noncomputable section

namespace Cert.Proof.ReferenceIdeal

open Cert.ReferenceIdeal Cert.ReferenceIdeal.Gen
open Idealize.ShloMosaic Idealize.ShloMosaic.TcCoe
open scoped BigOperators

/-- An input laid out by lag. -/
theorem lag3 (x : S768x8x2048.Idx → EReal) (z : S_.Idx → EReal) (hz0 : z (Shape.Idx.first h_S_) = 0) (c : Fin 768) (b : Fin 8) (u v : Fin 2048) :
    (extractStridedSlice S768x8x2048x2048 ![0, 0, 0, 2047] (fun i => shapeCast S768x8x2048x4095 (extractStridedSlice S768x8x8386560 ![0, 0, 0] (fun i => shapeCast S768x8x8388608 (broadcastInDim S768x8x2048x4096 ![0, 1, 2, 3] bcast_S768x8x1x4096_S768x8x2048x4096_0_1_2_3 (broadcastInDim S768x8x1x4096 ![0, 1, 3] bcast_S768x8x4096_S768x8x1x4096_0_1_3 (pad S768x8x4096 ![0, 0, 2047] ![0, 0, 1] ![0, 0, 0] x z pads_S768x8x2048_S768x8x4096_000_000_204710 h_S_))) shapeCasts_S768x8x2048x4096_S768x8x8388608 i) slices_S768x8x8388608_S768x8x8386560_0_0_0) shapeCasts_S768x8x8386560_S768x8x2048x4095 i) slices_S768x8x2048x4095_S768x8x2048x2048_0_0_0_2047 (ix4 c b u v) : EReal)
      = if u.val ≤ v.val then x (ix3 c b ⟨v.val - u.val, by omega⟩) else (0 : EReal) := by
  have hu := u.isLt
  have hv := v.isLt
  pointwise
  exact lagIf (fun r => x (ix3 c b r)) _ hz0 u.val v.val _ hu hv (by omega)

end Cert.Proof.ReferenceIdeal
-- ==== Proof.Ref.DotDx.lean ====
/-
  The reference's first product as a sum.
-/
module

public import proofs.«01_k».proof.Proof.Ref.Spec
public import proofs.«01_k».proof.Proof.Gen.ReferenceIdeal.Frame
public import Idealize.ShloMosaic.Lib.StableHlo.ReadAt
public import Idealize.ShloMosaic.Lib.TwoAxisContraction

@[expose] public section

set_option maxRecDepth 8192

noncomputable section

namespace Cert.Proof.ReferenceIdeal

open Cert.ReferenceIdeal Cert.ReferenceIdeal.Gen
open Idealize.ShloMosaic Idealize.ShloMosaic.TcCoe
open scoped BigOperators

/-- The product over tokens, channel by channel. -/
theorem dotDx (l : Vec Ideal S768x8x2048 .bf16) (r : Vec Ideal S768x2048x2048 .bf16) (c : Fin 768) (b : Fin 8) (u : Fin 2048) :
    (Host.dotGeneral (F := Ideal) (φ₁ := .bf16) (φ₂ := .bf16) dot_S768x8x2048_S768x2048x2048_S768x8x2048_2_2_1_1_0_0 none l r (ix3 c b u) : EReal)
      = ∑ v : Fin 2048, (l (ix3 c b v) * r (ix3 c u v) : EReal) := by
  let D := dot_S768x8x2048_S768x2048x2048_S768x8x2048_2_2_1_1_0_0
  show FloatOps.dotGeneral (F := Ideal) (φ₁ := .bf16) (φ₂ := .bf16) D none _ l r (ix3 c b u) = _
  rw [Ideal.dotGeneral_apply, ← Equiv.sum_comp (ValueIdx.contrEquiv1 D 2048 rfl rfl).symm]
  refine Finset.sum_congr rfl fun v _ => ?_
  have c2 := ValueIdx.contrEquiv1_symm_val D 2048 rfl rfl v
  have el : D.lhsIdx (ix3 c b u) ((ValueIdx.contrEquiv1 D 2048 rfl rfl).symm v) = ix3 c b v := by
    funext a; apply Fin.ext
    match a with
    | ⟨0, _⟩ => rfl
    | ⟨1, _⟩ => rfl
    | ⟨2, _⟩ => exact c2
  have er : D.rhsIdx (ix3 c b u) ((ValueIdx.contrEquiv1 D 2048 rfl rfl).symm v) = ix3 c u v := by
    funext a; apply Fin.ext
    match a with
    | ⟨0, _⟩ => rfl
    | ⟨1, _⟩ => rfl
    | ⟨2, _⟩ => exact c2
  rw [el, er]

end Cert.Proof.ReferenceIdeal
-- ==== Proof.Ref.DotDh.lean ====
/-
  The reference's second product as a sum.
-/
module

public import proofs.«01_k».proof.Proof.Ref.Spec
public import proofs.«01_k».proof.Proof.Gen.ReferenceIdeal.Frame
public import Idealize.ShloMosaic.Lib.StableHlo.ReadAt
public import Idealize.ShloMosaic.Lib.TwoAxisContraction

@[expose] public section

set_option maxRecDepth 8192

noncomputable section

namespace Cert.Proof.ReferenceIdeal

open Cert.ReferenceIdeal Cert.ReferenceIdeal.Gen
open Idealize.ShloMosaic Idealize.ShloMosaic.TcCoe
open scoped BigOperators

/-- The product over batch and tokens, channel by channel. -/
theorem dotDh (l : Vec Ideal S768x8x2048 .bf16) (r : Vec Ideal S768x8x2048x2048 .bf16) (c : Fin 768) (u : Fin 2048) :
    (Host.dotGeneral (F := Ideal) (φ₁ := .bf16) (φ₂ := .bf16) dot_S768x8x2048_S768x8x2048x2048_S768x2048_12_13_n_2_0_0 none l r (ix2 c u) : EReal)
      = ∑ b : Fin 8, ∑ v : Fin 2048, (l (ix3 c b v) * r (ix4 c b u v) : EReal) := by
  let D := dot_S768x8x2048_S768x8x2048x2048_S768x2048_12_13_n_2_0_0
  show FloatOps.dotGeneral (F := Ideal) (φ₁ := .bf16) (φ₂ := .bf16) D none _ l r (ix2 c u) = _
  have hr : D.contr.rank = 2 := rfl
  have c0 : D.contr.size ⟨0, by rw [hr]; omega⟩ = 8 := rfl
  have c1 : D.contr.size ⟨1, by rw [hr]; omega⟩ = 2048 := rfl
  rw [Ideal.dotGeneral_apply, ValueIdx.sum_contr2 D 8 2048 hr c0 c1]
  refine Finset.sum_congr rfl fun b _ => Finset.sum_congr rfl fun v _ => ?_
  have h0 := ValueIdx.contrEquiv2_symm_val0 D 8 2048 hr c0 c1 (b, v)
  have h1 := ValueIdx.contrEquiv2_symm_val1 D 8 2048 hr c0 c1 (b, v)
  have el : D.lhsIdx (ix2 c u) ((ValueIdx.contrEquiv2 D 8 2048 hr c0 c1).symm (b, v)) = ix3 c b v := by
    funext a; apply Fin.ext
    match a with
    | ⟨0, _⟩ => rfl
    | ⟨1, _⟩ => exact h0
    | ⟨2, _⟩ => exact h1
  have er : D.rhsIdx (ix2 c u) ((ValueIdx.contrEquiv2 D 8 2048 hr c0 c1).symm (b, v)) = ix4 c b u v := by
    funext a; apply Fin.ext
    match a with
    | ⟨0, _⟩ => rfl
    | ⟨1, _⟩ => exact h0
    | ⟨2, _⟩ => rfl
    | ⟨3, _⟩ => exact h1
  rw [el, er]

end Cert.Proof.ReferenceIdeal
-- ==== Proof.Ref.Host.lean ====
/-
  The reference's host lines after its decoding, read at an index: both results as sums over tokens.
-/
module

public import proofs.«01_k».proof.Proof.Ref.Spec
public import proofs.«01_k».proof.Proof.Gen.ReferenceIdeal.Frame
public import Idealize.ShloMosaic.Lib.StableHlo.ReadAt
public import proofs.«01_k».proof.Proof.Ref.Lag3
public import proofs.«01_k».proof.Proof.Ref.DotDx
public import proofs.«01_k».proof.Proof.Ref.DotDh
public import Idealize.ShloMosaic.Lib.TwoAxisContraction

@[expose] public section

set_option maxRecDepth 8192

noncomputable section

namespace Cert.Proof.ReferenceIdeal

open Cert.ReferenceIdeal Cert.ReferenceIdeal.Gen
open Idealize.ShloMosaic Idealize.ShloMosaic.TcCoe
open scoped BigOperators

variable (W : Valuation τ sig (Elt Ideal))

abbrev allOps : List (HloOp τ sig (Elt Ideal)) := List.flatten [hostOps1, hostOps1_1, hostOps1_2, hostOps1_3, hostOps1_4, hostOps1_5, hostOps1_6]

/-- The dequantised and masked output gradient. -/
def dyM (Y : S8x2048x768.Idx → EReal) (ds : S8x2048.Idx → EReal) (sl : S8.Idx → BitVec 32) (b : Fin 8) (p : Fin 2048) (c : Fin 768) : EReal :=
  Scalar.select (IntOp.cmpi .slt (BitVec.ofNat 32 p.val) (sl (ix1 b))) (Y (ix3 b p c) * ds (ix2 b p)) 0

variable (X Y : S8x2048x768.Idx → EReal) (H : S768x2048.Idx → EReal) (xs ds : S8x2048.Idx → EReal) (hs : S768.Idx → EReal) (sl : S8.Idx → BitVec 32)

/-- The number before the padding's start: zero. -/
theorem pad_zero : (sitofp (F := Ideal) .bf16 (constantI S_ 32 0#32) (Shape.Idx.first h_S_) : EReal) = 0 := by
  show (((0#32 : BitVec 32).toInt : ℝ) : EReal) = 0
  simp

theorem v31_at (hY : W (Proc.tc.devRef main_v0_1) = Y) (hd : W (Proc.tc.devRef main_arg3) = ds) (hsl : W (Proc.tc.devRef main_arg6) = sl)
    (hH : W (Proc.tc.devRef main_v0_2) = H) (hhs : W (Proc.tc.devRef main_arg5) = hs) (b : Fin 8) (u : Fin 2048) (c : Fin 768) :
    (StableHlo.after allOps W (Proc.devRef .tc main_v31) (ix3 b u c) : EReal)
      = (∑ v : Fin 2048, (dyM Y ds sl b v c * (if u.val ≤ v.val then H (ix2 c (⟨v.val - u.val, by omega⟩ : Fin 2048)) else 0 : EReal))) * hs (ix1 c) := by
  after_reads_simp
  simp -implicitDefEqProofs only [StableHlo.TRef.toBuf, StableHlo.TRef.ofBuf, cast_cast, cast_eq, hY, hd, hsl, hH, hhs]
  generalize hy : transpose S768x8x2048 [2, 0, 1] (_ : Vec Ideal S8x2048x768 .bf16) _ = y
  have hy' : ∀ p, (y (ix3 c b p) : EReal) = dyM Y ds sl b p c := by
    intro p
    rw [← hy]
    pointwise
    rfl
  clear hy
  generalize hl : extractStridedSlice S768x2048x2048 ![0, 0, 2047] (_ : Vec Ideal S768x2048x4095 .bf16) _ = l
  have hl' : ∀ v, (l (ix3 c u v) : EReal) = if u.val ≤ v.val then H (ix2 c (⟨v.val - u.val, by omega⟩ : Fin 2048)) else 0 := by
    intro v
    rw [← hl]
    exact lag2 H _ pad_zero c u v
  clear hl
  generalize hp : (Host.dotGeneral (F := Ideal) (φ₁ := .bf16) (φ₂ := .bf16) dot_S768x8x2048_S768x2048x2048_S768x8x2048_2_2_1_1_0_0 none y l) = d
  have hp' : (d (ix3 c b u) : EReal) = ∑ v : Fin 2048, (dyM Y ds sl b v c * (if u.val ≤ v.val then H (ix2 c (⟨v.val - u.val, by omega⟩ : Fin 2048)) else 0 : EReal)) := by
    rw [← hp, dotDx]
    exact Finset.sum_congr rfl fun v _ => by rw [hy', hl']
  rw [← hp']
  clear hp' hp hy' hl'
  pointwise

theorem v39_at (hY : W (Proc.tc.devRef main_v0_1) = Y) (hd : W (Proc.tc.devRef main_arg3) = ds) (hsl : W (Proc.tc.devRef main_arg6) = sl)
    (hX : W (Proc.tc.devRef main_v0_0) = X) (hxs : W (Proc.tc.devRef main_arg1) = xs) (c : Fin 768) (u : Fin 2048) :
    (StableHlo.after allOps W (Proc.devRef .tc main_v39) (ix2 c u) : EReal)
      = ∑ b : Fin 8, ∑ v : Fin 2048, (dyM Y ds sl b v c * (if u.val ≤ v.val then X (ix3 b (⟨v.val - u.val, by omega⟩ : Fin 2048) c) * xs (ix2 b (⟨v.val - u.val, by omega⟩ : Fin 2048)) else 0 : EReal)) := by
  after_reads_simp
  simp -implicitDefEqProofs only [StableHlo.TRef.toBuf, StableHlo.TRef.ofBuf, cast_cast, cast_eq, hY, hd, hsl, hX, hxs]
  generalize hx : transpose S768x8x2048 [2, 0, 1] (mulf (F := Ideal) (φ := .bf16) X _) _ = x
  have hx' : ∀ b p, (x (ix3 c b p) : EReal) = X (ix3 b p c) * xs (ix2 b p) := by
    intro b p
    rw [← hx]
    pointwise
  clear hx
  generalize hy : transpose S768x8x2048 [2, 0, 1] (_ : Vec Ideal S8x2048x768 .bf16) _ = y
  have hy' : ∀ b p, (y (ix3 c b p) : EReal) = dyM Y ds sl b p c := by
    intro b p
    rw [← hy]
    pointwise
    rfl
  clear hy
  generalize hl : extractStridedSlice S768x8x2048x2048 ![0, 0, 0, 2047] (_ : Vec Ideal S768x8x2048x4095 .bf16) _ = l
  have hl' : ∀ b v, (l (ix4 c b u v) : EReal) = if u.val ≤ v.val then X (ix3 b (⟨v.val - u.val, by omega⟩ : Fin 2048) c) * xs (ix2 b (⟨v.val - u.val, by omega⟩ : Fin 2048)) else 0 := by
    intro b v
    rw [← hl]
    refine (lag3 x _ pad_zero c b u v).trans ?_
    simp only [hx']
  refine (dotDh y l c u).trans ?_
  exact Finset.sum_congr rfl fun b _ => Finset.sum_congr rfl fun v _ => by rw [hy', hl']

end Cert.Proof.ReferenceIdeal
-- ==== Proof.Ref.Value.lean ====
/-
  The reference's two results: the sums of Spec.lean over the arguments.
-/
module

public import proofs.«01_k».proof.Proof.Ref.Host
public import Idealize.ShloMosaic.Lib.Pipeline.ValueKit
public import Idealize.ShloMosaic.Lib.Claim

@[expose] public section

set_option maxRecDepth 16384

noncomputable section

namespace Cert.Proof.ReferenceIdeal

open Cert.ReferenceIdeal Cert.ReferenceIdeal.Gen
open Idealize.ShloMosaic Idealize.ShloMosaic.TcCoe
open scoped BigOperators

variable (m : (ℓ : Loc nD τ sig) → Buf (Elt Ideal) ℓ) (c : Dev nD)

theorem arr3 : (dats m 0 c).arrAt 3 cfg0.N = fun j => Ideal.ofBits .fp8e4m3 (m ((c : Thread nD τ).loc main_arg0) j) := by
  refine (dats m 0 c).arrAt_eq_of_covers 3 _ (by decide +kernel) fun t hf y => ?_
  blk_simp
  rw [after0_3]
  frame_out
  rfl

theorem arr4 : (dats m 0 c).arrAt 4 cfg0.N = fun j => Ideal.ofBits .fp8e5m2 (m ((c : Thread nD τ).loc main_arg2) j) := by
  refine (dats m 0 c).arrAt_eq_of_covers 4 _ (by decide +kernel) fun t hf y => ?_
  blk_simp
  rw [after0_4]
  frame_out
  rfl

theorem arr5 : (dats m 0 c).arrAt 5 cfg0.N = fun j => Ideal.ofBits .fp8e4m3 (m ((c : Thread nD τ).loc main_arg4) j) := by
  refine (dats m 0 c).arrAt_eq_of_covers 5 _ (by decide +kernel) fun t hf y => ?_
  blk_simp
  rw [after0_5]
  frame_out
  rfl

/-- The arrays the reference's later lines start from. -/
abbrev W1 : Valuation τ sig (Elt Ideal) := Pipeline.withArrays spec0 c (V0 m c) (fun w => (dats m 0 c).arrAt w cfg0.N)

theorem hinj : Function.Injective (Pipeline.arrRef spec0) := by decide

theorem W1_v0_0 : W1 m c (Proc.tc.devRef main_v0_0) = fun j => Ideal.ofBits .fp8e4m3 (m ((c : Thread nD τ).loc main_arg0) j) :=
  (Pipeline.withArrays_arr spec0 hinj c (V0 m c) (fun w => (dats m 0 c).arrAt w cfg0.N) 3).trans (arr3 m c)
theorem W1_v0_1 : W1 m c (Proc.tc.devRef main_v0_1) = fun j => Ideal.ofBits .fp8e5m2 (m ((c : Thread nD τ).loc main_arg2) j) :=
  (Pipeline.withArrays_arr spec0 hinj c (V0 m c) (fun w => (dats m 0 c).arrAt w cfg0.N) 4).trans (arr4 m c)
theorem W1_v0_2 : W1 m c (Proc.tc.devRef main_v0_2) = fun j => Ideal.ofBits .fp8e4m3 (m ((c : Thread nD τ).loc main_arg4) j) :=
  (Pipeline.withArrays_arr spec0 hinj c (V0 m c) (fun w => (dats m 0 c).arrAt w cfg0.N) 5).trans (arr5 m c)
theorem W1_arg1 : W1 m c (Proc.tc.devRef main_arg1) = m ((c : Thread nD τ).loc main_arg1) :=
  (Pipeline.withArrays_of_ne spec0 c (V0 m c) (fun w => (dats m 0 c).arrAt w cfg0.N) main_arg1 (by exact (by decide : ∀ w, Pipeline.arrRef spec0 w ≠ main_arg1))).trans (V_main_arg1 m c)
theorem W1_arg3 : W1 m c (Proc.tc.devRef main_arg3) = m ((c : Thread nD τ).loc main_arg3) :=
  (Pipeline.withArrays_of_ne spec0 c (V0 m c) (fun w => (dats m 0 c).arrAt w cfg0.N) main_arg3 (by exact (by decide : ∀ w, Pipeline.arrRef spec0 w ≠ main_arg3))).trans (V_main_arg3 m c)
theorem W1_arg5 : W1 m c (Proc.tc.devRef main_arg5) = m ((c : Thread nD τ).loc main_arg5) :=
  (Pipeline.withArrays_of_ne spec0 c (V0 m c) (fun w => (dats m 0 c).arrAt w cfg0.N) main_arg5 (by exact (by decide : ∀ w, Pipeline.arrRef spec0 w ≠ main_arg5))).trans (V_main_arg5 m c)
theorem W1_arg6 : W1 m c (Proc.tc.devRef main_arg6) = m ((c : Thread nD τ).loc main_arg6) :=
  (Pipeline.withArrays_of_ne spec0 c (V0 m c) (fun w => (dats m 0 c).arrAt w cfg0.N) main_arg6 (by exact (by decide : ∀ w, Pipeline.arrRef spec0 w ≠ main_arg6))).trans (V_main_arg6 m c)

theorem v31_eq : Pipeline.afterTail₀ cfgs (dats m) 0 (V0 m) [hostOps1, hostOps1_1, hostOps1_2, hostOps1_3, hostOps1_4, hostOps1_5, hostOps1_6] c main_v31
    = Spec.dxR (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  funext j
  obtain ⟨b, u, k, rfl⟩ : ∃ b u k, j = ix3 b u k := ⟨j 0, j 1, j 2, ValueIdx.eq_ix3 j⟩
  exact v31_at (W1 m c) _ _ _ _ _ (W1_v0_1 m c) (W1_arg3 m c) (W1_arg6 m c) (W1_v0_2 m c) (W1_arg5 m c) b u k

theorem v39_eq : Pipeline.afterTail₀ cfgs (dats m) 0 (V0 m) [hostOps1, hostOps1_1, hostOps1_2, hostOps1_3, hostOps1_4, hostOps1_5, hostOps1_6] c main_v39
    = Spec.dhR (m ((c : Thread nD τ).loc main_arg0)) (m ((c : Thread nD τ).loc main_arg1)) (m ((c : Thread nD τ).loc main_arg2)) (m ((c : Thread nD τ).loc main_arg3)) (m ((c : Thread nD τ).loc main_arg6)) := by
  unfold Pipeline.afterTail₀
  funext j
  obtain ⟨k, u, rfl⟩ : ∃ k u, j = ix2 k u := ⟨j 0, j 1, ValueIdx.eq_ix2 j⟩
  exact v39_at (W1 m c) _ _ _ _ _ (W1_v0_1 m c) (W1_arg3 m c) (W1_arg6 m c) (W1_v0_0 m c) (W1_arg1 m c) k u

/-- Every execution of the reference ends with the two sums in its results and its arguments unchanged. -/
theorem ref_run (ρ : Dev nD → PrngReg) :
    θ_run defs (onTc (τ := τ) (main (F := Ideal))) ⟨m, fun _ => 0, ρ⟩ (fun r => ∀ c : Dev nD,
      r.2.mem ((c.tc : Thread nD τ).loc main_v31) = Spec.dxR (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v39) = Spec.dhR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have h1 : θ_run defs (onTc (τ := τ) (main (F := Ideal))) ⟨m, fun _ => 0, ρ⟩ (fun r => ∀ c : Dev nD,
      r.2.mem ((c.tc : Thread nD τ).loc main_v31) = Spec.dxR (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v39) = Spec.dhR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))) := by
    run_from Gen.run_main m ρ
    · exact v31_eq m c
    · exact v39_eq m c
  refine (θ_run defs _ _).mono (fun r h c => ?_) (θ_run_and h1 (Gen.unchanged m ρ))
  exact ⟨(h.1 c).1, (h.1 c).2, h.2 c⟩

end Cert.Proof.ReferenceIdeal
-- ==== Proof.lean ====
/-
  The claims put together.
-/
module

public import proofs.«01_k».proof.Defs
public import proofs.«01_k».proof.Proof.Bits.Frame
public import proofs.«01_k».proof.Proof.Ideal.Frame
public import proofs.«01_k».proof.Proof.Ideal.Result
public import proofs.«01_k».proof.Proof.Ref.Value
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.ShloMosaic.TcCoe

theorem frame_kernel : Cert.quiescent_Kernel :=
  fun m g _ => Cert.Proof.Kernel.frame m g

theorem frame_ideal : Cert.quiescent_KernelIdeal :=
  fun m g _ => Cert.Proof.KernelIdeal.frame m g

/-- Kernel and reference end with the same two arrays: the sums of Spec.lean. -/
theorem algebraic : Cert.algebraic_KernelIdeal_ReferenceIdeal := by
  intro m g m' g' _ hm
  refine ⟨fun c => Spec.dxR (KernelResult.ady m c) (KernelResult.ads m c) (KernelResult.ah m c) (KernelResult.ahs m c) (KernelResult.asl m c),
    fun c => Spec.dhR (KernelResult.ax m c) (KernelResult.axs m c) (KernelResult.ady m c) (KernelResult.ads m c) (KernelResult.asl m c),
    KernelResult.kernel_run m g, ?_⟩
  refine (θ_run Cert.ReferenceIdeal.defs _ _).mono (fun r h c => ?_) (ReferenceIdeal.ref_run m' g')
  obtain ⟨e0, e1, e2, e3, e4, e5, e6⟩ := hm c
  obtain ⟨hx, hh, hargs⟩ := h c
  refine ⟨hx.trans ?_, hh.trans ?_, hargs⟩
  · rw [e2, e3, e4, e5, e6]; rfl
  · rw [e0, e1, e2, e3, e6]; rfl

theorem claim : Cert.Claim :=
  ⟨Cert.Kernel.Gen.facts, Cert.KernelIdeal.Gen.facts, Cert.ReferenceIdeal.Gen.facts,
    frame_kernel, frame_ideal, fun m ρ _ => Cert.ReferenceIdeal.Gen.frame m ρ, trivial, algebraic⟩

end Cert.Proof

end
